-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 1024, 1024]⟩ ⟨3, ![32, 1024, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2048x1024 : Shape := ⟨2, ![2048, 1024]⟩
abbrev S1024x32 : Shape := ⟨2, ![1024, 32]⟩
abbrev S2048x2 : Shape := ⟨2, ![2048, 2]⟩
abbrev S8x1024x1024 : Shape := ⟨3, ![8, 1024, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x32 : S_.BroadcastsInDim S1024x32 (![] : Fin 0 → Fin S1024x32.rank)
  reducesTo_S1024x32_S_d0_1 : S1024x32.ReducesTo [0, 1] S_

variable [Facts]

def fn {F : FTy → Type} [FloatOps F] (main_arg0 : FVec F S2048x1024 .f32) (main_arg1 : FVec F S1024x32 .f32) (main_arg2 : IVec S2048x2 32) (main_arg3 : FVec F S8x1024x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x32 .f32 := Host.absf main_arg1
  let main_cst_0 : FVec F S_ .f32 := constant S_ .f32 0x7F800000#32
  let main_v5 : FVec F S1024x32 .f32 := broadcastInDim S1024x32 ![] bcast_S_S1024x32 main_cst_0
  let main_v6 : IVec S1024x32 1 := cmpf .olt main_v4 main_v5
  let main_c_1 : IVec S_ 1 := constantI S_ 1 1#1
  let main_v7 : IVec S_ 1 := (fun x v => Host.reduce IntOp.andi x v reducesTo_S1024x32_S_d0_1 h_S_) main_v6 main_c_1
  let main_v8 : IVec S_ 1 := andi main_v3 main_v7
  main_v8
-- ==== Pre_finite_scores_ReferenceIdeal.lean ====
abbrev S2048x1024 : Shape := ⟨2, ![2048, 1024]⟩
abbrev S1024x32 : Shape := ⟨2, ![1024, 32]⟩
abbrev S2048x2 : Shape := ⟨2, ![2048, 2]⟩
abbrev S32x1024x1024 : Shape := ⟨3, ![32, 1024, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x32 : S_.BroadcastsInDim S1024x32 (![] : Fin 0 → Fin S1024x32.rank)
  reducesTo_S1024x32_S_d0_1 : S1024x32.ReducesTo [0, 1] S_

variable [Facts]

def fn {F : FTy → Type} [FloatOps F] (main_arg0 : FVec F S2048x1024 .f32) (main_arg1 : FVec F S1024x32 .f32) (main_arg2 : IVec S2048x2 32) (main_arg3 : FVec F S32x1024x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x32 .f32 := Host.absf main_arg1
  let main_cst_0 : FVec F S_ .f32 := constant S_ .f32 0x7F800000#32
  let main_v5 : FVec F S1024x32 .f32 := broadcastInDim S1024x32 ![] bcast_S_S1024x32 main_cst_0
  let main_v6 : IVec S1024x32 1 := cmpf .olt main_v4 main_v5
  let main_c_1 : IVec S_ 1 := constantI S_ 1 1#1
  let main_v7 : IVec S_ 1 := (fun x v => Host.reduce IntOp.andi x v reducesTo_S1024x32_S_d0_1 h_S_) main_v6 main_c_1
  let main_v8 : IVec S_ 1 := andi main_v3 main_v7
  main_v8
-- ==== Kernel.lean ====
abbrev S2048x1024 : Shape := ⟨2, ![2048, 1024]⟩
abbrev S1024x32 : Shape := ⟨2, ![1024, 32]⟩
abbrev S2048x2 : Shape := ⟨2, ![2048, 2]⟩
abbrev S8x1024x1024 : Shape := ⟨3, ![8, 1024, 1024]⟩
abbrev S512x1024 : Shape := ⟨2, ![512, 1024]⟩
abbrev S512x2 : Shape := ⟨2, ![512, 2]⟩
abbrev S512x1 : Shape := ⟨2, ![512, 1]⟩
abbrev S2x1024x1024 : Shape := ⟨3, ![2, 1024, 1024]⟩
abbrev S2 : Shape := ⟨1, ![2]⟩
abbrev S4x3x128x1024 : Shape := ⟨4, ![4, 3, 128, 1024]⟩
abbrev S4x128x1024 : Shape := ⟨3, ![4, 128, 1024]⟩
abbrev S4x3 : Shape := ⟨2, ![4, 3]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩
abbrev S512x32 : Shape := ⟨2, ![512, 32]⟩
abbrev S512 : Shape := ⟨1, ![512]⟩
abbrev S128x1024 : Shape := ⟨2, ![128, 1024]⟩
abbrev S1x1x128x1024 : Shape := ⟨4, ![1, 1, 128, 1024]⟩
abbrev S1x1 : Shape := ⟨2, ![1, 1]⟩
abbrev S1x128x1024 : Shape := ⟨3, ![1, 128, 1024]⟩

abbrev nBuf : Space → Nat
  | .hbm => 5
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S1024x32, .f32⟩
  | .hbm, ⟨2, _⟩ => ⟨S2048x2, .i32⟩
  | .hbm, ⟨3, _⟩ => ⟨S8x1024x1024, .f32⟩
  | .hbm, ⟨4, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1024x32, .f32⟩
  | .local _ .vmem, ⟨3, _⟩ => ⟨S512x2, .i32⟩
  | .local _ .vmem, ⟨4, _⟩ => ⟨S512x2, .i32⟩
  | .local _ .vmem, ⟨5, _⟩ => ⟨S2048x1024, .f32⟩
  | .local _ .vmem, ⟨6, _⟩ => ⟨S512x1024, .bf16⟩
  | .local _ .vmem, ⟨7, _⟩ => ⟨S512x1, .f32⟩
  | .local _ .vmem, ⟨8, _⟩ => ⟨S512x1, .f32⟩
  | .local _ .vmem, ⟨9, _⟩ => ⟨S2048x1024, .f32⟩
  | .local _ .vmem, ⟨10, _⟩ => ⟨S2x1024x1024, .f32⟩
  | .local _ .vmem, ⟨11, _⟩ => ⟨S8x1024x1024, .bf16⟩
  | .local _ .vmem, ⟨12, _⟩ => ⟨S4x3x128x1024, .bf16⟩
  | .local _ .vmem, ⟨13, _⟩ => ⟨S4x3x128x1024, .bf16⟩
  | .local _ .vmem, ⟨14, _⟩ => ⟨S4x128x1024, .bf16⟩
  | .local _ .vmem, ⟨15, _⟩ => ⟨S4x3x128x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch7 : Ref sig .tc := ⟨.vmem, 12, rfl⟩
abbrev cc0_scratch8 : Ref sig .tc := ⟨.vmem, 13, rfl⟩
abbrev cc0_scratch9 : Ref sig .tc := ⟨.vmem, 14, rfl⟩
abbrev cc0_scratch10 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev barrier0 : Sem sig := 0

abbrev nD : Nat := 4
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_off1 (i : grid0.Coords) : Fin 1 → Nat :=
  let arg1 : BitVec 32 := BitVec.ofNat 32 (i 1).val
  let c2_i32 : BitVec 32 := 2#32
  let v64 : BitVec 32 := Scalar.remsi arg1 c2_i32
  ![v64.toNat]
def k0_off2 (i : grid0.Coords) : Fin 3 → Nat :=
  let arg1 : BitVec 32 := BitVec.ofNat 32 (i 1).val
  let c2_i32 : BitVec 32 := 2#32
  let v64 : BitVec 32 := Scalar.remsi arg1 c2_i32
  let c0_i32_31 : BitVec 32 := 0#32
  let c0_i32_32 : BitVec 32 := 0#32
  ![v64.toNat, 0, 0]
def k0_off3 (i : grid0.Coords) : Fin 3 → Nat :=
  let arg1 : BitVec 32 := BitVec.ofNat 32 (i 1).val
  let c0_i32_33 : BitVec 32 := 0#32
  let c0_i32_34 : BitVec 32 := 0#32
  ![arg1.toNat, 0, 0]
def k0_off4 (i : grid0.Coords) : Fin 3 → Nat :=
  let arg1 : BitVec 32 := BitVec.ofNat 32 (i 1).val
  let c2_i32 : BitVec 32 := 2#32
  let v64 : BitVec 32 := Scalar.remsi arg1 c2_i32
  let v74 : Index := Scalar.indexCast v64
  let c0_35 : Index := 0#32
  let c0_36 : Index := 0#32
  ![v74.toNat, 0, 0]
def k0_off5 (i : grid0.Coords) : Fin 3 → Nat :=
  let arg1 : BitVec 32 := BitVec.ofNat 32 (i 1).val
  let v78 : Index := Scalar.indexCast arg1
  let c0_37 : Index := 0#32
  let c0_38 : Index := 0#32
  ![v78.toNat, 0, 0]
def k0_cond3 (i : grid0.Coords) : BitVec 1 :=
  let arg1 : BitVec 32 := BitVec.ofNat 32 (i 1).val
  let c7_i32_39 : BitVec 32 := 7#32
  let v82 : BitVec 1 := Scalar.cmpi .slt arg1 c7_i32_39
  let v83 : BitVec 32 := Scalar.extui v82
  let c0_i32_40 : BitVec 32 := 0#32
  let v84 : BitVec 1 := Scalar.cmpi .ne v83 c0_i32_40
  v84

def k0_off6 (i : grid0.Coords) : Fin 1 → Nat :=
  let c1_i32_43 : BitVec 32 := 1#32
  let arg1 : BitVec 32 := BitVec.ofNat 32 (i 1).val
  let c2_i32 : BitVec 32 := 2#32
  let v64 : BitVec 32 := Scalar.remsi arg1 c2_i32
  let v87 : BitVec 32 := Scalar.subi c1_i32_43 v64
  ![v87.toNat]
def k0_off7 (i : grid0.Coords) : Fin 3 → Nat :=
  let c1_i32_42 : BitVec 32 := 1#32
  let arg1 : BitVec 32 := BitVec.ofNat 32 (i 1).val
  let c2_i32 : BitVec 32 := 2#32
  let v64 : BitVec 32 := Scalar.remsi arg1 c2_i32
  let v86 : BitVec 32 := Scalar.subi c1_i32_42 v64
  let c0_i32_44 : BitVec 32 := 0#32
  let c0_i32_45 : BitVec 32 := 0#32
  ![v86.toNat, 0, 0]
def k0_off8 (i : grid0.Coords) : Fin 3 → Nat :=
  let arg1 : BitVec 32 := BitVec.ofNat 32 (i 1).val
  let c1_i32_41 : BitVec 32 := 1#32
  let v85 : BitVec 32 := Scalar.addi arg1 c1_i32_41
  let c0_i32_46 : BitVec 32 := 0#32
  let c0_i32_47 : BitVec 32 := 0#32
  ![v85.toNat, 0, 0]
def k0_cond4 (i : grid0.Coords) : BitVec 1 :=
  let arg1 : BitVec 32 := BitVec.ofNat 32 (i 1).val
  let c0_i32_1 : BitVec 32 := 0#32
  let v6 : BitVec 1 := Scalar.cmpi .eq arg1 c0_i32_1
  let v7 : BitVec 32 := Scalar.extui v6
  let c0_i32_2 : BitVec 32 := 0#32
  let v8 : BitVec 1 := Scalar.cmpi .ne v7 c0_i32_2
  v8

def k0_off9 (i : grid0.Coords) : Fin 2 → Nat :=
  let arg0 : BitVec 32 := BitVec.ofNat 32 (i 0).val
  let c512_i32_50 : BitVec 32 := 512#32
  let v105 : BitVec 32 := Scalar.muli arg0 c512_i32_50
  let v106 : Index := Scalar.indexCast v105
  let c0_51 : Index := 0#32
  ![v106.toNat, 0]
def k0_off10 (i : grid0.Coords) : Fin 3 → Nat :=
  let arg1 : BitVec 32 := BitVec.ofNat 32 (i 1).val
  let v26 : Index := Scalar.indexCast arg1
  let c0_10 : Index := 0#32
  let c0_11 : Index := 0#32
  ![v26.toNat, 0, 0]
def k0_off11 (i : grid0.Coords) : Fin 2 → Nat :=
  let arg0 : BitVec 32 := BitVec.ofNat 32 (i 0).val
  let c512_i32 : BitVec 32 := 512#32
  let v31 : BitVec 32 := Scalar.muli arg0 c512_i32
  let v32 : Index := Scalar.indexCast v31
  let c0_15 : Index := 0#32
  ![v32.toNat, 0]
def k0_cond5 (i : grid0.Coords) : BitVec 1 :=
  let arg0 : BitVec 32 := BitVec.ofNat 32 (i 0).val
  let c0_i32_17 : BitVec 32 := 0#32
  let v41 : BitVec 1 := Scalar.cmpi .eq arg0 c0_i32_17
  let arg1 : BitVec 32 := BitVec.ofNat 32 (i 1).val
  let c7_i32 : BitVec 32 := 7#32
  let v42 : BitVec 1 := Scalar.cmpi .eq arg1 c7_i32
  let v43 : BitVec 1 := Scalar.andi v41 v42
  let v44 : BitVec 32 := Scalar.extui v43
  let c0_i32_18 : BitVec 32 := 0#32
  let v45 : BitVec 1 := Scalar.cmpi .ne v44 c0_i32_18
  v45

def k0_dev1 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_29 : BitVec 32 := 1#32
  let v65 : BitVec 32 := Scalar.addi v2 c1_i32_29
  let c4_i32_30 : BitVec 32 := 4#32
  let v66 : BitVec 32 := Scalar.remsi v65 c4_i32_30
  let c1_i32_32 : BitVec 32 := 1#32
  let v67 : BitVec 32 := Scalar.muli v66 c1_i32_32
  let v68 : BitVec 32 := Scalar.addi c0_i32_33 v67
  v68.toNat
def k0_dev2 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v69 : BitVec 32 := Scalar.addi v2 c2_i32
  let c4_i32_34 : BitVec 32 := 4#32
  let v70 : BitVec 32 := Scalar.remsi v69 c4_i32_34
  let c1_i32_36 : BitVec 32 := 1#32
  let v71 : BitVec 32 := Scalar.muli v70 c1_i32_36
  let v72 : BitVec 32 := Scalar.addi c0_i32_37 v71
  v72.toNat
def k0_dev3 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_38 : BitVec 32 := 3#32
  let v73 : BitVec 32 := Scalar.addi v2 c3_i32_38
  let c4_i32_39 : BitVec 32 := 4#32
  let v74 : BitVec 32 := Scalar.remsi v73 c4_i32_39
  let c1_i32_41 : BitVec 32 := 1#32
  let v75 : BitVec 32 := Scalar.muli v74 c1_i32_41
  let v76 : BitVec 32 := Scalar.addi c0_i32_42 v75
  v76.toNat
def k0_cond6 (i : grid0.Coords) : BitVec 1 :=
  let arg1 : BitVec 32 := BitVec.ofNat 32 (i 1).val
  let c7_i32_19 : BitVec 32 := 7#32
  let v46 : BitVec 1 := Scalar.cmpi .eq arg1 c7_i32_19
  let v47 : BitVec 32 := Scalar.extui v46
  let c0_i32_20 : BitVec 32 := 0#32
  let v48 : BitVec 1 := Scalar.cmpi .ne v47 c0_i32_20
  v48

def k0_off12 (i : grid0.Coords) (d0 : Dev nD) (c1_i32_29 : BitVec 32) : Fin 2 → Nat :=
  let arg0 : BitVec 32 := BitVec.ofNat 32 (i 0).val
  let c512_i32_31 : BitVec 32 := 512#32
  let v66 : BitVec 32 := Scalar.muli arg0 c512_i32_31
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v64 : BitVec 32 := Scalar.addi v2 c1_i32_29
  let c4_i32_30 : BitVec 32 := 4#32
  let v65 : BitVec 32 := Scalar.remsi v64 c4_i32_30
  let c128_i32 : BitVec 32 := 128#32
  let v67 : BitVec 32 := Scalar.muli v65 c128_i32
  let v68 : BitVec 32 := Scalar.addi v66 v67
  let v69 : Index := Scalar.indexCast v68
  let c0_32 : Index := 0#32
  ![v69.toNat, 0]
def k0_off13 (i : grid0.Coords) : Fin 4 → Nat :=
  let arg0 : BitVec 32 := BitVec.ofNat 32 (i 0).val
  let v72 : Index := Scalar.indexCast arg0
  let c0_33 : Index := 0#32
  let c0_34 : Index := 0#32
  let c0_35 : Index := 0#32
  ![v72.toNat, 0, 0, 0]
def k0_off14 (i : grid0.Coords) : Fin 4 → Nat :=
  let arg0 : BitVec 32 := BitVec.ofNat 32 (i 0).val
  let v84 : Index := Scalar.indexCast arg0
  let c1_40 : Index := 1#32
  let c0_41 : Index := 0#32
  let c0_42 : Index := 0#32
  ![v84.toNat, 1, 0, 0]
def k0_off15 (i : grid0.Coords) : Fin 4 → Nat :=
  let arg0 : BitVec 32 := BitVec.ofNat 32 (i 0).val
  let v96 : Index := Scalar.indexCast arg0
  let c2 : Index := 2#32
  let c0_48 : Index := 0#32
  let c0_49 : Index := 0#32
  ![v96.toNat, 2, 0, 0]
def k0_off16 (i : grid0.Coords) : Fin 2 → Nat :=
  let arg0 : BitVec 32 := BitVec.ofNat 32 (i 0).val
  let c0_i32_55 : BitVec 32 := 0#32
  ![arg0.toNat, 0]
def k0_off17 (i : grid0.Coords) : Fin 4 → Nat :=
  let arg0 : BitVec 32 := BitVec.ofNat 32 (i 0).val
  let c0_i32_53 : BitVec 32 := 0#32
  let c0_i32_58 : BitVec 32 := 0#32
  let c0_i32_59 : BitVec 32 := 0#32
  ![arg0.toNat, 0, 0, 0]
def k0_dev4 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_50 : BitVec 32 := 1#32
  let v100 : BitVec 32 := Scalar.addi v2 c1_i32_50
  let c4_i32_51 : BitVec 32 := 4#32
  let v101 : BitVec 32 := Scalar.remsi v100 c4_i32_51
  let c1_i32_56 : BitVec 32 := 1#32
  let v102 : BitVec 32 := Scalar.muli v101 c1_i32_56
  let v103 : BitVec 32 := Scalar.addi c0_i32_57 v102
  v103.toNat
def k0_off18 (i : grid0.Coords) : Fin 2 → Nat :=
  let arg0 : BitVec 32 := BitVec.ofNat 32 (i 0).val
  let c1_i32_67 : BitVec 32 := 1#32
  ![arg0.toNat, 1]
def k0_off19 (i : grid0.Coords) : Fin 4 → Nat :=
  let arg0 : BitVec 32 := BitVec.ofNat 32 (i 0).val
  let c1_i32_65 : BitVec 32 := 1#32
  let c0_i32_70 : BitVec 32 := 0#32
  let c0_i32_71 : BitVec 32 := 0#32
  ![arg0.toNat, 1, 0, 0]
def k0_dev5 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_62 : BitVec 32 := 2#32
  let v112 : BitVec 32 := Scalar.addi v2 c2_i32_62
  let c4_i32_63 : BitVec 32 := 4#32
  let v113 : BitVec 32 := Scalar.remsi v112 c4_i32_63
  let c1_i32_68 : BitVec 32 := 1#32
  let v114 : BitVec 32 := Scalar.muli v113 c1_i32_68
  let v115 : BitVec 32 := Scalar.addi c0_i32_69 v114
  v115.toNat
def k0_off20 (i : grid0.Coords) : Fin 2 → Nat :=
  let arg0 : BitVec 32 := BitVec.ofNat 32 (i 0).val
  let c2_i32_79 : BitVec 32 := 2#32
  ![arg0.toNat, 2]
def k0_off21 (i : grid0.Coords) : Fin 4 → Nat :=
  let arg0 : BitVec 32 := BitVec.ofNat 32 (i 0).val
  let c2_i32_77 : BitVec 32 := 2#32
  let c0_i32_82 : BitVec 32 := 0#32
  let c0_i32_83 : BitVec 32 := 0#32
  ![arg0.toNat, 2, 0, 0]
def k0_dev6 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_74 : BitVec 32 := 3#32
  let v124 : BitVec 32 := Scalar.addi v2 c3_i32_74
  let c4_i32_75 : BitVec 32 := 4#32
  let v125 : BitVec 32 := Scalar.remsi v124 c4_i32_75
  let c1_i32_80 : BitVec 32 := 1#32
  let v126 : BitVec 32 := Scalar.muli v125 c1_i32_80
  let v127 : BitVec 32 := Scalar.addi c0_i32_81 v126
  v127.toNat
def k0_cond7 (i : grid0.Coords) : BitVec 1 :=
  let arg0 : BitVec 32 := BitVec.ofNat 32 (i 0).val
  let c1_i32_21 : BitVec 32 := 1#32
  let v49 : BitVec 1 := Scalar.cmpi .sge arg0 c1_i32_21
  let arg1 : BitVec 32 := BitVec.ofNat 32 (i 1).val
  let c3_i32 : BitVec 32 := 3#32
  let v50 : BitVec 1 := Scalar.cmpi .eq arg1 c3_i32
  let v51 : BitVec 1 := Scalar.andi v49 v50
  let v52 : BitVec 32 := Scalar.extui v51
  let c0_i32_22 : BitVec 32 := 0#32
  let v53 : BitVec 1 := Scalar.cmpi .ne v52 c0_i32_22
  v53

def k0_off22 (i : grid0.Coords) : Fin 2 → Nat :=
  let arg0 : BitVec 32 := BitVec.ofNat 32 (i 0).val
  let c1_i32_29 : BitVec 32 := 1#32
  let v64 : BitVec 32 := Scalar.subi arg0 c1_i32_29
  let c0_i32_34 : BitVec 32 := 0#32
  ![v64.toNat, 0]
def k0_off23 (i : grid0.Coords) : Fin 4 → Nat :=
  let arg0 : BitVec 32 := BitVec.ofNat 32 (i 0).val
  let c1_i32_29 : BitVec 32 := 1#32
  let v64 : BitVec 32 := Scalar.subi arg0 c1_i32_29
  let c0_i32_33 : BitVec 32 := 0#32
  let c0_i32_37 : BitVec 32 := 0#32
  let c0_i32_38 : BitVec 32 := 0#32
  ![v64.toNat, 0, 0, 0]
def k0_off24 (i : grid0.Coords) : Fin 2 → Nat :=
  let arg0 : BitVec 32 := BitVec.ofNat 32 (i 0).val
  let c1_i32_29 : BitVec 32 := 1#32
  let v64 : BitVec 32 := Scalar.subi arg0 c1_i32_29
  let c1_i32_54 : BitVec 32 := 1#32
  ![v64.toNat, 1]
def k0_off25 (i : grid0.Coords) : Fin 4 → Nat :=
  let arg0 : BitVec 32 := BitVec.ofNat 32 (i 0).val
  let c1_i32_29 : BitVec 32 := 1#32
  let v64 : BitVec 32 := Scalar.subi arg0 c1_i32_29
  let c1_i32_53 : BitVec 32 := 1#32
  let c0_i32_57 : BitVec 32 := 0#32
  let c0_i32_58 : BitVec 32 := 0#32
  ![v64.toNat, 1, 0, 0]
def k0_off26 (i : grid0.Coords) : Fin 2 → Nat :=
  let arg0 : BitVec 32 := BitVec.ofNat 32 (i 0).val
  let c1_i32_29 : BitVec 32 := 1#32
  let v64 : BitVec 32 := Scalar.subi arg0 c1_i32_29
  let c2_i32_75 : BitVec 32 := 2#32
  ![v64.toNat, 2]
def k0_off27 (i : grid0.Coords) : Fin 4 → Nat :=
  let arg0 : BitVec 32 := BitVec.ofNat 32 (i 0).val
  let c1_i32_29 : BitVec 32 := 1#32
  let v64 : BitVec 32 := Scalar.subi arg0 c1_i32_29
  let c2_i32_74 : BitVec 32 := 2#32
  let c0_i32_78 : BitVec 32 := 0#32
  let c0_i32_79 : BitVec 32 := 0#32
  ![v64.toNat, 2, 0, 0]
def k0_off28 (i : grid0.Coords) (d0 : Dev nD) : Fin 2 → Nat :=
  let arg0 : BitVec 32 := BitVec.ofNat 32 (i 0).val
  let c1_i32_29 : BitVec 32 := 1#32
  let v64 : BitVec 32 := Scalar.subi arg0 c1_i32_29
  let c512_i32_92 : BitVec 32 := 512#32
  let v113 : BitVec 32 := Scalar.muli v64 c512_i32_92
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32 : BitVec 32 := 128#32
  let v114 : BitVec 32 := Scalar.muli v2 c128_i32
  let v115 : BitVec 32 := Scalar.addi v113 v114
  let v116 : Index := Scalar.indexCast v115
  let c0_93 : Index := 0#32
  ![v116.toNat, 0]
def k0_off29 (i : grid0.Coords) : Fin 4 → Nat :=
  let arg0 : BitVec 32 := BitVec.ofNat 32 (i 0).val
  let c1_i32_29 : BitVec 32 := 1#32
  let v64 : BitVec 32 := Scalar.subi arg0 c1_i32_29
  let v118 : Index := Scalar.indexCast v64
  let c0_94 : Index := 0#32
  let c0_95 : Index := 0#32
  let c0_96 : Index := 0#32
  ![v118.toNat, 0, 0, 0]
def k0_off30 (i : grid0.Coords) : Fin 4 → Nat :=
  let arg0 : BitVec 32 := BitVec.ofNat 32 (i 0).val
  let c1_i32_29 : BitVec 32 := 1#32
  let v64 : BitVec 32 := Scalar.subi arg0 c1_i32_29
  let v123 : Index := Scalar.indexCast v64
  let c1_97 : Index := 1#32
  let c0_98 : Index := 0#32
  let c0_99 : Index := 0#32
  ![v123.toNat, 1, 0, 0]
def k0_off31 (i : grid0.Coords) : Fin 4 → Nat :=
  let arg0 : BitVec 32 := BitVec.ofNat 32 (i 0).val
  let c1_i32_29 : BitVec 32 := 1#32
  let v64 : BitVec 32 := Scalar.subi arg0 c1_i32_29
  let v128 : Index := Scalar.indexCast v64
  let c2 : Index := 2#32
  let c0_100 : Index := 0#32
  let c0_101 : Index := 0#32
  ![v128.toNat, 2, 0, 0]
def k0_off32 (i : grid0.Coords) : Fin 3 → Nat :=
  let arg0 : BitVec 32 := BitVec.ofNat 32 (i 0).val
  let c1_i32_29 : BitVec 32 := 1#32
  let v64 : BitVec 32 := Scalar.subi arg0 c1_i32_29
  let v139 : Index := Scalar.indexCast v64
  let c0_105 : Index := 0#32
  let c0_106 : Index := 0#32
  ![v139.toNat, 0, 0]
def k0_off33 (i : grid0.Coords) : Fin 3 → Nat :=
  let arg0 : BitVec 32 := BitVec.ofNat 32 (i 0).val
  let c1_i32_29 : BitVec 32 := 1#32
  let v64 : BitVec 32 := Scalar.subi arg0 c1_i32_29
  let c0_i32_116 : BitVec 32 := 0#32
  let c0_i32_117 : BitVec 32 := 0#32
  ![v64.toNat, 0, 0]
def k0_dev7 (d0 : Dev nD) : Nat :=
  let c0_i32_113 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_107 : BitVec 32 := 1#32
  let v143 : BitVec 32 := Scalar.addi v2 c1_i32_107
  let c4_i32_108 : BitVec 32 := 4#32
  let v144 : BitVec 32 := Scalar.remsi v143 c4_i32_108
  let c1_i32_112 : BitVec 32 := 1#32
  let v145 : BitVec 32 := Scalar.muli v144 c1_i32_112
  let v146 : BitVec 32 := Scalar.addi c0_i32_113 v145
  v146.toNat
def k0_dev8 (d0 : Dev nD) : Nat :=
  let c0_i32_124 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_118 : BitVec 32 := 2#32
  let v155 : BitVec 32 := Scalar.addi v2 c2_i32_118
  let c4_i32_119 : BitVec 32 := 4#32
  let v156 : BitVec 32 := Scalar.remsi v155 c4_i32_119
  let c1_i32_123 : BitVec 32 := 1#32
  let v157 : BitVec 32 := Scalar.muli v156 c1_i32_123
  let v158 : BitVec 32 := Scalar.addi c0_i32_124 v157
  v158.toNat
def k0_dev9 (d0 : Dev nD) : Nat :=
  let c0_i32_135 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_129 : BitVec 32 := 3#32
  let v167 : BitVec 32 := Scalar.addi v2 c3_i32_129
  let c4_i32_130 : BitVec 32 := 4#32
  let v168 : BitVec 32 := Scalar.remsi v167 c4_i32_130
  let c1_i32_134 : BitVec 32 := 1#32
  let v169 : BitVec 32 := Scalar.muli v168 c1_i32_134
  let v170 : BitVec 32 := Scalar.addi c0_i32_135 v169
  v170.toNat
def k0_cond8 (i : grid0.Coords) : BitVec 1 :=
  let arg0 : BitVec 32 := BitVec.ofNat 32 (i 0).val
  let c1_i32_23 : BitVec 32 := 1#32
  let v54 : BitVec 1 := Scalar.cmpi .sge arg0 c1_i32_23
  let arg1 : BitVec 32 := BitVec.ofNat 32 (i 1).val
  let c7_i32_24 : BitVec 32 := 7#32
  let v55 : BitVec 1 := Scalar.cmpi .eq arg1 c7_i32_24
  let v56 : BitVec 1 := Scalar.andi v54 v55
  let v57 : BitVec 32 := Scalar.extui v56
  let c0_i32_25 : BitVec 32 := 0#32
  let v58 : BitVec 1 := Scalar.cmpi .ne v57 c0_i32_25
  v58

def k0_off34 (i : grid0.Coords) : Fin 2 → Nat :=
  let arg0 : BitVec 32 := BitVec.ofNat 32 (i 0).val
  let c1_i32_29 : BitVec 32 := 1#32
  let v64 : BitVec 32 := Scalar.subi arg0 c1_i32_29
  let c0_i32_33 : BitVec 32 := 0#32
  ![v64.toNat, 0]
def k0_off35 (i : grid0.Coords) : Fin 3 → Nat :=
  let arg0 : BitVec 32 := BitVec.ofNat 32 (i 0).val
  let c1_i32_29 : BitVec 32 := 1#32
  let v64 : BitVec 32 := Scalar.subi arg0 c1_i32_29
  let c0_i32_36 : BitVec 32 := 0#32
  let c0_i32_37 : BitVec 32 := 0#32
  ![v64.toNat, 0, 0]
def k0_off36 (i : grid0.Coords) : Fin 4 → Nat :=
  let arg0 : BitVec 32 := BitVec.ofNat 32 (i 0).val
  let c1_i32_29 : BitVec 32 := 1#32
  let v64 : BitVec 32 := Scalar.subi arg0 c1_i32_29
  let c0_i32_32 : BitVec 32 := 0#32
  let c0_i32_38 : BitVec 32 := 0#32
  let c0_i32_39 : BitVec 32 := 0#32
  ![v64.toNat, 0, 0, 0]
def k0_off37 (i : grid0.Coords) : Fin 4 → Nat :=
  let arg0 : BitVec 32 := BitVec.ofNat 32 (i 0).val
  let c1_i32_29 : BitVec 32 := 1#32
  let v64 : BitVec 32 := Scalar.subi arg0 c1_i32_29
  let v83 : Index := Scalar.indexCast v64
  let c0_51 : Index := 0#32
  let c0_52 : Index := 0#32
  let c0_53 : Index := 0#32
  ![v83.toNat, 0, 0, 0]
def k0_off38 (i : grid0.Coords) (d0 : Dev nD) (c3_i32_49 : BitVec 32) : Fin 2 → Nat :=
  let arg0 : BitVec 32 := BitVec.ofNat 32 (i 0).val
  let c1_i32_29 : BitVec 32 := 1#32
  let v64 : BitVec 32 := Scalar.subi arg0 c1_i32_29
  let c512_i32_54 : BitVec 32 := 512#32
  let v87 : BitVec 32 := Scalar.muli v64 c512_i32_54
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v81 : BitVec 32 := Scalar.addi v2 c3_i32_49
  let c4_i32_50 : BitVec 32 := 4#32
  let v82 : BitVec 32 := Scalar.remsi v81 c4_i32_50
  let c128_i32 : BitVec 32 := 128#32
  let v88 : BitVec 32 := Scalar.muli v82 c128_i32
  let v89 : BitVec 32 := Scalar.addi v87 v88
  let v90 : Index := Scalar.indexCast v89
  let c0_55 : Index := 0#32
  ![v90.toNat, 0]
def k0_off39 (i : grid0.Coords) : Fin 2 → Nat :=
  let arg0 : BitVec 32 := BitVec.ofNat 32 (i 0).val
  let c1_i32_29 : BitVec 32 := 1#32
  let v64 : BitVec 32 := Scalar.subi arg0 c1_i32_29
  let c1_i32_58 : BitVec 32 := 1#32
  ![v64.toNat, 1]
def k0_off40 (i : grid0.Coords) : Fin 4 → Nat :=
  let arg0 : BitVec 32 := BitVec.ofNat 32 (i 0).val
  let c1_i32_29 : BitVec 32 := 1#32
  let v64 : BitVec 32 := Scalar.subi arg0 c1_i32_29
  let c1_i32_57 : BitVec 32 := 1#32
  let c0_i32_63 : BitVec 32 := 0#32
  let c0_i32_64 : BitVec 32 := 0#32
  ![v64.toNat, 1, 0, 0]
def k0_off41 (i : grid0.Coords) : Fin 4 → Nat :=
  let arg0 : BitVec 32 := BitVec.ofNat 32 (i 0).val
  let c1_i32_29 : BitVec 32 := 1#32
  let v64 : BitVec 32 := Scalar.subi arg0 c1_i32_29
  let v110 : Index := Scalar.indexCast v64
  let c1_76 : Index := 1#32
  let c0_77 : Index := 0#32
  let c0_78 : Index := 0#32
  ![v110.toNat, 1, 0, 0]
def k0_off42 (i : grid0.Coords) : Fin 2 → Nat :=
  let arg0 : BitVec 32 := BitVec.ofNat 32 (i 0).val
  let c1_i32_29 : BitVec 32 := 1#32
  let v64 : BitVec 32 := Scalar.subi arg0 c1_i32_29
  let c2_i32_85 : BitVec 32 := 2#32
  ![v64.toNat, 2]
def k0_off43 (i : grid0.Coords) : Fin 4 → Nat :=
  let arg0 : BitVec 32 := BitVec.ofNat 32 (i 0).val
  let c1_i32_29 : BitVec 32 := 1#32
  let v64 : BitVec 32 := Scalar.subi arg0 c1_i32_29
  let c2_i32_84 : BitVec 32 := 2#32
  let c0_i32_90 : BitVec 32 := 0#32
  let c0_i32_91 : BitVec 32 := 0#32
  ![v64.toNat, 2, 0, 0]
def k0_off44 (i : grid0.Coords) : Fin 4 → Nat :=
  let arg0 : BitVec 32 := BitVec.ofNat 32 (i 0).val
  let c1_i32_29 : BitVec 32 := 1#32
  let v64 : BitVec 32 := Scalar.subi arg0 c1_i32_29
  let v137 : Index := Scalar.indexCast v64
  let c2 : Index := 2#32
  let c0_103 : Index := 0#32
  let c0_104 : Index := 0#32
  ![v137.toNat, 2, 0, 0]
def k0_cond9 (i : grid0.Coords) : BitVec 1 :=
  let arg0 : BitVec 32 := BitVec.ofNat 32 (i 0).val
  let c3_i32_26 : BitVec 32 := 3#32
  let v59 : BitVec 1 := Scalar.cmpi .eq arg0 c3_i32_26
  let arg1 : BitVec 32 := BitVec.ofNat 32 (i 1).val
  let c7_i32_27 : BitVec 32 := 7#32
  let v60 : BitVec 1 := Scalar.cmpi .eq arg1 c7_i32_27
  let v61 : BitVec 1 := Scalar.andi v59 v60
  let v62 : BitVec 32 := Scalar.extui v61
  let c0_i32_28 : BitVec 32 := 0#32
  let v63 : BitVec 1 := Scalar.cmpi .ne v62 c0_i32_28
  v63

def k0_off45 (d0 : Dev nD) : Fin 2 → Nat :=
  let c1536_i32 : BitVec 32 := 1536#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32 : BitVec 32 := 128#32
  let v112 : BitVec 32 := Scalar.muli v2 c128_i32
  let v113 : BitVec 32 := Scalar.addi c1536_i32 v112
  let v114 : Index := Scalar.indexCast v113
  let c0_115 : Index := 0#32
  ![v114.toNat, 0]
def k0_dev10 (d0 : Dev nD) : Nat :=
  let c0_i32_142 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_132 : BitVec 32 := 1#32
  let v136 : BitVec 32 := Scalar.addi v2 c1_i32_132
  let c4_i32_133 : BitVec 32 := 4#32
  let v137 : BitVec 32 := Scalar.remsi v136 c4_i32_133
  let c1_i32_141 : BitVec 32 := 1#32
  let v138 : BitVec 32 := Scalar.muli v137 c1_i32_141
  let v139 : BitVec 32 := Scalar.addi c0_i32_142 v138
  v139.toNat
def k0_dev11 (d0 : Dev nD) : Nat :=
  let c0_i32_157 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_147 : BitVec 32 := 2#32
  let v148 : BitVec 32 := Scalar.addi v2 c2_i32_147
  let c4_i32_148 : BitVec 32 := 4#32
  let v149 : BitVec 32 := Scalar.remsi v148 c4_i32_148
  let c1_i32_156 : BitVec 32 := 1#32
  let v150 : BitVec 32 := Scalar.muli v149 c1_i32_156
  let v151 : BitVec 32 := Scalar.addi c0_i32_157 v150
  v151.toNat
def k0_dev12 (d0 : Dev nD) : Nat :=
  let c0_i32_172 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_162 : BitVec 32 := 3#32
  let v160 : BitVec 32 := Scalar.addi v2 c3_i32_162
  let c4_i32_163 : BitVec 32 := 4#32
  let v161 : BitVec 32 := Scalar.remsi v160 c4_i32_163
  let c1_i32_171 : BitVec 32 := 1#32
  let v162 : BitVec 32 := Scalar.muli v161 c1_i32_171
  let v163 : BitVec 32 := Scalar.addi c0_i32_172 v162
  v163.toNat
def k0_off46 (d0 : Dev nD) (c3_i32_204 : BitVec 32) : Fin 2 → Nat :=
  let c1536_i32_211 : BitVec 32 := 1536#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v188 : BitVec 32 := Scalar.addi v2 c3_i32_204
  let c4_i32_205 : BitVec 32 := 4#32
  let v189 : BitVec 32 := Scalar.remsi v188 c4_i32_205
  let c128_i32_210 : BitVec 32 := 128#32
  let v193 : BitVec 32 := Scalar.muli v189 c128_i32_210
  let v194 : BitVec 32 := Scalar.addi c1536_i32_211 v193
  let v195 : Index := Scalar.indexCast v194
  let c0_212 : Index := 0#32
  ![v195.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== ReferenceIdeal.lean ====
abbrev S2048x1024 : Shape := ⟨2, ![2048, 1024]⟩
abbrev S1024x32 : Shape := ⟨2, ![1024, 32]⟩
abbrev S2048x2 : Shape := ⟨2, ![2048, 2]⟩
abbrev S32x1024x1024 : Shape := ⟨3, ![32, 1024, 1024]⟩
abbrev S2048x32 : Shape := ⟨2, ![2048, 32]⟩
abbrev S_ : Shape := ⟨0, ![]⟩
abbrev S2048 : Shape := ⟨1, ![2048]⟩
abbrev S2048x1 : Shape := ⟨2, ![2048, 1]⟩
abbrev S2048x2x1 : Shape := ⟨3, ![2048, 2, 1]⟩
abbrev S1x1x32 : Shape := ⟨3, ![1, 1, 32]⟩
abbrev S2048x2x32 : Shape := ⟨3, ![2048, 2, 32]⟩
abbrev S2048x32x1024 : Shape := ⟨3, ![2048, 32, 1024]⟩

abbrev nBuf : Space → Nat
  | .hbm => 31
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x32, .f32⟩
  | .hbm, ⟨2, _⟩ => ⟨S2048x2, .i32⟩
  | .hbm, ⟨3, _⟩ => ⟨S32x1024x1024, .f32⟩
  | .hbm, ⟨4, _⟩ => ⟨S2048x32, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x32, .f32⟩
  | .hbm, ⟨9, _⟩ => ⟨S2048x32, .f32⟩
  | .hbm, ⟨10, _⟩ => ⟨S2048x32, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x32, .f32⟩
  | .hbm, ⟨15, _⟩ => ⟨S2048x32, .f32⟩
  | .hbm, ⟨16, _⟩ => ⟨S2048x2x1, .i32⟩
  | .hbm, ⟨17, _⟩ => ⟨S1x1x32, .i32⟩
  | .hbm, ⟨18, _⟩ => ⟨S2048x2x32, .i32⟩
  | .hbm, ⟨19, _⟩ => ⟨S2048x2x32, .i32⟩
  | .hbm, ⟨20, _⟩ => ⟨S2048x2x32, .i1⟩
  | .hbm, ⟨21, _⟩ => ⟨S2048x2x32, .f32⟩
  | .hbm, ⟨22, _⟩ => ⟨S2048x2, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S2048x2, .f32⟩
  | .hbm, ⟨27, _⟩ => ⟨S2048x2, .f32⟩
  | .hbm, ⟨28, _⟩ => ⟨S2048x32x1024, .f32⟩
  | .hbm, ⟨29, _⟩ => ⟨S2048x32, .f32⟩
  | .hbm, ⟨30, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]
-- ==== Proof.Common.lean ====
/-
# The protocol of the exchange: cells, contents, schedule, levels

Each device runs 4 quarters of 8 grid points. The devices meet once at a barrier cell; then, quarter by quarter,
every device sends three pieces of its partial sums to its three peers (the scatter) and three copies of its reduced
piece (the gather). Every landing slot and every semaphore of the exchange is used once; the two semaphores of the
weight prefetch are used four times each.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Pipeline.DatRel
public import Idealize.ShloMosaic.Lib.MemrefSat
public import Idealize.ShloMosaic.Lib.Tactic

@[expose] public section

noncomputable section

namespace Cert.MoE

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- No loop of the bodies needs a variant. -/
abbrev 𝒱₀ : Variants := Variants.none

/-! ## Peers -/

set_option backward.proofsInPublic true in
/-- The device `k + 1` places after `c`: the target of `c`'s transfers of index `k`. -/
def dst (c : Dev nD) (k : Fin 3) : Dev nD := ⟨(c.val + k.val + 1) % 4, Nat.mod_lt _ (by decide)⟩
set_option backward.proofsInPublic true in
/-- The device `k + 1` places before `c`: the source of the transfers of index `k` into `c`. -/
def src (c : Dev nD) (k : Fin 3) : Dev nD := ⟨(c.val + 3 - k.val) % 4, Nat.mod_lt _ (by decide)⟩
/-- The index of the transfers from `c` to the device that reaches `c` by index `k`. -/
def rev (k : Fin 3) : Fin 3 := ⟨2 - k.val, by omega⟩

theorem dst_src (c : Dev nD) (k : Fin 3) : dst (src c k) k = c := by revert c k; decide
theorem src_dst (c : Dev nD) (k : Fin 3) : src (dst c k) k = c := by revert c k; decide
theorem src_eq_dst_rev (c : Dev nD) (k : Fin 3) : src c k = dst c (rev k) := by revert c k; decide
theorem dst_eq_src_rev (c : Dev nD) (k : Fin 3) : dst c k = src c (rev k) := by revert c k; decide
theorem rev_rev (k : Fin 3) : rev (rev k) = k := by revert k; decide

/-- The shift of the mesh by `k + 1`. -/
def shift (k : Fin 3) : Dev nD ≃ Dev nD := ⟨fun c => dst c k, fun c => src c k, fun c => src_dst c k, fun c => dst_src c k⟩

/-! ## The cells -/

/-- The runtime's barrier semaphore. -/
abbrev barS : Sem sig := (SemArray.scalar (sig.barrier 0 rfl) : Sems sig S_).sem

/-- The exchange's own semaphores: `(a, q, k)` is transfer `k` of quarter `q` — `a = 0, 1` the scatter's send and
    receive, `a = 2, 3` the gather's —; the other two are the prefetch's. -/
abbrev KO : Type := (Fin 4 × Fin 4 × Fin 3) ⊕ Fin 2

set_option backward.proofsInPublic true in
def xS (a q : Fin 4) (k : Fin 3) : DmaSem sig := ⟨8 + 12 * a.val + 3 * q.val + k.val, by show _ < 56; omega⟩
set_option backward.proofsInPublic true in
def pS (p : Fin 2) : DmaSem sig := ⟨6 + p.val, by show _ < 56; omega⟩

def osem : KO → SemLoc sig
  | .inl (a, q, k) => .dma (xS a q k)
  | .inr p => .dma (pS p)

/-- Every cell of a device's exchange: the barrier's (`none`) and its own. -/
abbrev KC : Type := Option KO
def csem : KC → SemLoc sig
  | none => .reg barS
  | some k => osem k

abbrev cell (c : Dev nD) (k : KC) : GSem nD τ sig := ((c : Thread nD τ), csem k)

abbrev barC (c : Dev nD) : GSem nD τ sig := ((c : Thread nD τ), .reg barS)
abbrev xC (c : Dev nD) (a q : Fin 4) (k : Fin 3) : GSem nD τ sig := ((c : Thread nD τ), .dma (xS a q k))
abbrev pC (c : Dev nD) (p : Fin 2) : GSem nD τ sig := ((c : Thread nD τ), .dma (pS p))

set_option backward.proofsInPublic true in
/-- Which cell of the exchange a semaphore is. -/
def decode : SemLoc sig → Option KC
  | .reg s => if s = barS then some none else none
  | .dma s =>
      if h : s.val < 6 then none
      else if h : s.val < 8 then some (some (.inr ⟨s.val - 6, by omega⟩))
      else some (some (.inl (⟨(s.val - 8) / 12, by have : s.val < 56 := s.isLt; omega⟩, ⟨(s.val - 8) % 12 / 3, by omega⟩, ⟨(s.val - 8) % 3, by omega⟩)))

theorem decode_x (a q : Fin 4) (k : Fin 3) : decode (.dma (xS a q k)) = some (some (.inl (a, q, k))) := by
  revert a q k; decide +kernel
theorem decode_p (p : Fin 2) : decode (.dma (pS p)) = some (some (.inr p)) := by revert p; decide +kernel
theorem decode_bar : decode (.reg barS) = some none := by decide +kernel
theorem decode_csem (k : KC) : decode (csem k) = some k := by
  rcases k with _ | ⟨a, q, k⟩ | p
  · exact decode_bar
  · exact decode_x a q k
  · exact decode_p p

theorem ownSemFacts : Pipeline.OwnSemFacts cfg0.spec osem where
  isScoped := by decide +kernel
  inj := fun a b h => by
    have := congrArg decode h
    rw [show decode (osem a) = some (some a) from decode_csem (some a), show decode (osem b) = some (some b) from decode_csem (some b)] at this
    exact Option.some.inj (Option.some.inj this)
  disj := by decide +kernel

theorem cell_injective : Function.Injective (fun ck : Dev nD × KC => cell ck.1 ck.2) := by
  rintro ⟨c, k⟩ ⟨c', k'⟩ h
  have h1 : c = c' := congrArg (fun g : GSem nD τ sig => g.1.1) h
  have h2 : csem k = csem k' := congrArg (fun g : GSem nD τ sig => g.2) h
  have := congrArg decode h2
  rw [decode_csem, decode_csem] at this
  rw [h1, Option.some.inj this]

/-! ## The grid -/

set_option backward.proofsInPublic true in
/-- The grid point of quarter `q` and expert `e`. -/
def pt (q : Fin 4) (e : Fin 8) : Fin grid0.N := ⟨8 * q.val + e.val, by have := N_0; omega⟩
abbrev co (q : Fin 4) (e : Fin 8) : grid0.Coords := grid0.coords (pt q e)

theorem co_0 (q : Fin 4) (e : Fin 8) : (co q e 0).val = q.val := by revert q e; decide +kernel
theorem co_1 (q : Fin 4) (e : Fin 8) : (co q e 1).val = e.val := by revert q e; decide +kernel
theorem exists_pt (t : Fin grid0.N) : ∃ q e, t = pt q e := by
  have := N_0
  exact ⟨⟨t.val / 8, by omega⟩, ⟨t.val % 8, by omega⟩, Fin.ext (by simp only [pt]; omega)⟩

set_option backward.proofsInPublic true in
/-- A natural number as an expert of the device. -/
def e8 (n : ℕ) : Fin 8 := ⟨n % 8, Nat.mod_lt _ (by decide)⟩

/-! ## Rectangles of the scratch buffers -/

theorem inb4 (q : Fin 4) (k : Fin 3) : ∀ a, (![q.val, k.val, 0, 0] : Fin 4 → Nat) a + S1x1x128x1024.size a ≤ S4x3x128x1024.size a := by
  revert q k; decide
theorem inb3 (q : Fin 4) : ∀ a, (![q.val, 0, 0] : Fin 3 → Nat) a + S1x128x1024.size a ≤ S4x128x1024.size a := by
  revert q; decide
theorem inbE (e : Fin 8) : ∀ a, (![e.val, 0, 0] : Fin 3 → Nat) a + S1x1024x1024.size a ≤ S8x1024x1024.size a := by
  revert e; decide
theorem inbP (p : Fin 2) : ∀ a, (![p.val, 0, 0] : Fin 3 → Nat) a + S1x1024x1024.size a ≤ S2x1024x1024.size a := by
  revert p; decide
theorem inbQ (q : Fin 4) : ∀ a, (![512 * q.val, 0] : Fin 2 → Nat) a + S512x1024.size a ≤ S2048x1024.size a := by
  revert q; decide
theorem inbQP (q p : Fin 4) : ∀ a, (![512 * q.val + 128 * p.val, 0] : Fin 2 → Nat) a + S128x1024.size a ≤ S2048x1024.size a := by
  revert q p; decide
theorem inbPc (p : Fin 4) : ∀ a, (![128 * p.val, 0] : Fin 2 → Nat) a + S128x1024.size a ≤ S512x1024.size a := by
  revert p; decide
theorem inbI (k : Fin 2) : ∀ a, (![0, k.val] : Fin 2 → Nat) a + S512x1.size a ≤ S512x2.size a := by
  revert k; decide

abbrev R4 (q : Fin 4) (k : Fin 3) : Rect S4x3x128x1024 := Rect.unit ![q.val, k.val, 0, 0] S1x1x128x1024.size (inb4 q k)
abbrev R3 (q : Fin 4) : Rect S4x128x1024 := Rect.unit ![q.val, 0, 0] S1x128x1024.size (inb3 q)
abbrev RE (e : Fin 8) : Rect S8x1024x1024 := Rect.unit ![e.val, 0, 0] S1x1024x1024.size (inbE e)
abbrev RP (p : Fin 2) : Rect S2x1024x1024 := Rect.unit ![p.val, 0, 0] S1x1024x1024.size (inbP p)
abbrev RQ (q : Fin 4) : Rect S2048x1024 := Rect.unit ![512 * q.val, 0] S512x1024.size (inbQ q)
abbrev RQP (q p : Fin 4) : Rect S2048x1024 := Rect.unit ![512 * q.val + 128 * p.val, 0] S128x1024.size (inbQP q p)
abbrev RPc (p : Fin 4) : Rect S512x1024 := Rect.unit ![128 * p.val, 0] S128x1024.size (inbPc p)
abbrev RI (k : Fin 2) : Rect S512x2 := Rect.unit ![0, k.val] S512x1.size (inbI k)

/-! ## The memrefs -/

abbrev xbfM : Memref sig .tc .vmem S512x1024 .bf16 := Memref.whole cc0_scratch0
abbrev g0M : Memref sig .tc .vmem S512x1 .f32 := Memref.whole cc0_scratch1
abbrev g1M : Memref sig .tc .vmem S512x1 .f32 := Memref.whole cc0_scratch2
abbrev accM : Memref sig .tc .vmem S2048x1024 .f32 := Memref.whole cc0_scratch3
abbrev stgM : Memref sig .tc .vmem S2x1024x1024 .f32 := Memref.whole cc0_scratch4
abbrev ewM : Memref sig .tc .vmem S8x1024x1024 .bf16 := Memref.whole cc0_scratch5
abbrev rsSM : Memref sig .tc .vmem S4x3x128x1024 .bf16 := Memref.whole cc0_scratch7
abbrev rsRM : Memref sig .tc .vmem S4x3x128x1024 .bf16 := Memref.whole cc0_scratch8
abbrev agSM : Memref sig .tc .vmem S4x128x1024 .bf16 := Memref.whole cc0_scratch9
abbrev agRM : Memref sig .tc .vmem S4x3x128x1024 .bf16 := Memref.whole cc0_scratch10
abbrev wM : Memref sig .tc .hbm S8x1024x1024 .f32 := Memref.whole main_arg3

abbrev rsS (q : Fin 4) (k : Fin 3) := rsSM.slice (R4 q k) (fun _ => rfl)
abbrev rsR (q : Fin 4) (k : Fin 3) := rsRM.slice (R4 q k) (fun _ => rfl)
abbrev agR (q : Fin 4) (k : Fin 3) := agRM.slice (R4 q k) (fun _ => rfl)
abbrev agS (q : Fin 4) := agSM.slice (R3 q) (fun _ => rfl)
abbrev accQ (q : Fin 4) := accM.slice (RQ q) (fun _ => rfl)
abbrev stg (p : Fin 2) := stgM.slice (RP p) (fun _ => rfl)
abbrev ewE (e : Fin 8) := ewM.slice (RE e) (fun _ => rfl)
abbrev wE (e : Fin 8) := wM.slice (RE e) (fun _ => rfl)

/-! ## Contents: what each buffer holds, as functions of the memory at launch -/

section Contents
variable (m : (ℓ : Loc nD τ sig) → Buf (Elt F) ℓ) (c : Dev nD)

/-- The quarter's block of `x`, the router's weights, and the quarter's block of the expert indices. -/
def xb (q : Fin 4) : S512x1024.Idx → Elt F .f32 := iblk m c 0 (pt q 0)
def rw (q : Fin 4) : S1024x32.Idx → Elt F .f32 := iblk m c 1 (pt q 0)
def ib (q : Fin 4) : S512x2.Idx → Elt F .i32 := iblk m c 2 (pt q 0)
/-- The first and second expert of each row. -/
def ic (q : Fin 4) (k : Fin 2) : S512x1.Idx → Elt F .i32 := fun j => ib m c q ((RI k).emb j)

def xbf (q : Fin 4) : S512x1024.Idx → Elt F .bf16 := k0_pay5 (xb m c q)
def g0 (q : Fin 4) : S512x1.Idx → Elt F .f32 := k0_pay10 (xb m c q) (rw m c q) (ic m c q 0) (ic m c q 1)
def g1 (q : Fin 4) : S512x1.Idx → Elt F .f32 := k0_pay25 (k0_pay11 (xb m c q) (rw m c q) (ic m c q 0) (ic m c q 1))

/-- Expert `e`'s weights as launched, and rounded. -/
def wraw (e : Fin 8) : S1x1024x1024.Idx → Elt F .f32 := fun j => m ((c : Thread nD τ).loc main_arg3) ((RE e).emb j)
def ewb (e : Fin 8) : S1x1024x1024.Idx → Elt F .bf16 := k0_pay24 (wraw m c e)

/-- The accumulator of quarter `q` after `n` experts. -/
def accv (q : Fin 4) : ℕ → S512x1024.Idx → Elt F .f32
  | 0 => k0_pay26
  | n + 1 => k0_pay1 (k0_pay27 (co q (e8 n)) c (ic m c q 0) (g0 m c q) (ic m c q 1) (g1 m c q))
      (k0_pay28 (ewb m c (e8 n)) (xbf m c q)) (accv q n)

/-- Piece `p` of the finished accumulator. -/
def pc (q p : Fin 4) : S128x1024.Idx → Elt F .f32 := fun j => accv m c q 8 ((RPc p).emb j)
/-- What `c` sends to its peer `k` in the scatter. -/
def rsd (q : Fin 4) (k : Fin 3) : S1x1x128x1024.Idx → Elt F .bf16 := k0_pay12 (pc m c q (dst c k))
/-- The reduced piece of `c`, and what `c` sends of it in the gather. -/
def red (q : Fin 4) : S128x1024.Idx → Elt F .f32 :=
  k0_pay16 (pc m c q c) (rsd m (src c 0) q 0) (rsd m (src c 1) q 1) (rsd m (src c 2) q 2)
def agd (q : Fin 4) : S1x128x1024.Idx → Elt F .bf16 :=
  k0_pay17 (pc m c q c) (rsd m (src c 0) q 0) (rsd m (src c 1) q 1) (rsd m (src c 2) q 2)

end Contents

/-- Contents of one shape laid out at another of as many elements, through the common squeezed shape. -/
def relay {s₁ s₂ s : Shape} {α : Type} (h₁ : s₁.Squeezes s) (h₂ : s₂.Squeezes s) (X : s₁.Idx → α) : s₂.Idx → α :=
  fun z => X (Shape.reshapeEquiv h₁.numel_eq ((Shape.reshapeEquiv h₂.numel_eq).symm z))

/-- What lands from `c`'s gather. -/
def agl (m : (ℓ : Loc nD τ sig) → Buf (Elt F) ℓ) (c : Dev nD) (q : Fin 4) : S1x1x128x1024.Idx → Elt F .bf16 :=
  relay squeezes_S1x128x1024_S128x1024 squeezes_S1x1x128x1024_S128x1024 (agd m c q)

/-- The result's piece `p` of quarter `q` on device `c`: its own piece as reduced, a peer's as it landed. -/
def outp (m : (ℓ : Loc nD τ sig) → Buf (Elt F) ℓ) (c : Dev nD) (q p : Fin 4) : S128x1024.Idx → Elt F .f32 :=
  if p = c then red m c q else k0_pay2 (agl m p q)

end Cert.MoE
-- ==== Proof.Sched.lean ====
/-
# The schedule of the exchange's cells

The duties, amounts and payloads of every cell, what a device owes at each stage, and the levels by which every wait
is below what is still owed.
-/
module

public import proofs.«01_k».proof.Proof.Common

@[expose] public section

noncomputable section

namespace Cert.MoE

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The credit of a 128×1024 transfer of the exchange, and of a weight block's prefetch. -/
@[irreducible] def NX : ℕ := ((rsR 0 0).squeeze S128x1024 squeezes_S1x1x128x1024_S128x1024).view.dmaCredit
@[irreducible] def NW : ℕ := ((stg 0).squeeze S1024x1024 squeezes_S1x1024x1024_S1024x1024).view.dmaCredit
theorem NX_pos : 0 < NX := by
  rw [NX]; exact View.dmaCredit_pos _ (Shape.numel_pos fun a => by fin_cases a <;> decide)
theorem NW_pos : 0 < NW := by
  rw [NW]; exact View.dmaCredit_pos _ (Shape.numel_pos fun a => by fin_cases a <;> decide)

/-- The three shares of a gather's source. -/
def shr : Fin 3 → PosShare TreeShare
  | 0 => fullShare.left
  | 1 => fullShare.right.left
  | 2 => fullShare.right.right

/-- The expert prefetched into slot `p` in its round `r`. -/
def pe (p : Fin 2) (r : ℕ) : Fin 8 := e8 (2 * r + p.val)

/-! ## The payloads -/

/-- A slot of `c` at some contents. -/
def anyRsR (c : Dev nD) (q : Fin 4) (k : Fin 3) : sProp 𝕄 := iprop(∃ X, owns (c : Thread nD τ) (rsR q k) fullShare X)
def anyAgR (c : Dev nD) (q : Fin 4) (k : Fin 3) : sProp 𝕄 := iprop(∃ X, owns (c : Thread nD τ) (agR q k) fullShare X)

/-- Device `c`'s landing slots for the peer `k + 1` places after it. -/
def landing (c : Dev nD) (k : Fin 3) : sProp 𝕄 :=
  bigSep Finset.univ fun q : Fin 4 => iprop(anyRsR (F := F) c q k ∗ anyAgR (F := F) c q k)

def pay (c : Dev nD) : KC → ℕ → Fin 3 → sProp 𝕄
  | none, _, d => landing (F := F) (src c d) (rev d)
  | some (.inl (0, q, k)), _, _ => owns (c : Thread nD τ) (rsS q k) fullShare (rsd m c q k)
  | some (.inl (1, q, k)), _, _ => owns (c : Thread nD τ) (rsR q k) fullShare (rsd m (src c k) q k)
  | some (.inl (2, q, k)), _, _ => owns (c : Thread nD τ) (agS q) (shr k) (agd m c q)
  | some (.inl (3, q, k)), _, _ => owns (c : Thread nD τ) (agR q k) fullShare (agl m (src c k) q)
  | some (.inr p), r, _ => iprop(owns (c : Thread nD τ) (stg p) fullShare (wraw m c (pe p r))
      ∗ owns (c : Thread nD τ) (wE (pe p r)) fullShare.right (wraw m c (pe p r)))

def dut : KC → ℕ → Finset (Fin 3)
  | none, r => if r = 0 then Finset.univ else ∅
  | some (.inl _), r => if r = 0 then {0} else ∅
  | some (.inr _), r => if r < 4 then {0} else ∅

def amt : KC → ℕ
  | none => 1
  | some (.inl _) => NX
  | some (.inr _) => NW

theorem amt_pos (k : KC) : 0 < amt k := by
  rcases k with _ | _ | _
  · exact Nat.one_pos
  · exact NX_pos
  · exact NW_pos

instance anyRsR_storable (c : Dev nD) (q : Fin 4) (k : Fin 3) : BI.Storable (upEmb : UEmb _ 𝕄) (anyRsR (F := F) c q k) := by
  unfold anyRsR; infer_instance
instance anyAgR_storable (c : Dev nD) (q : Fin 4) (k : Fin 3) : BI.Storable (upEmb : UEmb _ 𝕄) (anyAgR (F := F) c q k) := by
  unfold anyAgR; infer_instance
instance landing_storable (c : Dev nD) (k : Fin 3) : BI.Storable (upEmb : UEmb _ 𝕄) (landing (F := F) c k) := by
  unfold landing; infer_instance

instance pay_storable (c : Dev nD) (k : KC) (r : ℕ) (d : Fin 3) : BI.Storable (upEmb : UEmb _ 𝕄) (pay m c k r d) := by
  rcases k with _ | ⟨a, q, k⟩ | p
  · show BI.Storable _ (landing (F := F) (src c d) (rev d)); infer_instance
  · match a with
    | 0 => show BI.Storable _ (owns (c : Thread nD τ) (rsS q k) fullShare (rsd m c q k)); infer_instance
    | 1 => show BI.Storable _ (owns (c : Thread nD τ) (rsR q k) fullShare (rsd m (src c k) q k)); infer_instance
    | 2 => show BI.Storable _ (owns (c : Thread nD τ) (agS q) (shr k) (agd m c q)); infer_instance
    | 3 => show BI.Storable _ (owns (c : Thread nD τ) (agR q k) fullShare (agl m (src c k) q)); infer_instance
  · show BI.Storable _ iprop(owns (c : Thread nD τ) (stg p) fullShare (wraw m c (pe p r))
      ∗ owns (c : Thread nD τ) (wE (pe p r)) fullShare.right (wraw m c (pe p r)))
    infer_instance

/-- The schedule: a barrier cell has one duty per peer, of one unit each; a cell of the exchange one duty of a transfer's
    credit, in one round; a prefetch cell the same in each of four rounds. -/
def Rd : Rounds.Schedule (GSem nD τ sig) (Fin 3) 𝕄 where
  duties g r := if g.1.2 = .tc then (match decode g.2 with | some k => dut k r | none => ∅) else ∅
  unitless _ := False
  amount g _ _ := match decode g.2 with | some k => amt k | none => 1
  payload g r d := match decode g.2 with | some k => pay m g.1.1 k r d | none => iprop(emp)
  amount_pos g _ _ _ := by
    split
    · exact amt_pos _
    · exact Nat.one_pos

instance Rd_storable (g : GSem nD τ sig) (r : ℕ) (d : Fin 3) :
    BI.Storable (upEmb : UEmb _ 𝕄) ((Rd (F := F) m).payload g r d) := by
  show BI.Storable upEmb (match decode g.2 with | some k => pay m g.1.1 k r d | none => iprop(emp))
  split <;> infer_instance

section Tables
variable (c : Dev nD) (k : KC) (r : ℕ) (d : Fin 3)

theorem Rd_duties : (Rd m).duties (cell c k) r = dut k r := by
  dsimp only [Rd]; rw [if_pos rfl, decode_csem]
theorem Rd_amount : (Rd m).amount (cell c k) r d = amt k := by
  dsimp only [Rd]; rw [decode_csem]
theorem Rd_payload : (Rd m).payload (cell c k) r d = pay m c k r d := by
  dsimp only [Rd]; rw [decode_csem]
theorem Rd_expect : (Rd m).expect (cell c k) r = (dut k r).card * amt k := by
  unfold Schedule.expect Schedule.amountOf
  rw [Rd_duties, Finset.sum_congr rfl fun d _ => Rd_amount m c k r d, Finset.sum_const, smul_eq_mul]
theorem Rd_rest : bigSep ((Rd m).duties (cell c k) r \ ∅) (fun d => (Rd m).payload (cell c k) r d)
    = bigSep (dut k r) (fun d => pay m c k r d) := by
  rw [Finset.sdiff_empty, Rd_duties]; exact congrArg _ (funext fun d => Rd_payload m c k r d)
theorem dut_later {r₀ : ℕ} (h : r₀ = (match k with | none => 1 | some (.inl _) => 1 | some (.inr _) => 4)) :
    ∀ r, r₀ ≤ r → (Rd m).duties (cell c k) r = ∅ := by
  intro r hr
  rw [Rd_duties]; subst h
  rcases k with _ | _ | _ <;> simp only [dut] at hr ⊢ <;> exact if_neg (by omega)

end Tables

/-! ## What each device owes

The remote duties a device pays, numbered in the order it pays them: the three signals, then for each quarter the
scatter's three and the gather's three. -/

/-- The `j`-th of three, and of four, taken round. -/
def m3 (j : ℕ) : Fin 3 := Fin.ofNat 3 j
def m4 (j : ℕ) : Fin 4 := Fin.ofNat 4 j
theorem m3_val (k : Fin 3) (n j : ℕ) (h : j = 3 * n + k.val) : m3 j = k := Fin.ext (by show j % 3 = _; omega)
theorem m4_val (q : Fin 4) (j : ℕ) (h : j = q.val) : m4 j = q := Fin.ext (by show j % 4 = _; omega)

/-- The cell the `j`-th duty of device `c` is due at. -/
def dueC (c : Dev nD) (j : ℕ) : GSem nD τ sig :=
  if j < 3 then barC (dst c (m3 j))
  else if (j - 3) % 6 < 3 then xC (dst c (m3 j)) 1 (m4 ((j - 3) / 6)) (m3 j)
  else xC (dst c (m3 j)) 3 (m4 ((j - 3) / 6)) (m3 j)
def dueN (j : ℕ) : ℕ := if j < 3 then 1 else NX

/-- What device `c` owes once it has paid the first `n` of its duties. -/
def O (c : Dev nD) (n : ℕ) : CellTallies nD τ sig Unit := ∑ j ∈ Finset.Ico n 27, tallyAt (dueC c j) () (dueN j)

theorem O_step (c : Dev nD) {n : ℕ} (h : n < 27) : O c n = O c (n + 1) + tallyAt (dueC c n) () (dueN n) := by
  unfold O
  have e : Finset.Ico n 27 = insert n (Finset.Ico (n + 1) 27) := by
    ext j; simp only [Finset.mem_Ico, Finset.mem_insert]; omega
  rw [e, Finset.sum_insert (by simp), add_comm]
theorem O_last (c : Dev nD) : O c 27 = 0 := by unfold O; rw [Finset.Ico_self, Finset.sum_empty]

theorem dueC_bar (c : Dev nD) (k : Fin 3) : dueC c k.val = barC (dst c k) := by
  unfold dueC; rw [if_pos k.isLt, m3_val k 0 _ (by omega)]
theorem dueC_rs (c : Dev nD) (q : Fin 4) (k : Fin 3) : dueC c (3 + 6 * q.val + k.val) = xC (dst c k) 1 q k := by
  unfold dueC
  rw [if_neg (by omega), if_pos (by omega), m3_val k (1 + 2 * q.val) _ (by omega), m4_val q _ (by omega)]
theorem dueC_ag (c : Dev nD) (q : Fin 4) (k : Fin 3) : dueC c (6 + 6 * q.val + k.val) = xC (dst c k) 3 q k := by
  unfold dueC
  rw [if_neg (by omega), if_neg (by omega), m3_val k (2 + 2 * q.val) _ (by omega), m4_val q _ (by omega)]

/-- Every duty is the barrier's, a scatter's or a gather's. -/
theorem due_cases {j : ℕ} (h : j < 27) : (∃ k : Fin 3, j = k.val) ∨ (∃ (q : Fin 4) (k : Fin 3), j = 3 + 6 * q.val + k.val)
    ∨ ∃ (q : Fin 4) (k : Fin 3), j = 6 + 6 * q.val + k.val := by
  by_cases h3 : j < 3
  · exact .inl ⟨⟨j, h3⟩, rfl⟩
  · by_cases h6 : (j - 3) % 6 < 3
    · exact .inr (.inl ⟨⟨(j - 3) / 6, by omega⟩, ⟨(j - 3) % 6, h6⟩, by simp only; omega⟩)
    · exact .inr (.inr ⟨⟨(j - 3) / 6, by omega⟩, ⟨(j - 3) % 6 - 3, by omega⟩, by simp only; omega⟩)

/-! ## Levels -/

def L (g : GSem nD τ sig) : Finset Unit := if g.1.2 = .tc then {()} else ∅

/-- A barrier cell at 1; the receive cells of quarter `q` at `2 + 2 q` (scatter) and `3 + 2 q` (gather); every other
    cell at 0. -/
def lvK : KC → ℕ
  | none => 1
  | some (.inl (1, q, _)) => 2 + 2 * q.val
  | some (.inl (3, q, _)) => 3 + 2 * q.val
  | _ => 0
def lv (g : GSem nD τ sig) (_ : Unit) : ℕ := match decode g.2 with | some k => lvK k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : KC) (u : Unit) : lv (cell c k) u = lvK k := by unfold lv; rw [decode_csem]

theorem lv_due (c : Dev nD) {j : ℕ} (h : j < 27) (u : Unit) : lv (dueC c j) u = 1 + j / 3 ∧ L (dueC c j) = {()} := by
  rcases due_cases h with ⟨k, rfl⟩ | ⟨q, k, rfl⟩ | ⟨q, k, rfl⟩
  · rw [dueC_bar]; refine ⟨(lv_cell _ none _).trans ?_, L_tc _ _⟩; show 1 = _; omega
  · rw [dueC_rs]; refine ⟨(lv_cell _ (some (.inl (1, q, k))) _).trans ?_, L_tc _ _⟩; show 2 + 2 * q.val = _; omega
  · rw [dueC_ag]; refine ⟨(lv_cell _ (some (.inl (3, q, k))) _).trans ?_, L_tc _ _⟩; show 3 + 2 * q.val = _; omega

theorem O_pos {c : Dev nD} {n : ℕ} {g : GSem nD τ sig} {u : Unit} (h : 0 < O c n g u) : ∃ j, n ≤ j ∧ j < 27 ∧ g = dueC c j := by
  unfold O at h
  rw [Finset.sum_apply, Finsupp.finset_sum_apply] at h
  obtain ⟨j, hj, hne⟩ := Finset.exists_ne_zero_of_sum_ne_zero (Nat.pos_iff_ne_zero.mp h)
  rw [Finset.mem_Ico] at hj
  refine ⟨j, hj.1, hj.2, ?_⟩
  by_contra hg
  rw [tallyAt_apply, if_neg fun h => hg h.1] at hne
  exact hne rfl

/-- A wait on a cell of level `l` is below everything owed after `n` duties, when the `n`-th duty's level is above `l`. -/
theorem mayWait (c : Dev nD) (sm : SemLoc sig) (n l : ℕ) (hl : lv ((c : Thread nD τ), sm) () ≤ l) (hn : l < 1 + n / 3) :
    (levAts L lv : sProp 𝕄) ⊢ MayWait (c : Thread nD τ) sm () (O c n) :=
  MayOwe.of_cut (L := L) (lev := lv) l (fun p hp => by rw [Finset.mem_singleton.mp hp, L_tc]; exact Finset.mem_singleton_self _)
    (fun g u hg => by obtain ⟨j, -, hj, rfl⟩ := O_pos hg; rw [(lv_due c hj ()).2]; exact Finset.mem_singleton_self _)
    (fun p hp => by rw [Finset.mem_singleton.mp hp]; exact hl)
    (fun g u hg => by obtain ⟨j, hn', hj, rfl⟩ := O_pos hg; rw [(lv_due c hj u).1]; omega)

/-- Once nothing is owed every wait may be made. -/
theorem mayWait_done (c : Dev nD) (sm : SemLoc sig) : (levAts L lv : sProp 𝕄) ⊢ MayWait (c : Thread nD τ) sm () (O c 27) := by
  rw [O_last, MayWait_zero]; iintro -; iempintro

end Cert.MoE
-- ==== Proof.Ops.lean ====
/-
# The steps of the kernel on owned slices
-/
module

public import proofs.«01_k».proof.Proof.Sched

@[expose] public section

noncomputable section

namespace Cert.MoE

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × KC → ℕ)

/-- A program of device `c`'s core at a whole mask: what the exchange's steps are stated at. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Loads and stores -/

section Access
variable {α : Type} (c : Dev nD) {cs : CoreSpace} {s : Shape} {e : EltTy} (M : Memref sig .tc cs s e)

/-- A load within an owned memref reads the contents there. -/
theorem wp_load_at {Q : α → sProp 𝕄} {r : Rect s} {hl : M.view.LoadsAt r} {k : (r.shape.Idx → Elt F e) → Prog (TpuEff nD τ sig (Elt F) Λ₀ .tc) α}
    (q : PosShare TreeShare) (X : s.Idx → Elt F e) :
    (owns (c : Thread nD τ) M q X : sProp 𝕄)
      ⊢ iprop((owns (c : Thread nD τ) M q X -∗ WP c (k fun j => X (r.emb j)) Q) -∗ WP c (.op (.load M r.toLoadRect hl) k) Q) := by
  unfold owns
  iintro ⟨%f, %hf, H⟩ K
  have hv : (M.access r).read (Elt F) f = fun j => X (r.emb j) := by
    funext j; exact congrFun hf (r.emb j)
  iapply (wp_load_rect 𝒱₀ (c : Thread nD τ) none Set.univ (m := M) (r := r) (View.set_slice_subset M.view r)) $$ H
  iintro H
  rw [hv]
  iapply K
  iexists f
  isplitr; · ipureintro; exact hf
  iexact H

/-- A load within an owned slice reads the slice's contents there. -/
theorem wp_load_in {Q : α → sProp 𝕄} {r r₀ : Rect s} {h₀ : ∀ a, r₀.stride a = 1} (ρ : r.shape.Idx → r₀.shape.Idx) (hρ : ∀ j, r.emb j = r₀.emb (ρ j))
    {hl : M.view.LoadsAt r} {k : (r.shape.Idx → Elt F e) → Prog (TpuEff nD τ sig (Elt F) Λ₀ .tc) α} (q : PosShare TreeShare)
    (X : r₀.shape.Idx → Elt F e) :
    (owns (c : Thread nD τ) (M.slice r₀ h₀) q X : sProp 𝕄)
      ⊢ iprop((owns (c : Thread nD τ) (M.slice r₀ h₀) q X -∗ WP c (k fun j => X (ρ j)) Q)
        -∗ WP c (.op (.load M r.toLoadRect hl) k) Q) := by
  unfold owns
  iintro ⟨%f, %hf, H⟩ K
  have hv : (M.access r).read (Elt F) f = fun j => X (ρ j) := by
    funext j
    show M.view.read (Elt F) f (r.emb j) = _
    rw [hρ]; exact congrFun hf (ρ j)
  have hs : (M.access r).set ⊆ (M.slice r₀ h₀).view.set := by
    intro i hi
    obtain ⟨x, -, rfl⟩ := Finset.mem_map.mp hi
    show M.view.emb (r.emb x) ∈ _
    rw [hρ]
    exact (M.view.slice r₀).emb_mem_set (ρ x)
  iapply (wp_load_rect 𝒱₀ (c : Thread nD τ) none Set.univ (m := M) (r := r) hs) $$ H
  iintro H
  rw [hv]
  iapply K
  iexists f
  isplitr; · ipureintro; exact hf
  iexact H

/-- A load of an owned slice, the offsets equal. -/
theorem wp_load_slice {Q : α → sProp 𝕄} {off off₀ size : Fin s.rank → ℕ} (hoff : off = off₀) {inb : ∀ a, off a + size a ≤ s.size a} {inb₀ : ∀ a, off₀ a + size a ≤ s.size a}
    {h₀ : ∀ a, (Rect.unit off₀ size inb₀).stride a = 1} {hl : M.view.LoadsAt (Rect.unit off size inb)}
    {k : ((Rect.unit off size inb).shape.Idx → Elt F e) → Prog (TpuEff nD τ sig (Elt F) Λ₀ .tc) α} (q : PosShare TreeShare)
    (X : (Rect.unit off₀ size inb₀).shape.Idx → Elt F e) :
    (owns (c : Thread nD τ) (M.slice (Rect.unit off₀ size inb₀) h₀) q X : sProp 𝕄)
      ⊢ iprop((owns (c : Thread nD τ) (M.slice (Rect.unit off₀ size inb₀) h₀) q X -∗ WP c (k X) Q)
        -∗ WP c (.op (.load M (Rect.unit off size inb).toLoadRect hl) k) Q) := by
  subst hoff
  exact wp_load_in c M (r := Rect.unit off size inb) (r₀ := Rect.unit off size inb) id (fun _ => rfl) q X

/-- A store over an owned slice leaves it at what was stored. -/
theorem wp_store_slice {Q : α → sProp 𝕄} {off off₀ size : Fin s.rank → ℕ} (hoff : off = off₀) {inb : ∀ a, off a + size a ≤ s.size a} {inb₀ : ∀ a, off₀ a + size a ≤ s.size a}
    {h₀ : ∀ a, (Rect.unit off₀ size inb₀).stride a = 1} {w : (Rect.unit off size inb).shape.Idx → Elt F e}
    {hx : (M.access (Rect.unit off size inb)).Stores Finset.univ} {hm}
    {k : PUnit → Prog (TpuEff nD τ sig (Elt F) Λ₀ .tc) α}
    (X : (Rect.unit off₀ size inb₀).shape.Idx → Elt F e) :
    (owns (c : Thread nD τ) (M.slice (Rect.unit off₀ size inb₀) h₀) fullShare X : sProp 𝕄)
      ⊢ iprop((owns (c : Thread nD τ) (M.slice (Rect.unit off₀ size inb₀) h₀) fullShare w -∗ WP c (k ⟨⟩) Q)
        -∗ WP c (.op (.store M (Rect.unit off size inb) w Finset.univ hx hm) k) Q) := by
  subst hoff
  unfold owns
  iintro ⟨%f, %hf, H⟩ K
  iapply (wp_store 𝒱₀ (c : Thread nD τ) none Set.univ (m := M) (r := Rect.unit off size inb) (w := w) (Mk := Finset.univ) (f := f)
    (by rw [View.setOn_univ])) $$ H
  iintro H
  iapply K
  iexists (M.access (Rect.unit off size inb)).write (Elt F) f w Finset.univ
  isplitr; · ipureintro; exact View.read_write_univ _ _
  iexact H

/-- A store into an owned memref: at the rectangle what was stored, elsewhere the contents as they were. -/
theorem wp_store_at {Q : α → sProp 𝕄} {r : Rect s} {w : r.shape.Idx → Elt F e} {hx : (M.access r).Stores Finset.univ} {hm}
    {k : PUnit → Prog (TpuEff nD τ sig (Elt F) Λ₀ .tc) α} (X : s.Idx → Elt F e) :
    (owns (c : Thread nD τ) M fullShare X : sProp 𝕄)
      ⊢ iprop((∀ X', ⌜(∀ j, X' (r.emb j) = w j) ∧ ∀ i, (∀ j, r.emb j ≠ i) → X' i = X i⌝ -∗ owns (c : Thread nD τ) M fullShare X' -∗ WP c (k ⟨⟩) Q)
        -∗ WP c (.op (.store M r w Finset.univ hx hm) k) Q) := by
  unfold owns
  iintro ⟨%f, %hf, H⟩ K
  iapply (wp_store 𝒱₀ (c : Thread nD τ) none Set.univ (m := M) (r := r) (w := w) (Mk := Finset.univ) (f := f)
    (by rw [View.setOn_univ]; exact View.set_slice_subset M.view r)) $$ H
  iintro H
  iapply K $$ %(M.view.read (Elt F) ((M.access r).write (Elt F) f w Finset.univ)) [] [H]
  · ipureintro
    refine ⟨fun j => View.read_slice_write_emb r f w (Finset.mem_univ j), fun i hi => ?_⟩
    rw [View.read_slice_write_of_not_mem r f w Finset.univ (by
      intro h; obtain ⟨j, -, hj⟩ := Finset.mem_map.mp h; exact hi j hj), hf]
  · iexists (M.access r).write (Elt F) f w Finset.univ
    isplitr; · ipureintro; rfl
    iexact H

end Access

/-! ## The cells -/

theorem bigSep_out {I : Type} [Fintype I] [DecidableEq I] (x : I) (Φ : I → sProp 𝕄) : bigSep Finset.univ Φ ⊢ iprop(Φ x ∗ bigSep (Finset.univ.erase x) Φ) :=
  Entails.of_eq (bigSep_erase (Finset.mem_univ x))
theorem bigSep_in {I : Type} [Fintype I] [DecidableEq I] (x : I) (Φ : I → sProp 𝕄) : iprop(Φ x ∗ bigSep (Finset.univ.erase x) Φ) ⊢ bigSep Finset.univ Φ :=
  Entails.of_eq (bigSep_erase (Finset.mem_univ x)).symm

/-- A squeezed memref's elements, as an owned memref's and back. -/
theorem owns_of_squeeze (c : Dev nD) {sp : Space} {s s₁ : Shape} {e : EltTy} (M : Memref sig .tc sp s₁ e) (h : s₁.Squeezes s) (q : PosShare TreeShare)
    (f : M.view.ty.Contents (Elt F)) (X : s₁.Idx → Elt F e) (hX : M.view.read (Elt F) f = X) :
    ((M.squeeze s h).view.loc (c : Thread nD τ) ↦[(M.squeeze s h).view.set]{q} f : sProp 𝕄) ⊢ owns (c : Thread nD τ) M q X := by
  have e1 : (M.squeeze s h).view.set = M.view.set := View.set_reshape M.view h.numel_eq
  rw [e1]
  unfold owns
  iintro H
  iexists f
  isplitr; · ipureintro; exact hX
  iexact H
theorem owns_to_squeeze (c : Dev nD) {sp : Space} {s s₁ : Shape} {e : EltTy} (M : Memref sig .tc sp s₁ e) (h : s₁.Squeezes s) (q : PosShare TreeShare)
    (X : s₁.Idx → Elt F e) :
    (owns (c : Thread nD τ) M q X : sProp 𝕄) ⊢ iprop(∃ f : M.view.ty.Contents (Elt F), ⌜M.view.read (Elt F) f = X⌝ ∗ ((M.squeeze s h).view.loc (c : Thread nD τ) ↦[(M.squeeze s h).view.set]{q} f)) := by
  have e1 : (M.squeeze s h).view.set = M.view.set := View.set_reshape M.view h.numel_eq
  rw [e1]
  unfold owns
  exact BIBase.Entails.rfl

/-- What a transfer between squeezed memrefs leaves, read through the destination unsqueezed. -/
theorem read_landed {sp sp' : Space} {s s₁ s₂ : Shape} {e : EltTy} (M : Memref sig .tc sp s₁ e) (M' : Memref sig .tc sp' s₂ e) (h : s₁.Squeezes s) (h' : s₂.Squeezes s)
    (f : M.view.ty.Contents (Elt F)) (g : M'.view.ty.Contents (Elt F)) :
    M'.view.read (Elt F) ((M'.squeeze s h').view.write (Elt F) g ((M.squeeze s h).view.read (Elt F) f) Finset.univ)
      = relay h h' (M.view.read (Elt F) f) := by
  funext z
  obtain ⟨x, rfl⟩ := (Shape.reshapeEquiv h'.numel_eq).surjective z
  refine (View.read_write_of_mem (v := M'.view.reshape s h'.numel_eq) g _ (Finset.mem_univ x)).trans ?_
  unfold relay
  rw [Equiv.symm_apply_apply]
  rfl

instance rec_pers (ck : Dev nD × KC) : BI.Persistent (iprop(cellInv ER (Rd m) (K ck) (cell ck.1 ck.2) ∗ reached ER (cell ck.1 ck.2) 0) : sProp 𝕄) := by
  infer_instance

/-- What every device knows throughout: every cell's invariant, that each has reached its first round, and the levels. -/
def ctx : sProp 𝕄 :=
  iprop(□ ((bigSep Finset.univ fun ck : Dev nD × KC => iprop(cellInv ER (Rd m) (K ck) (cell ck.1 ck.2) ∗ reached ER (cell ck.1 ck.2) 0))
    ∗ levAts L lv))
instance ctx_pers : BI.Persistent (ctx m K) := by unfold ctx; infer_instance

theorem ctx_cell (c : Dev nD) (k : KC) : ctx m K ⊢ iprop(cellInv ER (Rd m) (K (c, k)) (cell c k) ∗ reached ER (cell c k) 0) := by
  unfold ctx
  iintro #H
  icases H with ⟨H, -⟩
  ihave H' := (bigSep_out (c, k) (fun ck : Dev nD × KC => iprop(cellInv ER (Rd m) (K ck) (cell ck.1 ck.2) ∗ reached ER (cell ck.1 ck.2) 0))) $$ H
  icases H' with ⟨H', -⟩
  iexact H'
theorem ctx_lev : ctx m K ⊢ levAts L lv := by
  unfold ctx
  iintro #H
  icases H with ⟨-, H⟩
  iexact H

/-- What device `c` owes after `n` of its duties, whatever its waits so far. -/
def ow (c : Dev nD) (n : ℕ) : sProp 𝕄 := iprop(∃ W, owes (c : Thread nD τ) (O c n) W)

section Steps
variable {α : Type} (c : Dev nD) {k : PUnit → Prog (TpuEff nD τ sig (Elt F) Λ₀ .tc) α}

theorem mayWait' (kc : KC) (n : ℕ) (h : lvK kc < 1 + n / 3 ∨ n = 27) : (levAts L lv : sProp 𝕄) ⊢ MayWait (c : Thread nD τ) (csem kc) () (O c n) := by
  rcases h with h | rfl
  · exact mayWait c (csem kc) n (lvK kc) (lv_cell c kc ()).le h
  · exact mayWait_done c (csem kc)

/-- A wait on a cell of the exchange brings its one payload, and closes the cell. -/
theorem wp_wait_x {Q : α → sProp 𝕄} (a q : Fin 4) (i : Fin 3) (n : ℕ) (hlv : lvK (some (.inl (a, q, i))) < 1 + n / 3 ∨ n = 27)
    {sp sp' : Space} {s : Shape} {e : EltTy} {src : Memref sig .tc sp s e} {dst : Memref sig .tc sp' s e} {sm : DmaSem sig}
    (hs : sm = xS a q i) (hN : dst.view.dmaCredit = NX) {h₁ h₂} :
    iprop(ctx m K ∗ cred (tallyAt (xC c a q i) () NX) ∗ ow c n ∗ atPos ER (xC c a q i) 0 ∅ 0)
      ⊢ iprop(((ow c n ∗ semVal (xC c a q i) 0 ∗ pay m c (some (.inl (a, q, i))) 0 0) -∗ WP c (k ⟨⟩) Q)
        -∗ WP c (.op (.waitDma2 sm src dst h₁ h₂) k) Q) := by
  subst hs
  unfold ow
  iintro ⟨#Hc, Hcr, ⟨%W, HO⟩, Hat⟩ K
  ihave Hi := (ctx_cell m K c (some (.inl (a, q, i)))) $$ Hc
  icases Hi with ⟨#Hi, -⟩
  iapply (Rounds.wp_wait_rest_token 𝒱₀ ER (Rd m) (c : Thread nD τ) none (κ := K (c, some (.inl (a, q, i))))
      (wpE_waitDma2_eq 𝒱₀ (c : Thread nD τ) none Set.univ) (Set.mem_univ _) () (O := O c n) (W := W) (R := 0) (m := 0) (T := ∅)
      (by
        show 0 + dst.view.dmaCredit = (Rd m).expect (cell c (some (.inl (a, q, i)))) 0
        rw [Rd_expect, hN, Nat.zero_add]; exact (Nat.one_mul NX).symm)) $$ [Hcr HO Hat]
  · rw [hN]
    isplitr; · iexact Hi
    isplitl [Hcr]; · iexact Hcr
    isplitl [HO]; · iexact HO
    isplitr
    · iapply (mayWait' c (some (.inl (a, q, i))) n hlv); iapply (ctx_lev m K); iexact Hc
    iexact Hat
  iintro ⟨HO, Hat, -, Hpay⟩
  imod (Rounds.cell_close ER (Rd m) (Set.mem_univ (K (c, some (.inl (a, q, i))))) (fun h => h) (R := 0 + 1)
    (dut_later m c (some (.inl (a, q, i))) rfl)) $$ [Hat] with Hz
  · isplitr; · iexact Hi
    iexact Hat
  iapply K
  isplitl [HO]; · iexists _; iexact HO
  isplitl [Hz]; · iexact Hz
  iapply (Entails.of_eq ((Rd_rest m c (some (.inl (a, q, i))) 0).trans bigSep_singleton))
  iexact Hpay

/-- A transfer to a peer: its source goes to the send cell's payload, what lands to the receive cell's. -/
theorem wp_send_x {Q : α → sProp 𝕄} (a a' q : Fin 4) (i : Fin 3) (n : ℕ) (hn : n < 27) (hd : dueC c n = xC (dst c i) a' q i) (hdn : dueN n = NX)
    {sp sp' : Space} {s s₁ s₂ : Shape} {e : EltTy} {M : Memref sig .tc sp s₁ e} {M' : Memref sig .tc sp' s₂ e} {hsq : s₁.Squeezes s} {hsq' : s₂.Squeezes s}
    {d : Dev nD} {s1 s2 : DmaSem sig} (hdv : d = dst c i) (hs1 : s1 = xS a q i) (hs2 : s2 = xS a' q i)
    (hN : (M'.squeeze s hsq').view.dmaCredit = NX) {hsc h₁ h₂ h₃}
    (sh : PosShare TreeShare) (X : s₁.Idx → Elt F e) (Y : s₂.Idx → Elt F e)
    (hp : (owns (c : Thread nD τ) M sh X : sProp 𝕄) ⊢ pay m c (some (.inl (a, q, i))) 0 0)
    (hp' : (owns (dst c i : Thread nD τ) M' fullShare (relay hsq hsq' X) : sProp 𝕄) ⊢ pay m (dst c i) (some (.inl (a', q, i))) 0 0) :
    iprop(ctx m K ∗ owns (c : Thread nD τ) M sh X ∗ owns (dst c i : Thread nD τ) M' fullShare Y ∗ ow c n
        ∗ dutyTok ER (xC c a q i) 0 0 ∗ dutyTok ER (xC (dst c i) a' q i) 0 0)
      ⊢ iprop(((cred (tallyAt (xC c a q i) () NX) ∗ ow c (n + 1)) -∗ WP c (k ⟨⟩) Q)
        -∗ WP c (.op (.enqueueDma (M.squeeze s hsq) (.remote (Dev.tc d : Thread nD τ) (M'.squeeze s hsq') (.dma s1) hsc) (.dma s2) h₁ h₂ h₃) k) Q) := by
  subst hdv hs1 hs2
  iintro ⟨#Hc, Hs, Hd, HO, Ht, Ht'⟩ K
  ihave Hi := (ctx_cell m K c (some (.inl (a, q, i)))) $$ Hc
  icases Hi with ⟨#Hi, #Hr⟩
  ihave Hi' := (ctx_cell m K (dst c i) (some (.inl (a', q, i)))) $$ Hc
  icases Hi' with ⟨#Hi', #Hr'⟩
  unfold ow
  ihave Hs := (owns_to_squeeze c M hsq sh X) $$ Hs
  ihave Hd := (owns_to_squeeze (dst c i) M' hsq' fullShare Y) $$ Hd
  icases Hs with ⟨%f, %hf, Hs⟩
  icases Hd with ⟨%g, %hg, Hd⟩
  icases HO with ⟨%W, HO⟩
  iapply (Rounds.wp_send_pointsTo 𝒱₀ ER (Rd m) (c : Thread nD τ) none (c' := (dst c i : Thread nD τ)) (src := M.squeeze s hsq) (dst := M'.squeeze s hsq')
    (sS := .dma (xS a q i)) (sem := .dma (xS a' q i)) (hsc := hsc) (κ₁ := K (c, some (.inl (a, q, i)))) (κ₂ := K (dst c i, some (.inl (a', q, i))))
    (r₁ := 0) (r₂ := 0) (d₁ := 0) (d₂ := 0) (q := sh) (fs := f) (fd := g)
    (by rw [show (Rd m).duties (xC c a q i) 0 = _ from Rd_duties m c (some (.inl (a, q, i))) 0]; exact Finset.mem_singleton_self _)
    (by rw [show (Rd m).duties (xC (dst c i) a' q i) 0 = _ from Rd_duties m (dst c i) (some (.inl (a', q, i))) 0]; exact Finset.mem_singleton_self _)
    () () NX hN (Rd_amount m c (some (.inl (a, q, i))) 0 0) (Rd_amount m (dst c i) (some (.inl (a', q, i))) 0 0)
    (O₀ := O c n) (O c (n + 1)) (by rw [O_step c hn, hd, hdn]) (W := W)
    (by
      rw [show (Rd m).payload (xC c a q i) 0 0 = _ from Rd_payload m c (some (.inl (a, q, i))) 0 0]
      exact (owns_of_squeeze c M hsq sh f X hf).trans hp)
    (by
      rw [show (Rd m).payload (xC (dst c i) a' q i) 0 0 = _ from Rd_payload m (dst c i) (some (.inl (a', q, i))) 0 0]
      exact (owns_of_squeeze (dst c i) M' hsq' fullShare _ _ ((read_landed M M' hsq hsq' f g).trans (by rw [hf]))).trans hp')) $$ [Hs Hd HO Ht Ht']
  · isplitr; · iexact Hi
    isplitr; · iexact Hi'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hcr, HO⟩
  iapply K
  isplitl [Hcr]; · iexact Hcr
  iexists W
  iexact HO

/-- The signal to peer `i`, handing over this device's landing slots for it. -/
theorem wp_signal_x {Q : α → sProp 𝕄} (i : Fin 3) {d : Dev nD} (hdv : d = dst c i) (n : ℕ) (hn : n = i.val) {w : ℕ} (hw : w = 1) :
    iprop(ctx m K ∗ landing (F := F) c (rev i) ∗ ow c n ∗ dutyTok ER (barC (dst c i)) 0 i)
      ⊢ iprop((ow c (n + 1) -∗ WP c (k ⟨⟩) Q) -∗ WP c (.op (.semSignal (Dev.tc d : Thread nD τ) barS w) k) Q) := by
  subst hdv hn hw
  unfold ow
  iintro ⟨#Hc, Hl, ⟨%W, HO⟩, Ht⟩ K
  ihave Hi := (ctx_cell m K (dst c i) none) $$ Hc
  icases Hi with ⟨#Hi, #Hr⟩
  iapply (Rounds.wp_signal 𝒱₀ ER (Rd m) (c : Thread nD τ) none (dst := (dst c i : Thread nD τ)) (sem := barS) (κ := K (dst c i, none)) (r := 0) (d := i)
    (by rw [show (Rd m).duties (barC (dst c i)) 0 = _ from Rd_duties m (dst c i) none 0]; exact Finset.mem_univ _)
    (Rd_amount m (dst c i) none 0 i) () (O₀ := O c i.val) (O c (i.val + 1))
    (by rw [O_step c (by omega), dueC_bar, show dueN i.val = 1 from if_pos i.isLt]; rfl) (W := W)) $$ [HO Ht Hl]
  · isplitr; · iexact Hi
    isplitl [HO]; · iexact HO
    isplitl [Ht]; · iexact Ht
    isplitl [Hl]
    · iapply (Entails.of_eq (show landing (F := F) c (rev i) = (Rd m).payload (barC (dst c i)) 0 i from by
        rw [show (Rd m).payload (barC (dst c i)) 0 i = _ from Rd_payload m (dst c i) none 0 i]
        show _ = landing (F := F) (src (dst c i) i) (rev i)
        rw [src_dst]))
      iexact Hl
    iexact Hr
  iintro HO
  iapply K
  iexists W
  iexact HO

/-- The barrier's wait brings every peer's landing slots for this device. -/
theorem wp_wait_bar {Q : α → sProp 𝕄} {w : ℕ} (hw : w = 3) :
    iprop(ctx m K ∗ cred (tallyAt (barC c) () 3) ∗ ow c 3 ∗ atPos ER (barC c) 0 ∅ 0)
      ⊢ iprop(((ow c 3 ∗ semVal (barC c) 0 ∗ bigSep Finset.univ fun i : Fin 3 => landing (F := F) (src c i) (rev i)) -∗ WP c (k ⟨⟩) Q)
        -∗ WP c (.op (.semWait barS w) k) Q) := by
  subst hw
  unfold ow
  iintro ⟨#Hc, Hcr, ⟨%W, HO⟩, Hat⟩ K
  ihave Hi := (ctx_cell m K c none) $$ Hc
  icases Hi with ⟨#Hi, -⟩
  iapply (Rounds.wp_wait_rest_token 𝒱₀ ER (Rd m) (c : Thread nD τ) none (κ := K (c, none))
      (wpE_semWait_eq 𝒱₀ (c : Thread nD τ) none Set.univ) (Set.mem_univ _) () (O := O c 3) (W := W) (R := 0) (m := 0) (T := ∅)
      (by
        show 0 + 3 = (Rd m).expect (cell c none) 0
        rw [Rd_expect]; rfl)) $$ [Hcr HO Hat]
  · isplitr; · iexact Hi
    isplitl [Hcr]; · iexact Hcr
    isplitl [HO]; · iexact HO
    isplitr
    · iapply (mayWait' c none 3 (.inl (by decide))); iapply (ctx_lev m K); iexact Hc
    iexact Hat
  iintro ⟨HO, Hat, -, Hpay⟩
  imod (Rounds.cell_close ER (Rd m) (Set.mem_univ (K (c, none))) (fun h => h) (R := 0 + 1) (dut_later m c none rfl)) $$ [Hat] with Hz
  · isplitr; · iexact Hi
    iexact Hat
  iapply K
  isplitl [HO]; · iexists _; iexact HO
  isplitl [Hz]; · iexact Hz
  iapply (Entails.of_eq (Rd_rest m c none 0))
  iexact Hpay

/-! ## The prefetch -/

/-- Slot `p`'s cell after `r` of its four rounds: at its `r`-th, or closed. -/
def slotAt (c : Dev nD) (p : Fin 2) (r : ℕ) : sProp 𝕄 :=
  if r = 4 then semVal (pC c p) 0 else iprop(atPos ER (pC c p) r ∅ 0 ∗ reached ER (pC c p) r)

theorem slotAt_lt {p : Fin 2} {r : ℕ} (h : r < 4) : slotAt (F := F) c p r = iprop(atPos ER (pC c p) r ∅ 0 ∗ reached ER (pC c p) r) := if_neg (by omega)

/-- The prefetch of expert `pe p r` into slot `p`. -/
theorem wp_prefetch {Q : α → sProp 𝕄} (p : Fin 2) (r : ℕ) (hr : r < 4)
    {M : Memref sig .tc .hbm S1x1024x1024 .f32} {M' : Memref sig .tc .vmem S1x1024x1024 .f32} {sm : DmaSem sig}
    (hM : M = wE (pe p r)) (hM' : M' = stg p) (hs : sm = pS p) {h₁ h₂ h₃} (Y : S1x1024x1024.Idx → Elt F .f32) :
    iprop(ctx m K ∗ owns (c : Thread nD τ) (wE (pe p r)) fullShare.right (wraw m c (pe p r)) ∗ owns (c : Thread nD τ) (stg p) fullShare Y
        ∗ slotAt c p r ∗ dutyTok ER (pC c p) r 0)
      ⊢ iprop(((cred (tallyAt (pC c p) () NW) ∗ slotAt c p r) -∗ WP c (k ⟨⟩) Q)
        -∗ WP c (.op (.enqueueDma (M.squeeze S1024x1024 squeezes_S1x1024x1024_S1024x1024) (.here (M'.squeeze S1024x1024 squeezes_S1x1024x1024_S1024x1024)) (.dma sm) h₁ h₂ h₃) k) Q) := by
  subst hM hM' hs
  rw [slotAt_lt c hr]
  iintro ⟨#Hc, Hs, Hd, ⟨Hat, #Hr⟩, Ht⟩ K
  ihave Hi := (ctx_cell m K c (some (.inr p))) $$ Hc
  icases Hi with ⟨#Hi, -⟩
  ihave Hs := (owns_to_squeeze c (wE (pe p r)) squeezes_S1x1024x1024_S1024x1024 _ _) $$ Hs
  ihave Hd := (owns_to_squeeze c (stg p) squeezes_S1x1024x1024_S1024x1024 fullShare Y) $$ Hd
  icases Hs with ⟨%f, %hf, Hs⟩
  icases Hd with ⟨%g, %hg, Hd⟩
  iapply (Rounds.wp_copy_pointsTo 𝒱₀ ER (Rd m) (c : Thread nD τ) none (src := (wE (pe p r)).squeeze S1024x1024 squeezes_S1x1024x1024_S1024x1024)
    (dst := (stg p).squeeze S1024x1024 squeezes_S1x1024x1024_S1024x1024) (sem := .dma (pS p)) (κ := K (c, some (.inr p))) (r := r) (d := 0) (q := fullShare.right) (fs := f) (fd := g)
    (by rw [show (Rd m).duties (pC c p) r = _ from Rd_duties m c (some (.inr p)) r]; show 0 ∈ (if r < 4 then {0} else ∅ : Finset (Fin 3)); rw [if_pos hr]; exact Finset.mem_singleton_self _)
    () NW (by rw [NW]) (Rd_amount m c (some (.inr p)) r 0)
    (by
      rw [show (Rd m).payload (pC c p) r 0 = _ from Rd_payload m c (some (.inr p)) r 0]
      show _ ⊢ iprop(owns (c : Thread nD τ) (stg p) fullShare (wraw m c (pe p r)) ∗ owns (c : Thread nD τ) (wE (pe p r)) fullShare.right (wraw m c (pe p r)))
      exact BIClass.sep_mono (owns_of_squeeze c (stg p) _ fullShare _ _ ((read_landed (wE (pe p r)) (stg p) _ _ f g).trans (by
          rw [hf]; funext z; unfold relay; rw [Equiv.apply_symm_apply])))
        (owns_of_squeeze c (wE (pe p r)) _ _ f _ hf))) $$ [Hs Hd Ht]
  · isplitr; · iexact Hi
    isplitl [Hs]; · iexact Hs
    isplitl [Hd]; · iexact Hd
    isplitl [Ht]; · iexact Ht
    iexact Hr
  iintro Hcr
  iapply K
  isplitl [Hcr]; · iexact Hcr
  isplitl [Hat]; · iexact Hat
  iexact Hr

/-- The prefetch's wait: the slot holds the expert's weights, whose elements come back. -/
theorem wp_wait_p {Q : α → sProp 𝕄} (p : Fin 2) (r : ℕ) (hr : r < 4) (n : ℕ)
    {sp sp' : Space} {s : Shape} {e : EltTy} {src : Memref sig .tc sp s e} {dst : Memref sig .tc sp' s e} {sm : DmaSem sig}
    (hs : sm = pS p) (hN : dst.view.dmaCredit = NW) {h₁ h₂} :
    iprop(ctx m K ∗ cred (tallyAt (pC c p) () NW) ∗ ow c n ∗ slotAt c p r)
      ⊢ iprop(((ow c n ∗ slotAt c p (r + 1) ∗ owns (c : Thread nD τ) (stg p) fullShare (wraw m c (pe p r))
          ∗ owns (c : Thread nD τ) (wE (pe p r)) fullShare.right (wraw m c (pe p r))) -∗ WP c (k ⟨⟩) Q)
        -∗ WP c (.op (.waitDma2 sm src dst h₁ h₂) k) Q) := by
  subst hs
  rw [slotAt_lt c hr]
  unfold ow
  iintro ⟨#Hc, Hcr, ⟨%W, HO⟩, ⟨Hat, -⟩⟩ K
  ihave Hi := (ctx_cell m K c (some (.inr p))) $$ Hc
  icases Hi with ⟨#Hi, -⟩
  have hdut : dut (some (.inr p)) r = {0} := if_pos hr
  iapply (Rounds.wp_wait_rest_token 𝒱₀ ER (Rd m) (c : Thread nD τ) none (κ := K (c, some (.inr p)))
      (wpE_waitDma2_eq 𝒱₀ (c : Thread nD τ) none Set.univ) (Set.mem_univ _) () (O := O c n) (W := W) (R := r) (m := 0) (T := ∅)
      (by
        show 0 + dst.view.dmaCredit = (Rd m).expect (cell c (some (.inr p))) r
        rw [Rd_expect, hN, Nat.zero_add, hdut]; exact (Nat.one_mul NW).symm)) $$ [Hcr HO Hat]
  · rw [hN]
    isplitr; · iexact Hi
    isplitl [Hcr]; · iexact Hcr
    isplitl [HO]; · iexact HO
    isplitr
    · iapply (mayWait' c (some (.inr p)) n (.inl (by show 0 < _; omega))); iapply (ctx_lev m K); iexact Hc
    iexact Hat
  iintro ⟨HO, Hat, Hr, Hpay⟩
  have hrest : bigSep ((Rd m).duties (pC c p) r \ ∅) (fun d => (Rd m).payload (pC c p) r d) = iprop(owns (c : Thread nD τ) (stg p) fullShare (wraw m c (pe p r))
      ∗ owns (c : Thread nD τ) (wE (pe p r)) fullShare.right (wraw m c (pe p r))) :=
    (Rd_rest m c (some (.inr p)) r).trans ((congrArg (fun s => bigSep s _) hdut).trans bigSep_singleton)
  ihave Hp := (Entails.of_eq hrest) $$ Hpay
  by_cases h4 : r + 1 = 4
  · imod (Rounds.cell_close ER (Rd m) (Set.mem_univ (K (c, some (.inr p)))) (fun h => h) (R := r + 1) (dut_later m c (some (.inr p)) h4)) $$ [Hat] with Hz
    · isplitr; · iexact Hi
      iexact Hat
    iapply K
    isplitl [HO]; · iexists _; iexact HO
    isplitl [Hz]
    · unfold slotAt; rw [if_pos h4]; iexact Hz
    iexact Hp
  · iapply K
    isplitl [HO]; · iexists _; iexact HO
    isplitl [Hat Hr]
    · rw [slotAt_lt c (by omega)]
      isplitl [Hat]; · iexact Hat
      iexact Hr
    iexact Hp

end Steps
end Cert.MoE
-- ==== Proof.Conds.lean ====
/-
# The branches, offsets, semaphores and credits of the body
-/
module

public import proofs.«01_k».proof.Proof.Ops

@[expose] public section

noncomputable section

namespace Cert.MoE

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The branches -/

theorem cond1_iff : ∀ q e, k0_cond1 (co q e) = 1#1 ↔ q = 0 := by decide +kernel
theorem cond2_iff : ∀ q e, Scalar.cmpi .ne (Scalar.extui (Scalar.cmpi .eq (BitVec.ofNat 32 (co q e 1).val) 0#32) : BitVec 32) 0#32 = 1#1 ↔ e = 0 := by
  decide +kernel
theorem cond3_iff : ∀ q e, k0_cond3 (co q e) = 1#1 ↔ e.val < 7 := by decide +kernel
theorem cond4_iff : ∀ q e, k0_cond4 (co q e) = 1#1 ↔ e = 0 := by decide +kernel
theorem cond5_iff : ∀ q e, k0_cond5 (co q e) = 1#1 ↔ q = 0 ∧ e = 7 := by decide +kernel
theorem cond6_iff : ∀ q e, k0_cond6 (co q e) = 1#1 ↔ e = 7 := by decide +kernel
theorem cond7_iff : ∀ q e, k0_cond7 (co q e) = 1#1 ↔ q ≠ 0 ∧ e = 3 := by decide +kernel
theorem cond8_iff : ∀ q e, k0_cond8 (co q e) = 1#1 ↔ q ≠ 0 ∧ e = 7 := by decide +kernel
theorem cond9_iff : ∀ q e, k0_cond9 (co q e) = 1#1 ↔ q = 3 ∧ e = 7 := by decide +kernel

/-! ## The offsets -/

theorem off1 (q e) : k0_off1 (co q e) = ![e.val % 2] := by rw [k0_off1_eq, co_1]
theorem off2 (q e) : k0_off2 (co q e) = ![e.val % 2, 0, 0] := by rw [k0_off2_eq, co_1]
theorem off3 (q e) : k0_off3 (co q e) = ![e.val, 0, 0] := by rw [k0_off3_eq, co_1]
theorem off4 (q e) : k0_off4 (co q e) = ![e.val % 2, 0, 0] := by rw [k0_off4_eq, co_1]
theorem off5 (q e) : k0_off5 (co q e) = ![e.val, 0, 0] := by rw [k0_off5_eq, co_1]
theorem off6 (q e) : k0_off6 (co q e) = ![1 - e.val % 2] := by rw [k0_off6_eq, co_1]
theorem off7 (q e) : k0_off7 (co q e) = ![1 - e.val % 2, 0, 0] := by rw [k0_off7_eq, co_1]
theorem off8 (q e) : k0_off8 (co q e) = ![e.val + 1, 0, 0] := by rw [k0_off8_eq, co_1]
theorem off9 (q e) : k0_off9 (co q e) = ![512 * q.val, 0] := by rw [k0_off9_eq, co_0]
theorem off10 (q e) : k0_off10 (co q e) = ![e.val, 0, 0] := by rw [k0_off10_eq, co_1]
theorem off11 (q e) : k0_off11 (co q e) = ![512 * q.val, 0] := by rw [k0_off11_eq, co_0]
theorem off12 (q e) (c : Dev nD) (k : Fin 3) : k0_off12 (co q e) c (BitVec.ofNat 32 (1 + k.val)) = ![512 * q.val + 128 * (dst c k).val, 0] := by
  rw [k0_off12_eq, co_0]; rfl
theorem off13 (q e) : k0_off13 (co q e) = ![q.val, (0 : Fin 3).val, 0, 0] := by rw [k0_off13_eq, co_0]; rfl
theorem off14 (q e) : k0_off14 (co q e) = ![q.val, (1 : Fin 3).val, 0, 0] := by rw [k0_off14_eq, co_0]; rfl
theorem off15 (q e) : k0_off15 (co q e) = ![q.val, (2 : Fin 3).val, 0, 0] := by rw [k0_off15_eq, co_0]; rfl
theorem off16 (q e) : k0_off16 (co q e) = ![q.val, (0 : Fin 3).val] := by rw [k0_off16_eq, co_0]; rfl
theorem off17 (q e) : k0_off17 (co q e) = ![q.val, (0 : Fin 3).val, 0, 0] := by rw [k0_off17_eq, co_0]; rfl
theorem off18 (q e) : k0_off18 (co q e) = ![q.val, (1 : Fin 3).val] := by rw [k0_off18_eq, co_0]; rfl
theorem off19 (q e) : k0_off19 (co q e) = ![q.val, (1 : Fin 3).val, 0, 0] := by rw [k0_off19_eq, co_0]; rfl
theorem off20 (q e) : k0_off20 (co q e) = ![q.val, (2 : Fin 3).val] := by rw [k0_off20_eq, co_0]; rfl
theorem off21 (q e) : k0_off21 (co q e) = ![q.val, (2 : Fin 3).val, 0, 0] := by rw [k0_off21_eq, co_0]; rfl

section Before
variable (q q' : Fin 4) (h : q.val + 1 = q'.val) (c : Dev nD)
include h

theorem off22 : k0_off22 (co q' 3) = ![q.val, (0 : Fin 3).val] := by revert q q'; decide +kernel
theorem off23 : k0_off23 (co q' 3) = ![q.val, (0 : Fin 3).val, 0, 0] := by revert q q'; decide +kernel
theorem off24 : k0_off24 (co q' 3) = ![q.val, (1 : Fin 3).val] := by revert q q'; decide +kernel
theorem off25 : k0_off25 (co q' 3) = ![q.val, (1 : Fin 3).val, 0, 0] := by revert q q'; decide +kernel
theorem off26 : k0_off26 (co q' 3) = ![q.val, (2 : Fin 3).val] := by revert q q'; decide +kernel
theorem off27 : k0_off27 (co q' 3) = ![q.val, (2 : Fin 3).val, 0, 0] := by revert q q'; decide +kernel
theorem off28 : k0_off28 (co q' 3) c = ![512 * q.val + 128 * c.val, 0] := by revert q q' c; decide +kernel
theorem off29 : k0_off29 (co q' 3) = ![q.val, (0 : Fin 3).val, 0, 0] := by revert q q'; decide +kernel
theorem off30 : k0_off30 (co q' 3) = ![q.val, (1 : Fin 3).val, 0, 0] := by revert q q'; decide +kernel
theorem off31 : k0_off31 (co q' 3) = ![q.val, (2 : Fin 3).val, 0, 0] := by revert q q'; decide +kernel
theorem off32 : k0_off32 (co q' 3) = ![q.val, 0, 0] := by revert q q'; decide +kernel
theorem off33 : k0_off33 (co q' 3) = ![q.val, 0, 0] := by revert q q'; decide +kernel
theorem off34 : k0_off34 (co q' 7) = ![q.val, (0 : Fin 3).val] := by revert q q'; decide +kernel
theorem off35 : k0_off35 (co q' 7) = ![q.val, 0, 0] := by revert q q'; decide +kernel
theorem off36 : k0_off36 (co q' 7) = ![q.val, (0 : Fin 3).val, 0, 0] := by revert q q'; decide +kernel
theorem off37 : k0_off37 (co q' 7) = ![q.val, (0 : Fin 3).val, 0, 0] := by revert q q'; decide +kernel
theorem off38 (k : Fin 3) : k0_off38 (co q' 7) c (BitVec.ofNat 32 (3 - k.val)) = ![512 * q.val + 128 * (src c k).val, 0] := by
  revert q q' c k; decide +kernel
theorem off39 : k0_off39 (co q' 7) = ![q.val, (1 : Fin 3).val] := by revert q q'; decide +kernel
theorem off40 : k0_off40 (co q' 7) = ![q.val, (1 : Fin 3).val, 0, 0] := by revert q q'; decide +kernel
theorem off41 : k0_off41 (co q' 7) = ![q.val, (1 : Fin 3).val, 0, 0] := by revert q q'; decide +kernel
theorem off42 : k0_off42 (co q' 7) = ![q.val, (2 : Fin 3).val] := by revert q q'; decide +kernel
theorem off43 : k0_off43 (co q' 7) = ![q.val, (2 : Fin 3).val, 0, 0] := by revert q q'; decide +kernel
theorem off44 : k0_off44 (co q' 7) = ![q.val, (2 : Fin 3).val, 0, 0] := by revert q q'; decide +kernel
end Before

theorem off45 (c : Dev nD) : k0_off45 c = ![512 * (3 : Fin 4).val + 128 * c.val, 0] := by revert c; decide +kernel
theorem off46 (c : Dev nD) (k : Fin 3) : k0_off46 c (BitVec.ofNat 32 (3 - k.val)) = ![512 * (3 : Fin 4).val + 128 * (src c k).val, 0] := by
  revert c k; decide +kernel

/-! ## The semaphores -/

/-- The four arrays of the exchange's semaphores. -/
abbrev sems : Fin 4 → DmaSems sig S4x3
  | 0 => cc0_scratch11
  | 1 => cc0_scratch12
  | 2 => cc0_scratch13
  | 3 => cc0_scratch14

theorem inbS (q : Fin 4) (k : Fin 3) : ∀ a, (![q.val, k.val] : Fin 2 → Nat) a + S1x1.size a ≤ S4x3.size a := by revert q k; decide
theorem inbSP (p : Fin 2) : ∀ a, (![p.val] : Fin 1 → Nat) a + S1.size a ≤ S2.size a := by revert p; decide

theorem sem_x (a q : Fin 4) (k : Fin 3) {off : Fin 2 → ℕ} (h : off = ![q.val, k.val]) {inb : ∀ x, off x + S1x1.size x ≤ S4x3.size x} :
    (((sems a).slice (Rect.unit (s := S4x3) off S1x1.size inb)).squeeze S_ squeezes_S1x1_S_).sem = xS a q k := by
  subst h
  have key : ∀ (a q : Fin 4) (k : Fin 3), (((sems a).slice (Rect.unit (s := S4x3) ![q.val, k.val] S1x1.size (inbS q k))).squeeze S_ squeezes_S1x1_S_).sem = xS a q k := by
    decide +kernel
  exact key a q k
theorem sem_p (p : Fin 2) {off : Fin 1 → ℕ} (h : off = ![p.val]) {inb : ∀ x, off x + S1.size x ≤ S2.size x} :
    (((cc0_scratch6 : DmaSems sig S2).slice (Rect.unit (s := S2) off S1.size inb)).squeeze S_ squeezes_S1_S_).sem = pS p := by
  subst h
  have key : ∀ (p : Fin 2), (((cc0_scratch6 : DmaSems sig S2).slice (Rect.unit (s := S2) ![p.val] S1.size (inbSP p))).squeeze S_ squeezes_S1_S_).sem = pS p := by
    decide +kernel
  exact key p

/-! ## The credits -/

theorem credit_rsS {off inb h} : (((rsSM.slice (Rect.unit (s := S4x3x128x1024) off S1x1x128x1024.size inb) h).squeeze S128x1024 squeezes_S1x1x128x1024_S128x1024).view).dmaCredit = NX := by
  rw [NX]
theorem credit_rsR {off inb h} : (((rsRM.slice (Rect.unit (s := S4x3x128x1024) off S1x1x128x1024.size inb) h).squeeze S128x1024 squeezes_S1x1x128x1024_S128x1024).view).dmaCredit = NX := by
  rw [NX]
theorem credit_agR {off inb h} : (((agRM.slice (Rect.unit (s := S4x3x128x1024) off S1x1x128x1024.size inb) h).squeeze S128x1024 squeezes_S1x1x128x1024_S128x1024).view).dmaCredit = NX := by
  rw [NX]
theorem credit_agS {off inb h} : (((agSM.slice (Rect.unit (s := S4x128x1024) off S1x128x1024.size inb) h).squeeze S128x1024 squeezes_S1x128x1024_S128x1024).view).dmaCredit = NX := by
  rw [NX]
theorem credit_stg {off inb h} : (((stgM.slice (Rect.unit (s := S2x1024x1024) off S1x1024x1024.size inb) h).squeeze S1024x1024 squeezes_S1x1024x1024_S1024x1024).view).dmaCredit = NW := by
  rw [NW]

/-! ## Whole accesses -/

/-- A whole buffer's rectangle reads it as it is. -/
theorem emb_whole2 {s : Shape} {off : Fin s.rank → ℕ} (h0 : off = fun _ => 0) {inb : ∀ a, off a + s.size a ≤ s.size a} (j : s.Idx) :
    (Rect.unit off s.size inb).emb j = j := by
  subst h0
  funext a
  apply Fin.ext
  simp [Rect.emb, Rect.unit]
theorem zero2 : (![0, 0] : Fin 2 → ℕ) = fun _ => 0 := funext fun a => by fin_cases a <;> rfl

end Cert.MoE
-- ==== Proof.State.lean ====
/-
# What a device holds between its steps
-/
module

public import proofs.«01_k».proof.Proof.Conds

@[expose] public section

noncomputable section

namespace Cert.MoE

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × KC → ℕ)

/-! ## The exchange's resources, quarter by quarter -/

section Comm
variable (c : Dev nD)

/-- Positions, credits and zeros of the exchange's cells on `c`, and the two tokens of a transfer. -/
def posx (a q : Fin 4) (k : Fin 3) : sProp 𝕄 := atPos ER (xC c a q k) 0 ∅ 0
def crx (a q : Fin 4) (k : Fin 3) : sProp 𝕄 := cred (tallyAt (xC c a q k) () NX)
def zx (a q : Fin 4) (k : Fin 3) : sProp 𝕄 := semVal (xC c a q k) 0
def tkx (a a' q : Fin 4) (k : Fin 3) : sProp 𝕄 := iprop(dutyTok ER (xC c a q k) 0 0 ∗ dutyTok ER (xC (dst c k) a' q k) 0 0)
def anyRsS (q : Fin 4) (k : Fin 3) : sProp 𝕄 := iprop(∃ X, owns (c : Thread nD τ) (rsS q k) fullShare X)
def anyAgS (q : Fin 4) : sProp 𝕄 := iprop(∃ X, owns (c : Thread nD τ) (agS q) fullShare X)

/-- Transfer pair `k` of a quarter before the devices have met. -/
def I0 (q : Fin 4) (k : Fin 3) : sProp 𝕄 :=
  iprop(anyRsS (F := F) c q k ∗ tkx (F := F) c 0 1 q k ∗ tkx (F := F) c 2 3 q k ∗ posx (F := F) c 0 q k ∗ posx (F := F) c 1 q k ∗ posx (F := F) c 2 q k ∗ posx (F := F) c 3 q k
    ∗ crx (F := F) c 1 q k ∗ crx (F := F) c 3 q k)
/-- After: the peer's landing slots with it. -/
def I1 (q : Fin 4) (k : Fin 3) : sProp 𝕄 :=
  iprop(I0 (F := F) c q k ∗ anyRsR (F := F) (dst c k) q k ∗ anyAgR (F := F) (dst c k) q k)
/-- With the scatter on its way. -/
def I2 (q : Fin 4) (k : Fin 3) : sProp 𝕄 :=
  iprop(anyAgR (F := F) (dst c k) q k ∗ tkx (F := F) c 2 3 q k ∗ posx (F := F) c 0 q k ∗ posx (F := F) c 1 q k ∗ posx (F := F) c 2 q k ∗ posx (F := F) c 3 q k
    ∗ crx (F := F) c 0 q k ∗ crx (F := F) c 1 q k ∗ crx (F := F) c 3 q k)
/-- With the gather on its way. -/
def I3 (q : Fin 4) (k : Fin 3) : sProp 𝕄 :=
  iprop(anyRsS (F := F) c q k ∗ anyRsR (F := F) c q k ∗ zx (F := F) c 0 q k ∗ zx (F := F) c 1 q k ∗ posx (F := F) c 2 q k ∗ posx (F := F) c 3 q k
    ∗ crx (F := F) c 2 q k ∗ crx (F := F) c 3 q k)
/-- Done. -/
def I4 (q : Fin 4) (k : Fin 3) : sProp 𝕄 :=
  iprop(anyRsS (F := F) c q k ∗ anyRsR (F := F) c q k ∗ anyAgR (F := F) c q k ∗ zx (F := F) c 0 q k ∗ zx (F := F) c 1 q k ∗ zx (F := F) c 2 q k ∗ zx (F := F) c 3 q k)

/-- Quarter `q` in its phase. -/
def Cq (q : Fin 4) : Fin 5 → sProp 𝕄
  | 0 => iprop(anyAgS (F := F) c q ∗ I0 (F := F) c q 0 ∗ I0 (F := F) c q 1 ∗ I0 (F := F) c q 2)
  | 1 => iprop(anyAgS (F := F) c q ∗ I1 (F := F) c q 0 ∗ I1 (F := F) c q 1 ∗ I1 (F := F) c q 2)
  | 2 => iprop(anyAgS (F := F) c q ∗ I2 (F := F) c q 0 ∗ I2 (F := F) c q 1 ∗ I2 (F := F) c q 2)
  | 3 => iprop(I3 (F := F) c q 0 ∗ I3 (F := F) c q 1 ∗ I3 (F := F) c q 2)
  | 4 => iprop(anyAgS (F := F) c q ∗ I4 (F := F) c q 0 ∗ I4 (F := F) c q 1 ∗ I4 (F := F) c q 2)

def Cs (f : Fin 4 → Fin 5) : sProp 𝕄 := bigSep Finset.univ fun q => Cq (F := F) c q (f q)

theorem Cs_turn (f : Fin 4 → Fin 5) (q : Fin 4) :
    Cs (F := F) c f ⊢ iprop(Cq (F := F) c q (f q) ∗ ∀ s, Cq (F := F) c q s -∗ Cs (F := F) c (Function.update f q s)) :=
  bigSep_univ_turn (α := fun _ => Fin 5) (fun q s => Cq (F := F) c q s) f q

/-- The barrier: its tokens, position and credit, and this device's landing slots, before; after, its cell closed. -/
def Br : Bool → sProp 𝕄
  | false => iprop((bigSep Finset.univ fun i : Fin 3 => dutyTok ER (barC (dst c i)) 0 i) ∗ atPos ER (barC c) 0 ∅ 0 ∗ cred (tallyAt (barC c) () 3)
      ∗ bigSep Finset.univ fun k : Fin 3 => landing (F := F) c k)
  | true => semVal (barC c) 0

end Comm

/-! ## The weights -/

section Weights
variable (c : Dev nD)

def par (e : Fin 8) : Fin 2 := ⟨e.val % 2, Nat.mod_lt _ (by decide)⟩
theorem pe_par (e : Fin 8) : pe (par e) (e.val / 2) = e := by revert e; decide

/-- Expert `e`'s weights: to be fetched, on their way, or rounded in their buffer. -/
def Wi (e : Fin 8) : Fin 3 → sProp 𝕄
  | 0 => iprop(dutyTok ER (pC c (par e)) (e.val / 2) 0 ∗ owns (c : Thread nD τ) (wE e) fullShare.right (wraw m c e) ∗ ∃ X, owns (c : Thread nD τ) (ewE e) fullShare X)
  | 1 => iprop(cred (tallyAt (pC c (par e)) () NW) ∗ ∃ X, owns (c : Thread nD τ) (ewE e) fullShare X)
  | 2 => iprop(owns (c : Thread nD τ) (wE e) fullShare.right (wraw m c e) ∗ owns (c : Thread nD τ) (ewE e) fullShare (ewb m c e))

/-- A staging slot: its cell's round, and whether the slot is at hand. -/
def Si (p : Fin 2) (s : Fin 5 × Bool) : sProp 𝕄 :=
  iprop(slotAt c p s.1.val ∗ if s.2 = true then iprop(∃ Y, owns (c : Thread nD τ) (stg p) fullShare Y) else iprop(emp))

def Ws (f : Fin 8 → Fin 3) (g : Fin 2 → Fin 5 × Bool) : sProp 𝕄 :=
  iprop((bigSep Finset.univ fun e => Wi m c e (f e)) ∗ bigSep Finset.univ fun p => Si (F := F) c p (g p))

theorem Wi_0 (e : Fin 8) : Wi m c e 0 = iprop(dutyTok ER (pC c (par e)) (e.val / 2) 0 ∗ owns (c : Thread nD τ) (wE e) fullShare.right (wraw m c e) ∗ ∃ X, owns (c : Thread nD τ) (ewE e) fullShare X) := rfl
theorem Wi_1 (e : Fin 8) : Wi m c e 1 = iprop(cred (tallyAt (pC c (par e)) () NW) ∗ ∃ X, owns (c : Thread nD τ) (ewE e) fullShare X) := rfl
theorem Wi_2 (e : Fin 8) : Wi m c e 2 = iprop(owns (c : Thread nD τ) (wE e) fullShare.right (wraw m c e) ∗ owns (c : Thread nD τ) (ewE e) fullShare (ewb m c e)) := rfl

theorem Wi_turn (f : Fin 8 → Fin 3) (e : Fin 8) :
    (bigSep Finset.univ fun e => Wi m c e (f e)) ⊢ iprop(Wi m c e (f e) ∗ ∀ s, Wi m c e s -∗ bigSep Finset.univ fun e' => Wi m c e' (Function.update f e s e')) :=
  bigSep_univ_turn (α := fun _ => Fin 3) (fun q s => Wi m c q s) f e
theorem Si_turn (g : Fin 2 → Fin 5 × Bool) (p : Fin 2) :
    (bigSep Finset.univ fun p => Si (F := F) c p (g p)) ⊢ iprop(Si (F := F) c p (g p) ∗ ∀ s, Si (F := F) c p s -∗ bigSep Finset.univ fun p' => Si (F := F) c p' (Function.update g p s p')) :=
  bigSep_univ_turn (α := fun _ => Fin 5 × Bool) (fun q s => Si (F := F) c q s) g p

end Weights

/-! ## The accumulators, the gates and the output -/

section Local
variable (c : Dev nD)

/-- Quarter `q`'s accumulator, of `n` experts (any contents at none). -/
def Aq (q : Fin 4) (n : Fin 9) : sProp 𝕄 := iprop(∃ X, ⌜n ≠ 0 → X = accv m c q n.val⌝ ∗ owns (c : Thread nD τ) (accQ q) fullShare X)
def As (f : Fin 4 → Fin 9) : sProp 𝕄 := bigSep Finset.univ fun q => Aq m c q (f q)
theorem As_turn (f : Fin 4 → Fin 9) (q : Fin 4) :
    As m c f ⊢ iprop(Aq m c q (f q) ∗ ∀ s, Aq m c q s -∗ As m c (Function.update f q s)) :=
  bigSep_univ_turn (α := fun _ => Fin 9) (fun q s => Aq m c q s) f q

/-- The rounded block and the two gates: of quarter `q`, if of any. -/
def Xs (o : Option (Fin 4)) : sProp 𝕄 :=
  iprop(∃ X G₀ G₁, ⌜∀ q, o = some q → X = xbf m c q ∧ G₀ = g0 m c q ∧ G₁ = g1 m c q⌝
    ∗ owns (c : Thread nD τ) xbfM fullShare X ∗ owns (c : Thread nD τ) g0M fullShare G₀ ∗ owns (c : Thread nD τ) g1M fullShare G₁)

/-- The pieces of the result that are in place. -/
def OutP (D : Fin 4 → Fin 4 → Bool) (X : S2048x1024.Idx → Elt F .f32) : Prop :=
  ∀ q p, D q p = true → (fun j => X ((RQP q p).emb j)) = outp m c q p

/-- The output's staging buffer with those pieces in place. -/
def Os (A6 : Memref sig .tc .vmem S2048x1024 .f32) (D : Fin 4 → Fin 4 → Bool) : sProp 𝕄 :=
  iprop(∃ X, ⌜OutP m c D X⌝ ∗ owns (c : Thread nD τ) A6 fullShare X)

def mark (D : Fin 4 → Fin 4 → Bool) (q p : Fin 4) : Fin 4 → Fin 4 → Bool := fun q' p' => D q' p' || (decide (q' = q) && decide (p' = p))

theorem RQP_disj (q p q' p' : Fin 4) (h : ¬ (q' = q ∧ p' = p)) (j j' : S128x1024.Idx) : (RQP q p).emb j ≠ (RQP q' p').emb j' := by
  intro hj
  have h0 := congrArg (fun i : S2048x1024.Idx => (i 0).val) hj
  have e : ∀ (q p : Fin 4) (j : S128x1024.Idx), ((RQP q p).emb j 0).val = 512 * q.val + 128 * p.val + (j 0).val := fun q p j => by
    simp [Rect.emb, Rect.unit]
  simp only [e] at h0
  have hb : ∀ j : S128x1024.Idx, (j 0).val < 128 := fun j => (j 0).isLt
  have := hb j; have := hb j'
  have := p.isLt; have := p'.isLt
  apply h
  constructor <;> apply Fin.ext <;> omega

theorem OutP_mark {D : Fin 4 → Fin 4 → Bool} {q p : Fin 4} {X X' : S2048x1024.Idx → Elt F .f32} (h : OutP m c D X)
    (h1 : ∀ j, X' ((RQP q p).emb j) = outp m c q p j) (h2 : ∀ i, (∀ j, (RQP q p).emb j ≠ i) → X' i = X i) : OutP m c (mark D q p) X' := by
  intro q' p' hD
  by_cases hq : q' = q ∧ p' = p
  · obtain ⟨rfl, rfl⟩ := hq; exact funext h1
  · rw [← h q' p' (by
      unfold mark at hD
      rcases Bool.or_eq_true _ _ ▸ hD with h | h
      · exact h
      · rw [Bool.and_eq_true, decide_eq_true_eq, decide_eq_true_eq] at h; exact absurd h hq)]
    funext j
    exact h2 _ fun j' => RQP_disj q p q' p' hq j' j

end Local

section LocalSteps
variable {α : Type} (c : Dev nD)

/-- A load from the output's staging buffer (its value is not used). -/
theorem wp_out_load {Q : α → sProp 𝕄} {A6 : Memref sig .tc .vmem S2048x1024 .f32} {D : Fin 4 → Fin 4 → Bool} {r : Rect S2048x1024} {hl : A6.view.LoadsAt r}
    {k : (r.shape.Idx → Elt F .f32) → Prog (TpuEff nD τ sig (Elt F) Λ₀ .tc) α} :
    Os m c A6 D ⊢ iprop((∀ v, Os m c A6 D -∗ WP c (k v) Q) -∗ WP c (.op (.load A6 r.toLoadRect hl) k) Q) := by
  unfold Os
  iintro ⟨%X, %hX, H⟩ Hk
  iapply (wp_load_at c A6 fullShare X) $$ H
  iintro H
  iapply Hk
  iexists X
  isplitr; · ipureintro; exact hX
  iexact H

/-- A piece's store puts it in place. -/
theorem wp_out_store {Q : α → sProp 𝕄} {A6 : Memref sig .tc .vmem S2048x1024 .f32} {D : Fin 4 → Fin 4 → Bool} (q p : Fin 4) {off : Fin 2 → ℕ}
    (hoff : off = ![512 * q.val + 128 * p.val, 0]) {inb : ∀ a, off a + S128x1024.size a ≤ S2048x1024.size a} {w : S128x1024.Idx → Elt F .f32} (hw : w = outp m c q p)
    {hx : (A6.access (Rect.unit (s := S2048x1024) off S128x1024.size inb)).Stores Finset.univ} {hm} {k : PUnit → Prog (TpuEff nD τ sig (Elt F) Λ₀ .tc) α} :
    Os m c A6 D ⊢ iprop((Os m c A6 (mark D q p) -∗ WP c (k ⟨⟩) Q)
      -∗ WP c (.op (.store A6 (Rect.unit (s := S2048x1024) off S128x1024.size inb) w Finset.univ hx hm) k) Q) := by
  subst hoff hw
  unfold Os
  iintro ⟨%X, %hX, H⟩ Hk
  iapply (wp_store_at c A6 X) $$ H
  iintro %X' %hX' H
  iapply Hk
  iexists X'
  isplitr; · ipureintro; exact OutP_mark m c hX hX'.1 hX'.2
  iexact H

/-! ## The weights' steps -/

/-- The prefetch of an expert not fetched, into a slot at hand. -/
theorem wp_pf {Q : α → sProp 𝕄} {k : PUnit → Prog (TpuEff nD τ sig (Elt F) Λ₀ .tc) α} (f : Fin 8 → Fin 3) (g : Fin 2 → Fin 5 × Bool) (e : Fin 8) (r : Fin 5)
    (hr : r.val = e.val / 2) (hf : f e = 0) (hg : g (par e) = (r, true))
    {o₁ : Fin 1 → ℕ} {o₂ o₃ : Fin 3 → ℕ} (h₁ : o₁ = ![(par e).val]) (h₂ : o₂ = ![(par e).val, 0, 0]) (h₃ : o₃ = ![e.val, 0, 0]) {i₁ i₂ i₃ x y u v w}  :
    iprop(ctx m K ∗ Ws m c f g)
      ⊢ iprop((Ws m c (Function.update f e 1) (Function.update g (par e) (r, false)) -∗ WP c (k ⟨⟩) Q)
        -∗ WP c (.op (.enqueueDma ((wM.slice (Rect.unit (s := S8x1024x1024) o₃ S1x1024x1024.size i₃) x).squeeze S1024x1024 squeezes_S1x1024x1024_S1024x1024)
            (.here ((stgM.slice (Rect.unit (s := S2x1024x1024) o₂ S1x1024x1024.size i₂) y).squeeze S1024x1024 squeezes_S1x1024x1024_S1024x1024))
            (.dma (((cc0_scratch6 : DmaSems sig S2).slice (Rect.unit (s := S2) o₁ S1.size i₁)).squeeze S_ squeezes_S1_S_).sem) u v w) k) Q) := by
  subst h₁ h₂ h₃
  unfold Ws
  iintro ⟨#Hc, HW, HS⟩ Hk
  ihave HW := (Wi_turn m c f e) $$ HW
  icases HW with ⟨Hw, HW⟩
  ihave HS := (Si_turn (F := F) c g (par e)) $$ HS
  icases HS with ⟨Hs, HS⟩
  rw [hf, hg]
  unfold Si
  icases Hs with ⟨Hat, Hs⟩
  ihave Hs := (Entails.of_eq (if_pos rfl)) $$ Hs
  icases Hs with ⟨%Y, Hs⟩
  ihave Hw := (Entails.of_eq (Wi_0 m c e)) $$ Hw
  icases Hw with ⟨Ht, Hsrc, Hany⟩
  rw [hr]
  have hpe := pe_par e
  iapply (wp_prefetch m K c (par e) (e.val / 2) (by omega) (M := wE e) (M' := stg (par e)) (by rw [hpe]) rfl (sem_p (par e) rfl) Y) $$ [Hsrc Hs Hat Ht]
  · isplitr; · iexact Hc
    rw [hpe]
    isplitl [Hsrc]; · iexact Hsrc
    isplitl [Hs]; · iexact Hs
    isplitl [Hat]; · iexact Hat
    iexact Ht
  iintro ⟨Hcr, Hat⟩
  iapply Hk
  isplitl [HW Hcr Hany]
  · iapply HW $$ %1
    rw [Wi_1]
    isplitl [Hcr]; · iexact Hcr
    iexact Hany
  · iapply HS $$ %(r, false)
    rw [if_neg (by simp), hr]
    isplitl [Hat]; · iexact Hat
    iempintro

/-- The wait for an expert on its way, its load from the slot and its rounding into its buffer. -/
theorem wp_pw {Q : α → sProp 𝕄} {k : PUnit → Prog (TpuEff nD τ sig (Elt F) Λ₀ .tc) α} (f : Fin 8 → Fin 3) (g : Fin 2 → Fin 5 × Bool) (e : Fin 8) (n : ℕ) (r r' : Fin 5)
    (hr : r.val = e.val / 2) (hr' : r'.val = e.val / 2 + 1) (hf : f e = 1) (hg : g (par e) = (r, false))
    {o₁ : Fin 1 → ℕ} {o₂ o₃ o₄ o₅ : Fin 3 → ℕ} (h₁ : o₁ = ![(par e).val]) (h₂ : o₂ = ![(par e).val, 0, 0]) (h₄ : o₄ = ![(par e).val, 0, 0]) (h₅ : o₅ = ![e.val, 0, 0]) {i₁ i₂ i₃ i₄ i₅ x y u v u' v' w' x'} :
    iprop(ctx m K ∗ ow c n ∗ Ws m c f g)
      ⊢ iprop(((ow c n ∗ Ws m c (Function.update f e 2) (Function.update g (par e) (r', true))) -∗ WP c (k ⟨⟩) Q)
        -∗ WP c (.op (.waitDma2 (((cc0_scratch6 : DmaSems sig S2).slice (Rect.unit (s := S2) o₁ S1.size i₁)).squeeze S_ squeezes_S1_S_).sem
            ((wM.slice (Rect.unit (s := S8x1024x1024) o₃ S1x1024x1024.size i₃) x).squeeze S1024x1024 squeezes_S1x1024x1024_S1024x1024)
            ((stgM.slice (Rect.unit (s := S2x1024x1024) o₂ S1x1024x1024.size i₂) y).squeeze S1024x1024 squeezes_S1x1024x1024_S1024x1024) u v)
          fun _ => .op (.load stgM (Rect.unit (s := S2x1024x1024) o₄ S1x1024x1024.size i₄).toLoadRect u') fun v75 =>
            .op (.load ewM (Rect.unit (s := S8x1024x1024) o₅ S1x1024x1024.size i₅).toLoadRect v') fun _ =>
            .op (.store ewM (Rect.unit (s := S8x1024x1024) o₅ S1x1024x1024.size i₅) (k0_pay24 v75) Finset.univ w' x') k) Q) := by
  subst h₁ h₂
  unfold Ws
  iintro ⟨#Hc, Ho, HW, HS⟩ Hk
  ihave HW := (Wi_turn m c f e) $$ HW
  icases HW with ⟨Hw, HW⟩
  ihave HS := (Si_turn (F := F) c g (par e)) $$ HS
  icases HS with ⟨Hs, HS⟩
  rw [hf, hg]
  unfold Si
  icases Hs with ⟨Hat, -⟩
  ihave Hw := (Entails.of_eq (Wi_1 m c e)) $$ Hw
  icases Hw with ⟨Hcr, %Z, Hany⟩
  rw [hr]
  have hpe := pe_par e
  iapply (wp_wait_p m K c (par e) (e.val / 2) (by omega) n (sem_p (par e) rfl) credit_stg) $$ [Hcr Ho Hat]
  · isplitr; · iexact Hc
    isplitl [Hcr]; · iexact Hcr
    isplitl [Ho]; · iexact Ho
    iexact Hat
  iintro ⟨Ho, Hat, Hst, Hsrc⟩
  rw [hpe]
  iapply (wp_load_slice c stgM (off₀ := ![(par e).val, 0, 0]) (inb₀ := inbP (par e)) (h₀ := fun _ => rfl) h₄ fullShare (wraw m c e)) $$ Hst
  iintro Hst
  iapply (wp_load_slice c ewM (off₀ := ![e.val, 0, 0]) (inb₀ := inbE e) (h₀ := fun _ => rfl) h₅ fullShare Z) $$ Hany
  iintro Hany
  iapply (wp_store_slice c ewM (off₀ := ![e.val, 0, 0]) (inb₀ := inbE e) (h₀ := fun _ => rfl) h₅ Z) $$ Hany
  iintro Hany
  iapply Hk
  isplitl [Ho]; · iexact Ho
  isplitl [HW Hany Hsrc]
  · iapply HW $$ %2
    rw [Wi_2]
    isplitl [Hsrc]; · iexact Hsrc
    iexact Hany
  · iapply HS $$ %(r', true)
    rw [if_pos rfl, hr']
    isplitl [Hat]; · iexact Hat
    iexists _; iexact Hst

/-- The load of an expert's rounded weights. -/
theorem wp_ew_load {Q : α → sProp 𝕄} (f : Fin 8 → Fin 3) (g : Fin 2 → Fin 5 × Bool) (e : Fin 8) (hf : f e = 2) {o : Fin 3 → ℕ} (h : o = ![e.val, 0, 0]) {i u}
    {k : (S1x1024x1024.Idx → Elt F .bf16) → Prog (TpuEff nD τ sig (Elt F) Λ₀ .tc) α} :
    (Ws m c f g) ⊢ iprop((Ws m c f g -∗ WP c (k (ewb m c e)) Q) -∗ WP c (.op (.load ewM (Rect.unit (s := S8x1024x1024) o S1x1024x1024.size i).toLoadRect u) k) Q) := by
  unfold Ws
  iintro ⟨HW, HS⟩ Hk
  ihave HW := (Wi_turn m c f e) $$ HW
  icases HW with ⟨Hw, HW⟩
  rw [hf]
  ihave Hw := (Entails.of_eq (Wi_2 m c e)) $$ Hw
  icases Hw with ⟨Hsrc, He⟩
  iapply (wp_load_slice c ewM (off₀ := ![e.val, 0, 0]) (inb₀ := inbE e) (h₀ := fun _ => rfl) h fullShare (ewb m c e)) $$ He
  iintro He
  iapply Hk
  isplitr [HS]
  · ihave HW := HW $$ %2 [Hsrc He]
    · rw [Wi_2]
      isplitl [Hsrc]; · iexact Hsrc
      iexact He
    rw [show Function.update f e 2 = f from by rw [← hf]; exact Function.update_eq_self e f]
    iexact HW
  iexact HS

end LocalSteps

end Cert.MoE
-- ==== Proof.Comm.lean ====
/-
# The exchange's transfers and waits
-/
module

public import proofs.«01_k».proof.Proof.State

@[expose] public section

noncomputable section

namespace Cert.MoE

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × KC → ℕ)

theorem relay_self {s₁ s : Shape} {α : Type} (h : s₁.Squeezes s) (X : s₁.Idx → α) : relay h h X = X := by
  funext z; unfold relay; rw [Equiv.apply_symm_apply]

theorem pay_0 (c : Dev nD) (q : Fin 4) (k : Fin 3) : pay m c (some (.inl (0, q, k))) 0 0 = owns (c : Thread nD τ) (rsS q k) fullShare (rsd m c q k) := rfl
theorem pay_1 (c : Dev nD) (q : Fin 4) (k : Fin 3) : pay m c (some (.inl (1, q, k))) 0 0 = owns (c : Thread nD τ) (rsR q k) fullShare (rsd m (src c k) q k) := rfl
theorem pay_2 (c : Dev nD) (q : Fin 4) (k : Fin 3) : pay m c (some (.inl (2, q, k))) 0 0 = owns (c : Thread nD τ) (agS q) (shr k) (agd m c q) := rfl
theorem pay_3 (c : Dev nD) (q : Fin 4) (k : Fin 3) : pay m c (some (.inl (3, q, k))) 0 0 = owns (c : Thread nD τ) (agR q k) fullShare (agl m (src c k) q) := rfl

section Steps
variable {α : Type} (c : Dev nD)

/-- A piece's load from its quarter's accumulator. -/
theorem wp_acc_piece {Q : α → sProp 𝕄} (q p : Fin 4) {off : Fin 2 → ℕ} (hoff : off = ![512 * q.val + 128 * p.val, 0]) {inb : ∀ a, off a + S128x1024.size a ≤ S2048x1024.size a}
    {hl : accM.view.LoadsAt (Rect.unit (s := S2048x1024) off S128x1024.size inb)} {k : (S128x1024.Idx → Elt F .f32) → Prog (TpuEff nD τ sig (Elt F) Λ₀ .tc) α} :
    (owns (c : Thread nD τ) (accQ q) fullShare (accv m c q 8) : sProp 𝕄)
      ⊢ iprop((owns (c : Thread nD τ) (accQ q) fullShare (accv m c q 8) -∗ WP c (k (pc m c q p)) Q)
        -∗ WP c (.op (.load accM (Rect.unit (s := S2048x1024) off S128x1024.size inb).toLoadRect hl) k) Q) := by
  subst hoff
  refine wp_load_in c accM (r := Rect.unit (s := S2048x1024) ![512 * q.val + 128 * p.val, 0] S128x1024.size inb) (r₀ := RQ q) (h₀ := fun _ => rfl) (fun j => (RPc p).emb j) (fun j => ?_) fullShare (accv m c q 8)
  funext a
  apply Fin.ext
  fin_cases a
  · simp [Rect.emb, Rect.unit]; omega
  · simp [Rect.emb, Rect.unit]

/-- The scatter's transfer `k` of quarter `q`. -/
theorem wp_rs_send {Q : α → sProp 𝕄} {g : PUnit → Prog (TpuEff nD τ sig (Elt F) Λ₀ .tc) α} (q : Fin 4) (k : Fin 3) (n n' : ℕ) (hn : n = 3 + 6 * q.val + k.val) (hn' : n' = n + 1)
    {o₁ : Fin 2 → ℕ} {o₂ : Fin 4 → ℕ} (h₁ : o₁ = ![q.val, k.val]) (h₂ : o₂ = ![q.val, k.val, 0, 0]) {d : Dev nD} (hd : d = dst c k)
    {i₁ i₂ x y z u v w} :
    iprop(ctx m K ∗ owns (c : Thread nD τ) (rsS q k) fullShare (rsd m c q k) ∗ anyRsR (F := F) (dst c k) q k ∗ ow c n ∗ tkx (F := F) c 0 1 q k)
      ⊢ iprop(((crx (F := F) c 0 q k ∗ ow c n') -∗ WP c (g ⟨⟩) Q)
        -∗ WP c (.op (.enqueueDma ((rsSM.slice (Rect.unit (s := S4x3x128x1024) o₂ S1x1x128x1024.size i₂) x).squeeze S128x1024 squeezes_S1x1x128x1024_S128x1024)
            (.remote (Dev.tc d : Thread nD τ) ((rsRM.slice (Rect.unit (s := S4x3x128x1024) o₂ S1x1x128x1024.size i₂) y).squeeze S128x1024 squeezes_S1x1x128x1024_S128x1024)
              (.dma (((cc0_scratch11 : DmaSems sig S4x3).slice (Rect.unit (s := S4x3) o₁ S1x1.size i₁)).squeeze S_ squeezes_S1x1_S_).sem) z)
            (.dma (((cc0_scratch12 : DmaSems sig S4x3).slice (Rect.unit (s := S4x3) o₁ S1x1.size i₁)).squeeze S_ squeezes_S1x1_S_).sem) u v w) g) Q) := by
  subst h₁ h₂ hn hn'
  unfold anyRsR tkx crx
  iintro ⟨#Hc, Hs, ⟨%Y, Hd⟩, Ho, Ht, Ht'⟩ Hk
  iapply (wp_send_x m K c 0 1 q k (3 + 6 * q.val + k.val) (by omega) (dueC_rs c q k) (if_neg (by omega)) (M := rsS q k) (M' := rsR q k) hd (sem_x 0 q k rfl) (sem_x 1 q k rfl)
    credit_rsR fullShare (rsd m c q k) Y BIBase.Entails.rfl (by
      show _ ⊢ owns (dst c k : Thread nD τ) (rsR q k) fullShare (rsd m (src (dst c k) k) q k)
      rw [src_dst, relay_self])) $$ [Hs Hd Ho Ht Ht']
  · isplitr; · iexact Hc
    isplitl [Hs]; · iexact Hs
    isplitl [Hd]; · iexact Hd
    isplitl [Ho]; · iexact Ho
    isplitl [Ht]; · iexact Ht
    iexact Ht'
  iexact Hk

/-- The gather's transfer `k` of quarter `q`. -/
theorem wp_ag_send {Q : α → sProp 𝕄} {g : PUnit → Prog (TpuEff nD τ sig (Elt F) Λ₀ .tc) α} (q : Fin 4) (k : Fin 3) (n n' : ℕ) (hn : n = 6 + 6 * q.val + k.val) (hn' : n' = n + 1)
    {o₁ : Fin 2 → ℕ} {o₂ : Fin 4 → ℕ} {o₃ : Fin 3 → ℕ} (h₁ : o₁ = ![q.val, k.val]) (h₂ : o₂ = ![q.val, k.val, 0, 0]) (h₃ : o₃ = ![q.val, 0, 0]) {d : Dev nD} (hd : d = dst c k)
    {i₁ i₂ i₃ x y z u v w} :
    iprop(ctx m K ∗ owns (c : Thread nD τ) (agS q) (shr k) (agd m c q) ∗ anyAgR (F := F) (dst c k) q k ∗ ow c n ∗ tkx (F := F) c 2 3 q k)
      ⊢ iprop(((crx (F := F) c 2 q k ∗ ow c n') -∗ WP c (g ⟨⟩) Q)
        -∗ WP c (.op (.enqueueDma ((agSM.slice (Rect.unit (s := S4x128x1024) o₃ S1x128x1024.size i₃) x).squeeze S128x1024 squeezes_S1x128x1024_S128x1024)
            (.remote (Dev.tc d : Thread nD τ) ((agRM.slice (Rect.unit (s := S4x3x128x1024) o₂ S1x1x128x1024.size i₂) y).squeeze S128x1024 squeezes_S1x1x128x1024_S128x1024)
              (.dma (((cc0_scratch13 : DmaSems sig S4x3).slice (Rect.unit (s := S4x3) o₁ S1x1.size i₁)).squeeze S_ squeezes_S1x1_S_).sem) z)
            (.dma (((cc0_scratch14 : DmaSems sig S4x3).slice (Rect.unit (s := S4x3) o₁ S1x1.size i₁)).squeeze S_ squeezes_S1x1_S_).sem) u v w) g) Q) := by
  subst h₁ h₂ h₃ hn hn'
  unfold anyAgR tkx crx
  iintro ⟨#Hc, Hs, ⟨%Y, Hd⟩, Ho, Ht, Ht'⟩ Hk
  iapply (wp_send_x m K c 2 3 q k (6 + 6 * q.val + k.val) (by omega) (dueC_ag c q k) (if_neg (by omega)) (M := agS q) (M' := agR q k) hd (sem_x 2 q k rfl) (sem_x 3 q k rfl)
    credit_agR (shr k) (agd m c q) Y BIBase.Entails.rfl (by
      show _ ⊢ owns (dst c k : Thread nD τ) (agR q k) fullShare (agl m (src (dst c k) k) q)
      rw [src_dst]; exact BIBase.Entails.rfl)) $$ [Hs Hd Ho Ht Ht']
  · isplitr; · iexact Hc
    isplitl [Hs]; · iexact Hs
    isplitl [Hd]; · iexact Hd
    isplitl [Ho]; · iexact Ho
    isplitl [Ht]; · iexact Ht
    iexact Ht'
  iexact Hk

/-- The scatter's two waits of index `k`: the sent slot comes back, the received one holds the peer's piece. -/
theorem wp_rs_wait {Q : α → sProp 𝕄} {g : PUnit → Prog (TpuEff nD τ sig (Elt F) Λ₀ .tc) α} (q : Fin 4) (k : Fin 3) (n : ℕ) (hn : 6 * q.val + 6 ≤ n)
    {o₁ o₁' : Fin 2 → ℕ} {o₂ o₂' : Fin 4 → ℕ} (h₁ : o₁ = ![q.val, k.val]) (h₁' : o₁' = ![q.val, k.val]) {i₁ i₁' i₂ i₂' x x' y y' u v u' v'} :
    iprop(ctx m K ∗ crx (F := F) c 0 q k ∗ crx (F := F) c 1 q k ∗ posx (F := F) c 0 q k ∗ posx (F := F) c 1 q k ∗ ow c n)
      ⊢ iprop(((ow c n ∗ zx (F := F) c 0 q k ∗ zx (F := F) c 1 q k ∗ anyRsS (F := F) c q k ∗ owns (c : Thread nD τ) (rsR q k) fullShare (rsd m (src c k) q k)) -∗ WP c (g ⟨⟩) Q)
        -∗ WP c (.op (.waitDma2 (((cc0_scratch11 : DmaSems sig S4x3).slice (Rect.unit (s := S4x3) o₁ S1x1.size i₁)).squeeze S_ squeezes_S1x1_S_).sem
            ((rsRM.slice (Rect.unit (s := S4x3x128x1024) o₂ S1x1x128x1024.size i₂) x).squeeze S128x1024 squeezes_S1x1x128x1024_S128x1024)
            ((rsSM.slice (Rect.unit (s := S4x3x128x1024) o₂ S1x1x128x1024.size i₂) y).squeeze S128x1024 squeezes_S1x1x128x1024_S128x1024) u v) fun _ =>
          .op (.waitDma2 (((cc0_scratch12 : DmaSems sig S4x3).slice (Rect.unit (s := S4x3) o₁' S1x1.size i₁')).squeeze S_ squeezes_S1x1_S_).sem
            ((rsSM.slice (Rect.unit (s := S4x3x128x1024) o₂' S1x1x128x1024.size i₂') x').squeeze S128x1024 squeezes_S1x1x128x1024_S128x1024)
            ((rsRM.slice (Rect.unit (s := S4x3x128x1024) o₂' S1x1x128x1024.size i₂') y').squeeze S128x1024 squeezes_S1x1x128x1024_S128x1024) u' v') g) Q) := by
  unfold crx posx zx anyRsS
  iintro ⟨#Hc, Hc0, Hc1, Hp0, Hp1, Ho⟩ Hk
  iapply (wp_wait_x m K c 0 q k n (.inl (by show 0 < _; omega)) (sem_x 0 q k h₁) credit_rsS) $$ [Hc0 Hp0 Ho]
  · isplitr; · iexact Hc
    isplitl [Hc0]; · iexact Hc0
    isplitl [Ho]; · iexact Ho
    iexact Hp0
  iintro ⟨Ho, Hz0, Hs⟩
  iapply (wp_wait_x m K c 1 q k n (.inl (by show 2 + 2 * q.val < _; omega)) (sem_x 1 q k h₁') credit_rsR) $$ [Hc1 Hp1 Ho]
  · isplitr; · iexact Hc
    isplitl [Hc1]; · iexact Hc1
    isplitl [Ho]; · iexact Ho
    iexact Hp1
  iintro ⟨Ho, Hz1, Hr⟩
  iapply Hk
  isplitl [Ho]; · iexact Ho
  isplitl [Hz0]; · iexact Hz0
  isplitl [Hz1]; · iexact Hz1
  isplitl [Hs]; · iexists (rsd m c q k); iapply (Entails.of_eq (pay_0 m c q k)); iexact Hs
  iapply (Entails.of_eq (pay_1 m c q k)); iexact Hr

/-- The gather's two waits of index `k`: its share of the sent slot comes back, the received one holds the peer's reduced piece. -/
theorem wp_ag_wait {Q : α → sProp 𝕄} {g : PUnit → Prog (TpuEff nD τ sig (Elt F) Λ₀ .tc) α} (q : Fin 4) (k : Fin 3) (n : ℕ) (hn : 6 * q.val + 9 ≤ n)
    {o₁ o₁' : Fin 2 → ℕ} {o₂ o₂' : Fin 4 → ℕ} {o₃ o₃' : Fin 3 → ℕ} (h₁ : o₁ = ![q.val, k.val]) (h₁' : o₁' = ![q.val, k.val]) {i₁ i₁' i₂ i₂' i₃ i₃' x x' y y' u v u' v'} :
    iprop(ctx m K ∗ crx (F := F) c 2 q k ∗ crx (F := F) c 3 q k ∗ posx (F := F) c 2 q k ∗ posx (F := F) c 3 q k ∗ ow c n)
      ⊢ iprop(((ow c n ∗ zx (F := F) c 2 q k ∗ zx (F := F) c 3 q k ∗ owns (c : Thread nD τ) (agS q) (shr k) (agd m c q) ∗ owns (c : Thread nD τ) (agR q k) fullShare (agl m (src c k) q)) -∗ WP c (g ⟨⟩) Q)
        -∗ WP c (.op (.waitDma2 (((cc0_scratch13 : DmaSems sig S4x3).slice (Rect.unit (s := S4x3) o₁ S1x1.size i₁)).squeeze S_ squeezes_S1x1_S_).sem
            ((agRM.slice (Rect.unit (s := S4x3x128x1024) o₂ S1x1x128x1024.size i₂) x).squeeze S128x1024 squeezes_S1x1x128x1024_S128x1024)
            ((agSM.slice (Rect.unit (s := S4x128x1024) o₃ S1x128x1024.size i₃) y).squeeze S128x1024 squeezes_S1x128x1024_S128x1024) u v) fun _ =>
          .op (.waitDma2 (((cc0_scratch14 : DmaSems sig S4x3).slice (Rect.unit (s := S4x3) o₁' S1x1.size i₁')).squeeze S_ squeezes_S1x1_S_).sem
            ((agSM.slice (Rect.unit (s := S4x128x1024) o₃' S1x128x1024.size i₃') x').squeeze S128x1024 squeezes_S1x128x1024_S128x1024)
            ((agRM.slice (Rect.unit (s := S4x3x128x1024) o₂' S1x1x128x1024.size i₂') y').squeeze S128x1024 squeezes_S1x1x128x1024_S128x1024) u' v') g) Q) := by
  unfold crx posx zx
  iintro ⟨#Hc, Hc0, Hc1, Hp0, Hp1, Ho⟩ Hk
  iapply (wp_wait_x m K c 2 q k n (.inl (by show 0 < _; omega)) (sem_x 2 q k h₁) credit_agS) $$ [Hc0 Hp0 Ho]
  · isplitr; · iexact Hc
    isplitl [Hc0]; · iexact Hc0
    isplitl [Ho]; · iexact Ho
    iexact Hp0
  iintro ⟨Ho, Hz0, Hs⟩
  iapply (wp_wait_x m K c 3 q k n (.inl (by show 3 + 2 * q.val < _; omega)) (sem_x 3 q k h₁') credit_agR) $$ [Hc1 Hp1 Ho]
  · isplitr; · iexact Hc
    isplitl [Hc1]; · iexact Hc1
    isplitl [Ho]; · iexact Ho
    iexact Hp1
  iintro ⟨Ho, Hz1, Hr⟩
  iapply Hk
  isplitl [Ho]; · iexact Ho
  isplitl [Hz0]; · iexact Hz0
  isplitl [Hz1]; · iexact Hz1
  isplitl [Hs]; · iapply (Entails.of_eq (pay_2 m c q k)); iexact Hs
  iapply (Entails.of_eq (pay_3 m c q k)); iexact Hr

/-- The gather's source in its three shares, and back. -/
theorem agS_split (q : Fin 4) (X : S1x128x1024.Idx → Elt F .bf16) :
    (owns (c : Thread nD τ) (agS q) fullShare X : sProp 𝕄) ⊢ iprop(owns (c : Thread nD τ) (agS q) (shr 0) X ∗ owns (c : Thread nD τ) (agS q) (shr 1) X ∗ owns (c : Thread nD τ) (agS q) (shr 2) X) := by
  iintro H
  ihave H := (owns_halves (c : Thread nD τ) (agS q) fullShare X).1 $$ H
  icases H with ⟨H0, H⟩
  ihave H := (owns_halves (c : Thread nD τ) (agS q) fullShare.right X).1 $$ H
  icases H with ⟨H1, H2⟩
  isplitl [H0]; · iexact H0
  isplitl [H1]; · iexact H1
  iexact H2
theorem agS_join (q : Fin 4) (X : S1x128x1024.Idx → Elt F .bf16) :
    iprop(owns (c : Thread nD τ) (agS q) (shr 0) X ∗ owns (c : Thread nD τ) (agS q) (shr 1) X ∗ owns (c : Thread nD τ) (agS q) (shr 2) X) ⊢ (owns (c : Thread nD τ) (agS q) fullShare X : sProp 𝕄) := by
  iintro ⟨H0, H1, H2⟩
  iapply (owns_halves (c : Thread nD τ) (agS q) fullShare X).2
  isplitl [H0]; · iexact H0
  iapply (owns_halves (c : Thread nD τ) (agS q) fullShare.right X).2
  isplitl [H1]; · iexact H1
  iexact H2

end Steps

end Cert.MoE
-- ==== Proof.Parts.lean ====
/-
# The exchange's blocks
-/
module

public import proofs.«01_k».proof.Proof.Comm

@[expose] public section

noncomputable section

namespace Cert.MoE

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × KC → ℕ)

section Devs
variable (i : grid0.Coords) (c : Dev nD)
theorem dev1_eq {h} : (⟨k0_dev1 c, h⟩ : Dev nD) = dst c 0 := by revert c; decide +kernel
theorem dev2_eq {h} : (⟨k0_dev2 c, h⟩ : Dev nD) = dst c 1 := by revert c; decide +kernel
theorem dev3_eq {h} : (⟨k0_dev3 c, h⟩ : Dev nD) = dst c 2 := by revert c; decide +kernel
theorem dev4_eq {h} : (⟨k0_dev4 c, h⟩ : Dev nD) = dst c 0 := by revert c; decide +kernel
theorem dev5_eq {h} : (⟨k0_dev5 c, h⟩ : Dev nD) = dst c 1 := by revert c; decide +kernel
theorem dev6_eq {h} : (⟨k0_dev6 c, h⟩ : Dev nD) = dst c 2 := by revert c; decide +kernel
theorem dev7_eq {h} : (⟨k0_dev7 c, h⟩ : Dev nD) = dst c 0 := by revert c; decide +kernel
theorem dev8_eq {h} : (⟨k0_dev8 c, h⟩ : Dev nD) = dst c 1 := by revert c; decide +kernel
theorem dev9_eq {h} : (⟨k0_dev9 c, h⟩ : Dev nD) = dst c 2 := by revert c; decide +kernel
theorem dev10_eq {h} : (⟨k0_dev10 c, h⟩ : Dev nD) = dst c 0 := by revert c; decide +kernel
theorem dev11_eq {h} : (⟨k0_dev11 c, h⟩ : Dev nD) = dst c 1 := by revert c; decide +kernel
theorem dev12_eq {h} : (⟨k0_dev12 c, h⟩ : Dev nD) = dst c 2 := by revert c; decide +kernel
theorem src_ne (k : Fin 3) : src c k ≠ c := by revert c k; decide
end Devs

section Parts
variable (c : Dev nD)
variable (A2 : Memref sig .tc .vmem S512x1024 .f32) (h2 : A2.IsWhole) (A3 : Memref sig .tc .vmem S1024x32 .f32) (h3 : A3.IsWhole)
  (A4 : Memref sig .tc .vmem S512x2 .i32) (h4 : A4.IsWhole) (A6 : Memref sig .tc .vmem S2048x1024 .f32) (h6 : A6.IsWhole)
  (h5 : wM.IsWhole) (h7 : xbfM.IsWhole) (h8 : g0M.IsWhole) (h9 : g1M.IsWhole) (h10 : accM.IsWhole) (h11 : stgM.IsWhole) (h12 : ewM.IsWhole)
  (h14 : rsSM.IsWhole) (h15 : rsRM.IsWhole) (h16 : agSM.IsWhole) (h17 : agRM.IsWhole)

/-- The scatter's first half: two pieces rounded into their slots, the third at hand. -/
theorem part2_spec (q : Fin 4) (a0 v2 : BitVec 32) (hc) (Kt : _ → sProp 𝕄) :
    iprop(owns (c : Thread nD τ) (accQ q) fullShare (accv m c q 8) ∗ anyRsS (F := F) c q 0 ∗ anyRsS (F := F) c q 1 ∗ anyRsS (F := F) c q 2)
      ⊢ iprop((∀ v, owns (c : Thread nD τ) (accQ q) fullShare (accv m c q 8) -∗ owns (c : Thread nD τ) (rsS q 0) fullShare (rsd m c q 0)
            -∗ owns (c : Thread nD τ) (rsS q 1) fullShare (rsd m c q 1) -∗ anyRsS (F := F) c q 2 -∗ Kt ⟨k0_pay14 (pc m c q (dst c 2)), v⟩)
        -∗ WP c (k0_part2 (F := F) (co q 7) A2 h2 A3 h3 A4 h4 wM h5 A6 h6 xbfM h7 g0M h8 g1M h9 accM h10 stgM h11 ewM h12 cc0_scratch6 rsSM h14 rsRM h15 agSM h16 agRM h17 cc0_scratch11 cc0_scratch12 cc0_scratch13 cc0_scratch14 a0 c v2 hc) Kt) := by
  rw [k0_part2_eq_skeleton]; unfold k0_part2_skel
  simp only [Prog.lift, Prog.bind_op, Prog.bind_ret, Prog.pure_eq_ret]
  unfold anyRsS
  iintro ⟨Ha, ⟨%X0, H0⟩, ⟨%X1, H1⟩, ⟨%X2, H2⟩⟩ Hk
  iapply (wp_acc_piece m c q (dst c 0) (off12 q 7 c 0)) $$ Ha; iintro Ha
  iapply (wp_load_slice c rsSM (off₀ := ![q.val, (0 : Fin 3).val, 0, 0]) (inb₀ := inb4 q 0) (h₀ := fun _ => rfl) (off13 q 7) fullShare X0) $$ H0; iintro H0
  iapply (wp_store_slice c rsSM (off₀ := ![q.val, (0 : Fin 3).val, 0, 0]) (inb₀ := inb4 q 0) (h₀ := fun _ => rfl) (off13 q 7) X0) $$ H0; iintro H0
  iapply (wp_acc_piece m c q (dst c 1) (off12 q 7 c 1)) $$ Ha; iintro Ha
  iapply (wp_load_slice c rsSM (off₀ := ![q.val, (1 : Fin 3).val, 0, 0]) (inb₀ := inb4 q 1) (h₀ := fun _ => rfl) (off14 q 7) fullShare X1) $$ H1; iintro H1
  iapply (wp_store_slice c rsSM (off₀ := ![q.val, (1 : Fin 3).val, 0, 0]) (inb₀ := inb4 q 1) (h₀ := fun _ => rfl) (off14 q 7) X1) $$ H1; iintro H1
  iapply (wp_acc_piece m c q (dst c 2) (off12 q 7 c 2)) $$ Ha; iintro Ha
  iapply (wp_load_slice c rsSM (off₀ := ![q.val, (2 : Fin 3).val, 0, 0]) (inb₀ := inb4 q 2) (h₀ := fun _ => rfl) (off15 q 7) fullShare X2) $$ H2; iintro H2
  simp only [WP, wp_ret]
  imodintro
  iapply Hk $$ %_ Ha [H0] [H1] [H2]
  · iapply (Entails.of_eq (show owns (c : Thread nD τ) (rsS q 0) fullShare (k0_pay12 (pc m c q (dst c 0))) = _ from rfl)); iexact H0
  · iapply (Entails.of_eq (show owns (c : Thread nD τ) (rsS q 1) fullShare (k0_pay13 (pc m c q (dst c 1))) = _ from rfl)); iexact H1
  iexists _; iexact H2

/-- The scatter's second half but its last transfer. -/
theorem part3_spec (q : Fin 4) (n n' : ℕ) (hn : n = 3 + 6 * q.val) (hn' : n' = n + 2) (v2 : BitVec 32) (hc v97) (Kt : _ → sProp 𝕄) :
    iprop(ctx m K ∗ owns (c : Thread nD τ) (rsS q 0) fullShare (rsd m c q 0) ∗ owns (c : Thread nD τ) (rsS q 1) fullShare (rsd m c q 1) ∗ anyRsS (F := F) c q 2
        ∗ anyRsR (F := F) (dst c 0) q 0 ∗ anyRsR (F := F) (dst c 1) q 1 ∗ ow c n ∗ tkx (F := F) c 0 1 q 0 ∗ tkx (F := F) c 0 1 q 1)
      ⊢ iprop((∀ v, owns (c : Thread nD τ) (rsS q 2) fullShare (rsd m c q 2) -∗ crx (F := F) c 0 q 0 -∗ crx (F := F) c 0 q 1 -∗ ow c n' -∗ Kt v)
        -∗ WP c (k0_part3 (F := F) (co q 7) A2 h2 A3 h3 A4 h4 wM h5 A6 h6 xbfM h7 g0M h8 g1M h9 accM h10 stgM h11 ewM h12 cc0_scratch6 rsSM h14 rsRM h15 agSM h16 agRM h17 cc0_scratch11 cc0_scratch12 cc0_scratch13 cc0_scratch14 c v2 hc (k0_pay14 (pc m c q (dst c 2))) v97) Kt) := by
  subst hn hn'
  rw [k0_part3_eq_skeleton]; unfold k0_part3_skel
  simp only [Prog.lift, Prog.bind_op, Prog.bind_ret, Prog.pure_eq_ret]
  unfold anyRsS
  iintro ⟨#Hc, H0, H1, ⟨%X2, H2⟩, Hd0, Hd1, Ho, Ht0, Ht1⟩ Hk
  iapply (wp_store_slice c rsSM (off₀ := ![q.val, (2 : Fin 3).val, 0, 0]) (inb₀ := inb4 q 2) (h₀ := fun _ => rfl) (off15 q 7) X2) $$ H2; iintro H2
  iapply (wp_rs_send m K c q 0 (3 + 6 * q.val) (3 + 6 * q.val + 1) rfl rfl (off16 q 7) (off17 q 7) (dev4_eq c)) $$ [H0 Hd0 Ho Ht0]
  · isplitr; · iexact Hc
    isplitl [H0]; · iexact H0
    isplitl [Hd0]; · iexact Hd0
    isplitl [Ho]; · iexact Ho
    iexact Ht0
  iintro ⟨Hc0, Ho⟩
  iapply (wp_rs_send m K c q 1 (3 + 6 * q.val + 1) (3 + 6 * q.val + 2) rfl rfl (off18 q 7) (off19 q 7) (dev5_eq c)) $$ [H1 Hd1 Ho Ht1]
  · isplitr; · iexact Hc
    isplitl [H1]; · iexact H1
    isplitl [Hd1]; · iexact Hd1
    isplitl [Ho]; · iexact Ho
    iexact Ht1
  iintro ⟨Hc1, Ho⟩
  simp only [WP, wp_ret]
  imodintro
  iapply Hk $$ %_ [H2] Hc0 Hc1 Ho
  iapply (Entails.of_eq (show owns (c : Thread nD τ) (rsS q 2) fullShare (k0_pay15 (k0_pay14 (pc m c q (dst c 2)))) = _ from rfl)); iexact H2

/-- What a device holds of a quarter's transfer pair once the scatter's waits are done. -/
def M3 (q : Fin 4) (k : Fin 3) : sProp 𝕄 :=
  iprop(anyRsS (F := F) c q k ∗ zx (F := F) c 0 q k ∗ zx (F := F) c 1 q k ∗ owns (c : Thread nD τ) (rsR q k) fullShare (rsd m (src c k) q k))

/-- The scatter's waits of index `0`. -/
theorem part4_spec (q q' : Fin 4) (h : q.val + 1 = q'.val) (n : ℕ) (hn : 6 * q.val + 6 ≤ n) (a0 v2 : BitVec 32) (hc) (Kt : _ → sProp 𝕄) :
    iprop(ctx m K ∗ crx (F := F) c 0 q 0 ∗ crx (F := F) c 1 q 0 ∗ posx (F := F) c 0 q 0 ∗ posx (F := F) c 1 q 0 ∗ ow c n)
      ⊢ iprop((∀ v, ow c n -∗ M3 m c q 0 -∗ Kt v)
        -∗ WP c (k0_part4 (F := F) (co q' 3) A2 h2 A3 h3 A4 h4 wM h5 A6 h6 xbfM h7 g0M h8 g1M h9 accM h10 stgM h11 ewM h12 cc0_scratch6 rsSM h14 rsRM h15 agSM h16 agRM h17 cc0_scratch11 cc0_scratch12 cc0_scratch13 cc0_scratch14 a0 v2 hc) Kt) := by
  rw [k0_part4_eq_skeleton]; unfold k0_part4_skel M3
  simp only [Prog.lift, Prog.bind_op, Prog.bind_ret, Prog.pure_eq_ret]
  iintro H Hk
  iapply (wp_rs_wait m K c q 0 n hn (off22 q q' h) (off22 q q' h)) $$ H
  iintro ⟨Ho, Hz0, Hz1, Hs, Hr⟩
  simp only [WP, wp_ret]
  imodintro
  iapply Hk $$ %_ Ho
  isplitl [Hs]; · iexact Hs
  isplitl [Hz0]; · iexact Hz0
  isplitl [Hz1]; · iexact Hz1
  iexact Hr

/-- Those of indices `1` and `2`. -/
theorem part5_spec (q q' : Fin 4) (h : q.val + 1 = q'.val) (n : ℕ) (hn : 6 * q.val + 6 ≤ n) (v2 : BitVec 32) (hc v82) (Kt : _ → sProp 𝕄) :
    iprop(ctx m K ∗ (crx (F := F) c 0 q 1 ∗ crx (F := F) c 1 q 1 ∗ posx (F := F) c 0 q 1 ∗ posx (F := F) c 1 q 1)
        ∗ (crx (F := F) c 0 q 2 ∗ crx (F := F) c 1 q 2 ∗ posx (F := F) c 0 q 2 ∗ posx (F := F) c 1 q 2) ∗ ow c n)
      ⊢ iprop((∀ v, ow c n -∗ M3 m c q 1 -∗ M3 m c q 2 -∗ Kt v)
        -∗ WP c (k0_part5 (F := F) (co q' 3) A2 h2 A3 h3 A4 h4 wM h5 A6 h6 xbfM h7 g0M h8 g1M h9 accM h10 stgM h11 ewM h12 cc0_scratch6 rsSM h14 rsRM h15 agSM h16 agRM h17 cc0_scratch11 cc0_scratch12 cc0_scratch13 cc0_scratch14 v2 hc v82) Kt) := by
  rw [k0_part5_eq_skeleton]; unfold k0_part5_skel M3
  simp only [Prog.lift, Prog.bind_op, Prog.bind_ret, Prog.pure_eq_ret]
  iintro ⟨#Hc, ⟨Ha, Hb, Hd, He⟩, ⟨Ha', Hb', Hd', He'⟩, Ho⟩ Hk
  iapply (wp_rs_wait m K c q 1 n hn (off24 q q' h) (off24 q q' h)) $$ [Ha Hb Hd He Ho]
  · isplitr; · iexact Hc
    isplitl [Ha]; · iexact Ha
    isplitl [Hb]; · iexact Hb
    isplitl [Hd]; · iexact Hd
    isplitl [He]; · iexact He
    iexact Ho
  iintro ⟨Ho, Hz0, Hz1, Hs, Hr⟩
  iapply (wp_rs_wait m K c q 2 n hn (off26 q q' h) (off26 q q' h)) $$ [Ha' Hb' Hd' He' Ho]
  · isplitr; · iexact Hc
    isplitl [Ha']; · iexact Ha'
    isplitl [Hb']; · iexact Hb'
    isplitl [Hd']; · iexact Hd'
    isplitl [He']; · iexact He'
    iexact Ho
  iintro ⟨Ho, Hz0', Hz1', Hs', Hr'⟩
  simp only [WP, wp_ret]
  imodintro
  iapply Hk $$ %_ Ho [Hz0 Hz1 Hs Hr]
  · isplitl [Hs]; · iexact Hs
    isplitl [Hz0]; · iexact Hz0
    isplitl [Hz1]; · iexact Hz1
    iexact Hr
  isplitl [Hs']; · iexact Hs'
  isplitl [Hz0']; · iexact Hz0'
  isplitl [Hz1']; · iexact Hz1'
  iexact Hr'

/-- The reduction of this device's own piece, into the result and into the gather's source. -/
theorem part6_spec (q q' : Fin 4) (h : q.val + 1 = q'.val) (D : Fin 4 → Fin 4 → Bool) (v2 : BitVec 32) (hc v64 c512) (Kt : _ → sProp 𝕄) :
    iprop(owns (c : Thread nD τ) (accQ q) fullShare (accv m c q 8) ∗ owns (c : Thread nD τ) (rsR q 0) fullShare (rsd m (src c 0) q 0)
        ∗ owns (c : Thread nD τ) (rsR q 1) fullShare (rsd m (src c 1) q 1) ∗ owns (c : Thread nD τ) (rsR q 2) fullShare (rsd m (src c 2) q 2)
        ∗ Os m c A6 D ∗ anyAgS (F := F) c q)
      ⊢ iprop((∀ v, owns (c : Thread nD τ) (accQ q) fullShare (accv m c q 8) -∗ anyRsR (F := F) c q 0 -∗ anyRsR (F := F) c q 1 -∗ anyRsR (F := F) c q 2
            -∗ Os m c A6 (mark D q c) -∗ owns (c : Thread nD τ) (agS q) fullShare (agd m c q) -∗ Kt v)
        -∗ WP c (k0_part6 (F := F) (co q' 3) A2 h2 A3 h3 A4 h4 wM h5 A6 h6 xbfM h7 g0M h8 g1M h9 accM h10 stgM h11 ewM h12 cc0_scratch6 rsSM h14 rsRM h15 agSM h16 agRM h17 cc0_scratch11 cc0_scratch12 cc0_scratch13 cc0_scratch14 c v2 hc v64 c512) Kt) := by
  rw [k0_part6_eq_skeleton]; unfold k0_part6_skel
  simp only [Prog.lift, Prog.bind_op, Prog.bind_ret, Prog.pure_eq_ret]
  unfold anyAgS anyRsR
  iintro ⟨Ha, H0, H1, H2, Hout, ⟨%Y, Hg⟩⟩ Hk
  iapply (wp_acc_piece m c q c (off28 q q' h c)) $$ Ha; iintro Ha
  iapply (wp_load_slice c rsRM (off₀ := ![q.val, (0 : Fin 3).val, 0, 0]) (inb₀ := inb4 q 0) (h₀ := fun _ => rfl) (off29 q q' h) fullShare (rsd m (src c 0) q 0)) $$ H0; iintro H0
  iapply (wp_load_slice c rsRM (off₀ := ![q.val, (1 : Fin 3).val, 0, 0]) (inb₀ := inb4 q 1) (h₀ := fun _ => rfl) (off30 q q' h) fullShare (rsd m (src c 1) q 1)) $$ H1; iintro H1
  iapply (wp_load_slice c rsRM (off₀ := ![q.val, (2 : Fin 3).val, 0, 0]) (inb₀ := inb4 q 2) (h₀ := fun _ => rfl) (off31 q q' h) fullShare (rsd m (src c 2) q 2)) $$ H2; iintro H2
  iapply (wp_out_load m c) $$ Hout; iintro %_ Hout
  iapply (wp_out_store m c q c (off28 q q' h c) (by unfold outp; rw [if_pos rfl]; rfl)) $$ Hout; iintro Hout
  iapply (wp_load_slice c agSM (off₀ := ![q.val, 0, 0]) (inb₀ := inb3 q) (h₀ := fun _ => rfl) (off32 q q' h) fullShare Y) $$ Hg; iintro Hg
  iapply (wp_store_slice c agSM (off₀ := ![q.val, 0, 0]) (inb₀ := inb3 q) (h₀ := fun _ => rfl) (off32 q q' h) Y) $$ Hg; iintro Hg
  simp only [WP, wp_ret]
  imodintro
  iapply Hk $$ %_ Ha [H0] [H1] [H2] Hout [Hg]
  · iexists _; iexact H0
  · iexists _; iexact H1
  · iexists _; iexact H2
  · iapply (Entails.of_eq (show owns (c : Thread nD τ) (agS q) fullShare (k0_pay17 (pc m c q c) (rsd m (src c 0) q 0) (rsd m (src c 1) q 1) (rsd m (src c 2) q 2)) = _ from rfl)); iexact Hg

/-- The gather's transfers. -/
theorem part7_spec (q q' : Fin 4) (h : q.val + 1 = q'.val) (n n' : ℕ) (hn : n = 6 + 6 * q.val) (hn' : n' = n + 3) (v2 : BitVec 32) (hc) (Kt : _ → sProp 𝕄) :
    iprop(ctx m K ∗ owns (c : Thread nD τ) (agS q) fullShare (agd m c q) ∗ ow c n
        ∗ (anyAgR (F := F) (dst c 0) q 0 ∗ tkx (F := F) c 2 3 q 0) ∗ (anyAgR (F := F) (dst c 1) q 1 ∗ tkx (F := F) c 2 3 q 1) ∗ (anyAgR (F := F) (dst c 2) q 2 ∗ tkx (F := F) c 2 3 q 2))
      ⊢ iprop((∀ v, ow c n' -∗ crx (F := F) c 2 q 0 -∗ crx (F := F) c 2 q 1 -∗ crx (F := F) c 2 q 2 -∗ Kt v)
        -∗ WP c (k0_part7 (F := F) (co q' 3) A2 h2 A3 h3 A4 h4 wM h5 A6 h6 xbfM h7 g0M h8 g1M h9 accM h10 stgM h11 ewM h12 cc0_scratch6 rsSM h14 rsRM h15 agSM h16 agRM h17 cc0_scratch11 cc0_scratch12 cc0_scratch13 cc0_scratch14 c v2 hc) Kt) := by
  subst hn hn'
  rw [k0_part7_eq_skeleton]; unfold k0_part7_skel
  simp only [Prog.lift, Prog.bind_op, Prog.bind_ret, Prog.pure_eq_ret]
  iintro ⟨#Hc, Hg, Ho, ⟨Hd0, Ht0⟩, ⟨Hd1, Ht1⟩, ⟨Hd2, Ht2⟩⟩ Hk
  ihave Hg := (agS_split c q (agd m c q)) $$ Hg
  icases Hg with ⟨Hg0, Hg1, Hg2⟩
  iapply (wp_ag_send m K c q 0 (6 + 6 * q.val) (6 + 6 * q.val + 1) rfl rfl (off22 q q' h) (off23 q q' h) (off33 q q' h) (dev7_eq c)) $$ [Hg0 Hd0 Ho Ht0]
  · isplitr; · iexact Hc
    isplitl [Hg0]; · iexact Hg0
    isplitl [Hd0]; · iexact Hd0
    isplitl [Ho]; · iexact Ho
    iexact Ht0
  iintro ⟨Hc0, Ho⟩
  iapply (wp_ag_send m K c q 1 (6 + 6 * q.val + 1) (6 + 6 * q.val + 2) rfl rfl (off24 q q' h) (off25 q q' h) (off33 q q' h) (dev8_eq c)) $$ [Hg1 Hd1 Ho Ht1]
  · isplitr; · iexact Hc
    isplitl [Hg1]; · iexact Hg1
    isplitl [Hd1]; · iexact Hd1
    isplitl [Ho]; · iexact Ho
    iexact Ht1
  iintro ⟨Hc1, Ho⟩
  iapply (wp_ag_send m K c q 2 (6 + 6 * q.val + 2) (6 + 6 * q.val + 3) rfl rfl (off26 q q' h) (off27 q q' h) (off33 q q' h) (dev9_eq c)) $$ [Hg2 Hd2 Ho Ht2]
  · isplitr; · iexact Hc
    isplitl [Hg2]; · iexact Hg2
    isplitl [Hd2]; · iexact Hd2
    isplitl [Ho]; · iexact Ho
    iexact Ht2
  iintro ⟨Hc2, Ho⟩
  simp only [WP, wp_ret]
  imodintro
  iapply Hk $$ %_ Ho Hc0 Hc1 Hc2

/-- What a device holds of a quarter's transfer pair once the gather's waits are done. -/
def G3 (q : Fin 4) (k : Fin 3) : sProp 𝕄 :=
  iprop(anyAgR (F := F) c q k ∗ zx (F := F) c 2 q k ∗ zx (F := F) c 3 q k ∗ owns (c : Thread nD τ) (agS q) (shr k) (agd m c q))

/-- The gather's waits of index `0`, and the piece received. -/
theorem part8_spec (q q' : Fin 4) (h : q.val + 1 = q'.val) (n : ℕ) (hn : 6 * q.val + 9 ≤ n) (D : Fin 4 → Fin 4 → Bool) (a0 v2 : BitVec 32) (hc) (Kt : _ → sProp 𝕄) :
    iprop((ctx m K ∗ crx (F := F) c 2 q 0 ∗ crx (F := F) c 3 q 0 ∗ posx (F := F) c 2 q 0 ∗ posx (F := F) c 3 q 0 ∗ ow c n) ∗ Os m c A6 D)
      ⊢ iprop((∀ v, ow c n -∗ G3 m c q 0 -∗ Os m c A6 (mark D q (src c 0)) -∗ Kt v)
        -∗ WP c (k0_part8 (F := F) (co q' 7) A2 h2 A3 h3 A4 h4 wM h5 A6 h6 xbfM h7 g0M h8 g1M h9 accM h10 stgM h11 ewM h12 cc0_scratch6 rsSM h14 rsRM h15 agSM h16 agRM h17 cc0_scratch11 cc0_scratch12 cc0_scratch13 cc0_scratch14 a0 c v2 hc) Kt) := by
  rw [k0_part8_eq_skeleton]; unfold k0_part8_skel G3
  simp only [Prog.lift, Prog.bind_op, Prog.bind_ret, Prog.pure_eq_ret]
  iintro ⟨H, Hout⟩ Hk
  iapply (wp_ag_wait m K c q 0 n hn (off34 q q' h) (off34 q q' h)) $$ H
  iintro ⟨Ho, Hz0, Hz1, Hs, Hr⟩
  iapply (wp_load_slice c agRM (off₀ := ![q.val, (0 : Fin 3).val, 0, 0]) (inb₀ := inb4 q 0) (h₀ := fun _ => rfl) (off37 q q' h) fullShare (agl m (src c 0) q)) $$ Hr; iintro Hr
  iapply (wp_out_load m c) $$ Hout; iintro %_ Hout
  iapply (wp_out_store m c q (src c 0) (off38 q q' h c 0) (by unfold outp; rw [if_neg (src_ne c _)]; rfl)) $$ Hout; iintro Hout
  simp only [WP, wp_ret]
  imodintro
  iapply Hk $$ %_ Ho [Hr Hz0 Hz1 Hs] Hout
  isplitl [Hr]; · unfold anyAgR; iexists _; iexact Hr
  isplitl [Hz0]; · iexact Hz0
  isplitl [Hz1]; · iexact Hz1
  iexact Hs

/-- Those of index `1`. -/
theorem part9_spec (q q' : Fin 4) (h : q.val + 1 = q'.val) (n : ℕ) (hn : 6 * q.val + 9 ≤ n) (D : Fin 4 → Fin 4 → Bool) (v2 : BitVec 32) (hc v64 c2) (Kt : _ → sProp 𝕄) :
    iprop((ctx m K ∗ crx (F := F) c 2 q 1 ∗ crx (F := F) c 3 q 1 ∗ posx (F := F) c 2 q 1 ∗ posx (F := F) c 3 q 1 ∗ ow c n) ∗ Os m c A6 D)
      ⊢ iprop((∀ v, ow c n -∗ G3 m c q 1 -∗ Os m c A6 (mark D q (src c 1)) -∗ Kt v)
        -∗ WP c (k0_part9 (F := F) (co q' 7) A2 h2 A3 h3 A4 h4 wM h5 A6 h6 xbfM h7 g0M h8 g1M h9 accM h10 stgM h11 ewM h12 cc0_scratch6 rsSM h14 rsRM h15 agSM h16 agRM h17 cc0_scratch11 cc0_scratch12 cc0_scratch13 cc0_scratch14 c v2 hc v64 c2) Kt) := by
  rw [k0_part9_eq_skeleton]; unfold k0_part9_skel G3
  simp only [Prog.lift, Prog.bind_op, Prog.bind_ret, Prog.pure_eq_ret]
  iintro ⟨H, Hout⟩ Hk
  iapply (wp_ag_wait m K c q 1 n hn (off39 q q' h) (off39 q q' h)) $$ H
  iintro ⟨Ho, Hz0, Hz1, Hs, Hr⟩
  iapply (wp_load_slice c agRM (off₀ := ![q.val, (1 : Fin 3).val, 0, 0]) (inb₀ := inb4 q 1) (h₀ := fun _ => rfl) (off41 q q' h) fullShare (agl m (src c 1) q)) $$ Hr; iintro Hr
  iapply (wp_out_load m c) $$ Hout; iintro %_ Hout
  iapply (wp_out_store m c q (src c 1) (off38 q q' h c 1) (by unfold outp; rw [if_neg (src_ne c _)]; rfl)) $$ Hout; iintro Hout
  simp only [WP, wp_ret]
  imodintro
  iapply Hk $$ %_ Ho [Hr Hz0 Hz1 Hs] Hout
  isplitl [Hr]; · unfold anyAgR; iexists _; iexact Hr
  isplitl [Hz0]; · iexact Hz0
  isplitl [Hz1]; · iexact Hz1
  iexact Hs

end Parts

end Cert.MoE
-- ==== Proof.Point.lean ====
/-
# A grid point's own part
-/
module

public import proofs.«01_k».proof.Proof.Parts

@[expose] public section

noncomputable section

namespace Cert.MoE

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × KC → ℕ)

/-! ## The weights' state by time -/

/-- The experts' and the slots' states before the point of number `t`. -/
def wf (t : ℕ) : Fin 8 → Fin 3 := fun e => if e.val < t then 2 else if e.val = t ∧ 1 ≤ t then 1 else 0
def wg (t : ℕ) : Fin 2 → Fin 5 × Bool := fun p => (⟨(min t 8 + 1 - p.val) / 2, by omega⟩, decide ¬ (1 ≤ t ∧ t ≤ 7 ∧ t % 2 = p.val))

theorem w_start : Function.update (Function.update (Function.update (wf 0) 0 1) 0 2) 1 1 = wf 1
    ∧ Function.update (Function.update (Function.update (wg 0) (par 0) (0, false)) (par 0) (1, true)) (par 1) (0, false) = wg 1 := by
  constructor <;> funext x <;> revert x <;> decide
theorem w_next : ∀ e e' : Fin 8, e ≠ 0 → e.val + 1 = e'.val → ∀ r r' : Fin 5, r.val = e.val / 2 → r'.val = e'.val / 2 →
    wf e.val e = 1 ∧ wg e.val (par e) = (r, false) ∧ Function.update (wf e.val) e 2 e' = 0 ∧ Function.update (wg e.val) (par e) (⟨e.val / 2 + 1, by omega⟩, true) (par e') = (r', true)
      ∧ (∀ x, Function.update (Function.update (wf e.val) e 2) e' 1 x = wf (e.val + 1) x)
      ∧ (∀ x, Function.update (Function.update (wg e.val) (par e) (⟨e.val / 2 + 1, by omega⟩, true)) (par e') (r', false) x = wg (e.val + 1) x) := by decide +kernel
theorem w_last : wf 7 7 = 1 ∧ wg 7 (par 7) = (3, false) ∧ (∀ x, Function.update (wf 7) 7 2 x = wf 8 x) ∧ (∀ x, Function.update (wg 7) (par 7) (4, true) x = wg 8 x) := by decide +kernel
theorem wf_late (t : ℕ) (h : 8 ≤ t) : wf t = fun _ => 2 := by
  funext x; unfold wf; rw [if_pos (by omega)]
theorem wg_late (t : ℕ) (h : 8 ≤ t) : wg t = wg 8 := by
  funext x; unfold wg
  refine Prod.ext (Fin.ext ?_) ?_
  · show (min t 8 + 1 - x.val) / 2 = (min 8 8 + 1 - x.val) / 2
    rw [Nat.min_eq_right h]; rfl
  · show decide (¬ (1 ≤ t ∧ t ≤ 7 ∧ t % 2 = x.val)) = decide (¬ (1 ≤ 8 ∧ 8 ≤ 7 ∧ 8 % 2 = x.val))
    rw [decide_eq_decide]; omega

section Point
variable {α : Type} (c : Dev nD)

/-- A whole buffer's load and store. -/
theorem wp_load_all {Q : α → sProp 𝕄} {s : Shape} {ty : EltTy} (M : Memref sig .tc .vmem s ty) {off : Fin s.rank → ℕ} (h0 : off = fun _ => 0) {inb : ∀ a, off a + s.size a ≤ s.size a}
    (q : PosShare TreeShare) (X : s.Idx → Elt F ty) {hl : M.view.LoadsAt (Rect.unit off s.size inb)} {k : (s.Idx → Elt F ty) → Prog (TpuEff nD τ sig (Elt F) Λ₀ .tc) α} :
    (owns (c : Thread nD τ) M q X : sProp 𝕄)
      ⊢ iprop((owns (c : Thread nD τ) M q X -∗ WP c (k X) Q) -∗ WP c (.op (.load M (Rect.unit off s.size inb).toLoadRect hl) k) Q) := by
  have h := wp_load_at (Q := Q) c M (r := Rect.unit off s.size inb) (hl := hl) (k := k) q X
  rwa [show (fun j => X ((Rect.unit off s.size inb).emb j)) = X from funext fun j => congrArg X (emb_whole2 h0 j)] at h
theorem wp_store_all {Q : α → sProp 𝕄} {s : Shape} {ty : EltTy} (M : Memref sig .tc .vmem s ty) {off : Fin s.rank → ℕ} (h0 : off = fun _ => 0) {inb : ∀ a, off a + s.size a ≤ s.size a}
    (X : s.Idx → Elt F ty) {w : s.Idx → Elt F ty} {hx : (M.access (Rect.unit off s.size inb)).Stores Finset.univ} {hm} {k : PUnit → Prog (TpuEff nD τ sig (Elt F) Λ₀ .tc) α} :
    (owns (c : Thread nD τ) M fullShare X : sProp 𝕄)
      ⊢ iprop((owns (c : Thread nD τ) M fullShare w -∗ WP c (k ⟨⟩) Q) -∗ WP c (.op (.store M (Rect.unit off s.size inb) w Finset.univ hx hm) k) Q) := by
  iintro H Hk
  iapply (wp_store_at c M X) $$ H
  iintro %X' %hX H
  rw [show X' = w from funext fun j => by have := hX.1 j; rwa [emb_whole2 h0 j] at this]
  iapply Hk $$ H

/-- The load of the rows' experts of one rank. -/
theorem wp_load_col {Q : α → sProp 𝕄} {A4 : Memref sig .tc .vmem S512x2 .i32} (q : Fin 4) (r : Fin 2) {off : Fin 2 → ℕ} (hoff : off = ![0, r.val]) {inb : ∀ a, off a + S512x1.size a ≤ S512x2.size a}
    {hl : A4.view.LoadsAt (Rect.unit (s := S512x2) off S512x1.size inb)} {k : (S512x1.Idx → Elt F .i32) → Prog (TpuEff nD τ sig (Elt F) Λ₀ .tc) α} :
    (owns (c : Thread nD τ) A4 fullShare (ib m c q) : sProp 𝕄)
      ⊢ iprop((owns (c : Thread nD τ) A4 fullShare (ib m c q) -∗ WP c (k (ic m c q r)) Q)
        -∗ WP c (.op (.load A4 (Rect.unit (s := S512x2) off S512x1.size inb).toLoadRect hl) k) Q) := by
  subst hoff
  exact wp_load_at (Q := Q) c A4 (r := Rect.unit (s := S512x2) ![0, r.val] S512x1.size inb) (hl := hl) (k := k) fullShare (ib m c q)

theorem WP_bind {β : Type} (p : Prog (TpuEff nD τ sig (Elt F) Λ₀ .tc) β) (k : β → Prog (TpuEff nD τ sig (Elt F) Λ₀ .tc) α) (Q : α → sProp 𝕄) :
    WP c (p >>= k) Q = WP c p (fun a => WP c (k a) Q) := wp_bind ..

theorem WP_deviceId (k : Dev nD → Prog (TpuEff nD τ sig (Elt F) Λ₀ .tc) α) (Q : α → sProp 𝕄) : WP c (.op .deviceId k) Q = WP c (k c) Q := wp_deviceId ..

variable (A2 : Memref sig .tc .vmem S512x1024 .f32) (h2 : A2.IsWhole) (A3 : Memref sig .tc .vmem S1024x32 .f32) (h3 : A3.IsWhole)
  (A4 : Memref sig .tc .vmem S512x2 .i32) (h4 : A4.IsWhole) (A6 : Memref sig .tc .vmem S2048x1024 .f32) (h6 : A6.IsWhole)
  (h5 : wM.IsWhole) (h7 : xbfM.IsWhole) (h8 : g0M.IsWhole) (h9 : g1M.IsWhole) (h10 : accM.IsWhole) (h11 : stgM.IsWhole) (h12 : ewM.IsWhole)
  (h14 : rsSM.IsWhole) (h15 : rsRM.IsWhole) (h16 : agSM.IsWhole) (h17 : agRM.IsWhole)

/-- The rounding of the quarter's block and its gates. -/
theorem part1_spec (q : Fin 4) (i : grid0.Coords) (X) (G₀ G₁ : S512x1.Idx → Elt F .f32) (Kt : _ → sProp 𝕄) :
    iprop(owns (c : Thread nD τ) A2 fullShare (xb m c q) ∗ owns (c : Thread nD τ) A3 fullShare (rw m c q) ∗ owns (c : Thread nD τ) A4 fullShare (ib m c q)
        ∗ owns (c : Thread nD τ) xbfM fullShare X ∗ owns (c : Thread nD τ) g0M fullShare G₀ ∗ owns (c : Thread nD τ) g1M fullShare G₁)
      ⊢ iprop((∀ v, owns (c : Thread nD τ) A2 fullShare (xb m c q) -∗ owns (c : Thread nD τ) A3 fullShare (rw m c q) -∗ owns (c : Thread nD τ) A4 fullShare (ib m c q)
            -∗ owns (c : Thread nD τ) xbfM fullShare (xbf m c q) -∗ owns (c : Thread nD τ) g0M fullShare (g0 m c q) -∗ owns (c : Thread nD τ) g1M fullShare G₁
            -∗ Kt ⟨k0_pay11 (xb m c q) (rw m c q) (ic m c q 0) (ic m c q 1), v⟩)
        -∗ WP c (k0_part1 (F := F) i A2 h2 A3 h3 A4 h4 wM h5 A6 h6 xbfM h7 g0M h8 g1M h9 accM h10 stgM h11 ewM h12 cc0_scratch6 rsSM h14 rsRM h15 agSM h16 agRM h17 cc0_scratch11 cc0_scratch12 cc0_scratch13 cc0_scratch14) Kt) := by
  rw [k0_part1_eq_skeleton]; unfold k0_part1_skel
  simp only [Prog.lift, Prog.bind_op, Prog.bind_ret, Prog.pure_eq_ret]
  iintro ⟨H2, H3, H4, Hx, Hg0, Hg1⟩ Hk
  iapply (wp_load_all c A2 zero2 fullShare (xb m c q)) $$ H2; iintro H2
  iapply (wp_load_all c xbfM zero2 fullShare X) $$ Hx; iintro Hx
  iapply (wp_store_all c xbfM zero2 X) $$ Hx; iintro Hx
  iapply (wp_load_all c A3 zero2 fullShare (rw m c q)) $$ H3; iintro H3
  iapply (wp_load_col m c q 0 rfl) $$ H4; iintro H4
  iapply (wp_load_col m c q 1 rfl) $$ H4; iintro H4
  iapply (wp_load_all c g0M zero2 fullShare G₀) $$ Hg0; iintro Hg0
  iapply (wp_store_all c g0M zero2 G₀) $$ Hg0; iintro Hg0
  iapply (wp_load_all c g1M zero2 fullShare G₁) $$ Hg1; iintro Hg1
  simp only [WP, wp_ret]
  imodintro
  iapply Hk $$ %_ H2 H3 H4 [Hx] [Hg0] Hg1
  · iapply (Entails.of_eq (show owns (c : Thread nD τ) xbfM fullShare (k0_pay5 (xb m c q)) = _ from rfl)); iexact Hx
  · iapply (Entails.of_eq (show owns (c : Thread nD τ) g0M fullShare (k0_pay10 (xb m c q) (rw m c q) (ic m c q 0) (ic m c q 1)) = _ from rfl)); iexact Hg0

/-- What a point has of its quarter, before and after its own part. -/
def xo (q : Fin 4) (e : Fin 8) : Option (Fin 4) := if e = 0 then none else some q

set_option maxHeartbeats 1600000 in
/-- A point's own part up to its products: the expert's weights rounded, the next one's prefetched, the quarter's block and gates made at its first. -/
theorem part17_spec (q : Fin 4) (e : Fin 8) (n : ℕ) (Kt : _ → sProp 𝕄) :
    iprop(ctx m K ∗ ow c n ∗ owns (c : Thread nD τ) A2 fullShare (xb m c q) ∗ owns (c : Thread nD τ) A3 fullShare (rw m c q) ∗ owns (c : Thread nD τ) A4 fullShare (ib m c q)
        ∗ Ws m c (wf (8 * q.val + e.val)) (wg (8 * q.val + e.val)) ∗ Xs m c (xo q e) ∗ Aq m c q ⟨e.val, by omega⟩)
      ⊢ iprop((∀ a0, ∀ a1, ∀ v2, ∀ v31, ow c n -∗ owns (c : Thread nD τ) A2 fullShare (xb m c q) -∗ owns (c : Thread nD τ) A3 fullShare (rw m c q) -∗ owns (c : Thread nD τ) A4 fullShare (ib m c q)
            -∗ Ws m c (wf (8 * q.val + e.val + 1)) (wg (8 * q.val + e.val + 1)) -∗ Xs m c (some q) -∗ owns (c : Thread nD τ) (accQ q) fullShare (accv m c q e.val)
            -∗ Kt ⟨a0, a1, c, v2, k0_pay27 (co q e) c (ic m c q 0) (g0 m c q) (ic m c q 1) (g1 m c q), k0_pay28 (ewb m c e) (xbf m c q), v31⟩)
        -∗ WP c (k0_part17 (F := F) (co q e) A2 h2 A3 h3 A4 h4 wM h5 A6 h6 xbfM h7 g0M h8 g1M h9 accM h10 stgM h11 ewM h12 cc0_scratch6 rsSM h14 rsRM h15 agSM h16 agRM h17 cc0_scratch11 cc0_scratch12 cc0_scratch13 cc0_scratch14) Kt) := by
  rw [k0_part17_eq_skeleton]; unfold k0_part17_skel
  have c1 := cond1_iff q e
  have c2 := cond2_iff q e
  have c3 := cond3_iff q e
  have c4 := cond4_iff q e
  by_cases hq : q = 0
  · subst hq
    by_cases he : e = 0
    · subst he
      replace c1 := c1.2 rfl
      replace c2 := c2.2 rfl
      replace c3 := c3.2 (by decide)
      replace c4 := c4.2 rfl
      simp (zeta := false) only [↓reduceDIte, c1, c3, c4]
      simp only [↓reduceDIte, c2, c1, c3, c4, Prog.lift, Prog.bind_op, Prog.bind_ret, Prog.pure_eq_ret, WP_deviceId, WP_bind]
      iintro ⟨#Hc, Ho, H2, H3, H4, HW, HX, HA⟩ Hk
      unfold Aq
      icases HA with ⟨%Xa, %hXa, HA⟩
      unfold Xs
      icases HX with ⟨%X, %G₀, %G₁, %hX, Hx, Hg0, Hg1⟩
      rw [show 8 * (0 : Fin 4).val + (0 : Fin 8).val = 0 from rfl]
      iapply (wp_pf m K c (wf 0) (wg 0) 0 0 (rfl) (by decide) (by decide) (show ![0] = ![(par 0).val] from rfl) (show ![0, 0, 0] = ![(par 0).val, 0, 0] from rfl) (show ![0, 0, 0] = ![(0 : Fin 8).val, 0, 0] from rfl)) $$ [HW]
      · isplitr; · iexact Hc
        iexact HW
      iintro HW
      iapply (wp_pw m K c (Function.update (wf 0) 0 1) (Function.update (wg 0) (par 0) (0, false)) 0 n 0 1 (rfl) (rfl) (by decide) (by decide) (off1 0 0) (off2 0 0) (off4 0 0) (off5 0 0)) $$ [Ho HW]
      · isplitr; · iexact Hc
        isplitl [Ho]; · iexact Ho
        iexact HW
      iintro ⟨Ho, HW⟩
      iapply (wp_pf m K c (Function.update (Function.update (wf 0) 0 1) 0 2) (Function.update (Function.update (wg 0) (par 0) (0, false)) (par 0) (1, true)) 1 0 (rfl) (by decide) (by decide) (off6 0 0) (off7 0 0) (off8 0 0)) $$ [HW]
      · isplitr; · iexact Hc
        iexact HW
      iintro HW
      ihave HW := (Entails.of_eq (congrArg₂ (Ws m c) w_start.1 w_start.2)) $$ HW
      rw [WP_bind]
      iapply (part1_spec m c A2 h2 A3 h3 A4 h4 A6 h6 h5 h7 h8 h9 h10 h11 h12 h14 h15 h16 h17 0 (co 0 0) X G₀ G₁) $$ [H2 H3 H4 Hx Hg0 Hg1]
      · isplitl [H2]; · iexact H2
        isplitl [H3]; · iexact H3
        isplitl [H4]; · iexact H4
        isplitl [Hx]; · iexact Hx
        isplitl [Hg0]; · iexact Hg0
        iexact Hg1
      iintro %v101 H2 H3 H4 Hx Hg0 Hg1
      dsimp only
      iapply (wp_store_all c g1M zero2 G₁) $$ Hg1; iintro Hg1
      ihave Hg1 := (Entails.of_eq (show owns (c : Thread nD τ) g1M fullShare (k0_pay25 (k0_pay11 (xb m c 0) (rw m c 0) (ic m c 0 0) (ic m c 0 1))) = owns (c : Thread nD τ) g1M fullShare (g1 m c 0) from rfl)) $$ Hg1
      iapply (wp_load_slice c accM (off₀ := ![512 * (0 : Fin 4).val, 0]) (inb₀ := inbQ 0) (h₀ := fun _ => rfl) (off9 0 0) fullShare Xa) $$ HA; iintro HA
      iapply (wp_store_slice c accM (off₀ := ![512 * (0 : Fin 4).val, 0]) (inb₀ := inbQ 0) (h₀ := fun _ => rfl) (off9 0 0) Xa) $$ HA; iintro HA
      iapply (wp_load_col m c 0 0 rfl) $$ H4; iintro H4
      iapply (wp_load_all c g0M zero2 fullShare (g0 m c 0)) $$ Hg0; iintro Hg0
      iapply (wp_load_col m c 0 1 rfl) $$ H4; iintro H4
      iapply (wp_load_all c g1M zero2 fullShare (g1 m c 0)) $$ Hg1; iintro Hg1
      iapply (wp_ew_load m c _ _ 0 (by rfl) (off10 0 0)) $$ HW; iintro HW
      iapply (wp_load_all c xbfM zero2 fullShare (xbf m c 0)) $$ Hx; iintro Hx
      simp only [WP, wp_ret]
      imodintro
      iapply Hk $$ %_ %_ %_ %_ Ho H2 H3 H4 [HW] [Hx Hg0 Hg1] [HA]
      · iexact HW
      · iexists (xbf m c 0), (g0 m c 0), (g1 m c 0)
        isplitr; · ipureintro; rintro q' ⟨⟩; exact ⟨rfl, rfl, rfl⟩
        isplitl [Hx]; · iexact Hx
        isplitl [Hg0]; · iexact Hg0
        iexact Hg1
      · iapply (Entails.of_eq (show owns (c : Thread nD τ) (accQ 0) fullShare k0_pay26 = owns (c : Thread nD τ) (accQ 0) fullShare (accv m c 0 0) from rfl)); iexact HA
    · have hlt := e.isLt
      by_cases h7 : e.val < 7
      · obtain ⟨e', he'⟩ : ∃ e' : Fin 8, e.val + 1 = e'.val := ⟨⟨e.val + 1, by omega⟩, rfl⟩
        have hpar : 1 - e.val % 2 = (par e').val := by show _ = e'.val % 2; omega
        obtain ⟨w1, w2, w3, w4, w5, w6⟩ := w_next e e' he he' ⟨e.val / 2, by omega⟩ ⟨e'.val / 2, by omega⟩ rfl rfl
        replace c1 := c1.2 rfl
        replace c2 := mt c2.1 he
        replace c3 := c3.2 h7
        replace c4 := mt c4.1 he
        simp (zeta := false) only [↓reduceDIte, c1, c3, c4]
        simp only [↓reduceDIte, c2, c1, c3, c4, Prog.lift, Prog.bind_op, Prog.bind_ret, Prog.pure_eq_ret, WP_deviceId, WP_bind]
        iintro ⟨#Hc, Ho, H2, H3, H4, HW, HX, HA⟩ Hk
        unfold Aq
        icases HA with ⟨%Xa, %hXa, HA⟩
        unfold Xs
        icases HX with ⟨%X, %G₀, %G₁, %hX, Hx, Hg0, Hg1⟩
        rw [show 8 * (0 : Fin 4).val + e.val = e.val from Nat.zero_add _]
        obtain ⟨hX1, hX2, hX3⟩ := hX 0 (if_neg he)
        have hA1 := hXa (fun h => he (Fin.ext (congrArg (fun x : Fin 9 => x.val) h)))
        subst hX1 hX2 hX3 hA1
        iapply (wp_pw m K c _ _ e n ⟨e.val / 2, by omega⟩ ⟨e.val / 2 + 1, by omega⟩ (rfl) (rfl) (w1) (w2) (off1 0 e) (off2 0 e) (off4 0 e) (off5 0 e)) $$ [Ho HW]
        · isplitr; · iexact Hc
          isplitl [Ho]; · iexact Ho
          iexact HW
        iintro ⟨Ho, HW⟩
        iapply (wp_pf m K c _ _ e' ⟨e'.val / 2, by omega⟩ (rfl) (w3) (w4) ((off6 0 e).trans (by rw [hpar])) ((off7 0 e).trans (by rw [hpar])) ((off8 0 e).trans (by rw [he']))) $$ [HW]
        · isplitr; · iexact Hc
          iexact HW
        iintro HW
        rw [funext w5, funext w6]
        iapply (wp_load_col m c 0 0 rfl) $$ H4; iintro H4
        iapply (wp_load_all c g0M zero2 fullShare (g0 m c 0)) $$ Hg0; iintro Hg0
        iapply (wp_load_col m c 0 1 rfl) $$ H4; iintro H4
        iapply (wp_load_all c g1M zero2 fullShare (g1 m c 0)) $$ Hg1; iintro Hg1
        iapply (wp_ew_load m c _ _ e (by unfold wf; rw [if_pos (by omega)]) (off10 0 e)) $$ HW; iintro HW
        iapply (wp_load_all c xbfM zero2 fullShare (xbf m c 0)) $$ Hx; iintro Hx
        simp only [WP, wp_ret]
        imodintro
        iapply Hk $$ %_ %_ %_ %_ Ho H2 H3 H4 [HW] [Hx Hg0 Hg1] [HA]
        · iexact HW
        · iexists (xbf m c 0), (g0 m c 0), (g1 m c 0)
          isplitr; · ipureintro; rintro q' ⟨⟩; exact ⟨rfl, rfl, rfl⟩
          isplitl [Hx]; · iexact Hx
          isplitl [Hg0]; · iexact Hg0
          iexact Hg1
        · iexact HA
      · obtain rfl : e = 7 := Fin.ext (by show e.val = 7; omega)
        replace c1 := c1.2 rfl
        replace c2 := mt c2.1 he
        replace c3 := mt c3.1 h7
        replace c4 := mt c4.1 he
        simp (zeta := false) only [↓reduceDIte, c1, c3, c4]
        simp only [↓reduceDIte, c2, c1, c3, c4, Prog.lift, Prog.bind_op, Prog.bind_ret, Prog.pure_eq_ret, WP_deviceId, WP_bind]
        iintro ⟨#Hc, Ho, H2, H3, H4, HW, HX, HA⟩ Hk
        unfold Aq
        icases HA with ⟨%Xa, %hXa, HA⟩
        unfold Xs
        icases HX with ⟨%X, %G₀, %G₁, %hX, Hx, Hg0, Hg1⟩
        rw [show 8 * (0 : Fin 4).val + (7 : Fin 8).val = (7 : Fin 8).val from Nat.zero_add _]
        obtain ⟨hX1, hX2, hX3⟩ := hX 0 (if_neg he)
        have hA1 := hXa (fun h => he (Fin.ext (congrArg (fun x : Fin 9 => x.val) h)))
        subst hX1 hX2 hX3 hA1
        iapply (wp_pw m K c _ _ 7 n 3 4 (rfl) (rfl) (w_last.1) (w_last.2.1) (off1 0 7) (off2 0 7) (off4 0 7) (off5 0 7)) $$ [Ho HW]
        · isplitr; · iexact Hc
          isplitl [Ho]; · iexact Ho
          iexact HW
        iintro ⟨Ho, HW⟩
        rw [show Function.update (wf 7) 7 2 = wf 8 from funext w_last.2.2.1, show Function.update (wg 7) (par 7) (4, true) = wg 8 from funext w_last.2.2.2]
        iapply (wp_load_col m c 0 0 rfl) $$ H4; iintro H4
        iapply (wp_load_all c g0M zero2 fullShare (g0 m c 0)) $$ Hg0; iintro Hg0
        iapply (wp_load_col m c 0 1 rfl) $$ H4; iintro H4
        iapply (wp_load_all c g1M zero2 fullShare (g1 m c 0)) $$ Hg1; iintro Hg1
        iapply (wp_ew_load m c _ _ 7 (by rfl) (off10 0 7)) $$ HW; iintro HW
        iapply (wp_load_all c xbfM zero2 fullShare (xbf m c 0)) $$ Hx; iintro Hx
        simp only [WP, wp_ret]
        imodintro
        iapply Hk $$ %_ %_ %_ %_ Ho H2 H3 H4 [HW] [Hx Hg0 Hg1] [HA]
        · iexact HW
        · iexists (xbf m c 0), (g0 m c 0), (g1 m c 0)
          isplitr; · ipureintro; rintro q' ⟨⟩; exact ⟨rfl, rfl, rfl⟩
          isplitl [Hx]; · iexact Hx
          isplitl [Hg0]; · iexact Hg0
          iexact Hg1
        · iexact HA
  · have hqv : 1 ≤ q.val := Nat.pos_of_ne_zero fun h => hq (Fin.ext h)
    rw [wf_late _ (show 8 ≤ 8 * q.val + e.val by omega), wg_late _ (show 8 ≤ 8 * q.val + e.val by omega), wf_late _ (show 8 ≤ 8 * q.val + e.val + 1 by omega), wg_late _ (show 8 ≤ 8 * q.val + e.val + 1 by omega)]
    replace c1 := mt c1.1 hq
    clear c2 c3
    by_cases he : e = 0
    · subst he
      replace c4 := c4.2 rfl
      simp (zeta := false) only [↓reduceDIte, c1, c4]
      simp only [Prog.lift, Prog.bind_op, Prog.bind_ret, Prog.pure_eq_ret, WP_deviceId, WP_bind]
      iintro ⟨#Hc, Ho, H2, H3, H4, HW, HX, HA⟩ Hk
      unfold Aq
      icases HA with ⟨%Xa, %hXa, HA⟩
      unfold Xs
      icases HX with ⟨%X, %G₀, %G₁, %hX, Hx, Hg0, Hg1⟩
      iapply (part1_spec m c A2 h2 A3 h3 A4 h4 A6 h6 h5 h7 h8 h9 h10 h11 h12 h14 h15 h16 h17 q (co q 0) X G₀ G₁) $$ [H2 H3 H4 Hx Hg0 Hg1]
      · isplitl [H2]; · iexact H2
        isplitl [H3]; · iexact H3
        isplitl [H4]; · iexact H4
        isplitl [Hx]; · iexact Hx
        isplitl [Hg0]; · iexact Hg0
        iexact Hg1
      iintro %v101 H2 H3 H4 Hx Hg0 Hg1
      dsimp only
      iapply (wp_store_all c g1M zero2 G₁) $$ Hg1; iintro Hg1
      ihave Hg1 := (Entails.of_eq (show owns (c : Thread nD τ) g1M fullShare (k0_pay25 (k0_pay11 (xb m c q) (rw m c q) (ic m c q 0) (ic m c q 1))) = owns (c : Thread nD τ) g1M fullShare (g1 m c q) from rfl)) $$ Hg1
      iapply (wp_load_slice c accM (off₀ := ![512 * q.val, 0]) (inb₀ := inbQ q) (h₀ := fun _ => rfl) (off9 q 0) fullShare Xa) $$ HA; iintro HA
      iapply (wp_store_slice c accM (off₀ := ![512 * q.val, 0]) (inb₀ := inbQ q) (h₀ := fun _ => rfl) (off9 q 0) Xa) $$ HA; iintro HA
      iapply (wp_load_col m c q 0 rfl) $$ H4; iintro H4
      iapply (wp_load_all c g0M zero2 fullShare (g0 m c q)) $$ Hg0; iintro Hg0
      iapply (wp_load_col m c q 1 rfl) $$ H4; iintro H4
      iapply (wp_load_all c g1M zero2 fullShare (g1 m c q)) $$ Hg1; iintro Hg1
      iapply (wp_ew_load m c _ _ 0 (by rfl) (off10 q 0)) $$ HW; iintro HW
      iapply (wp_load_all c xbfM zero2 fullShare (xbf m c q)) $$ Hx; iintro Hx
      simp only [WP, wp_ret]
      imodintro
      iapply Hk $$ %_ %_ %_ %_ Ho H2 H3 H4 [HW] [Hx Hg0 Hg1] [HA]
      · iexact HW
      · iexists (xbf m c q), (g0 m c q), (g1 m c q)
        isplitr; · ipureintro; rintro q' ⟨⟩; exact ⟨rfl, rfl, rfl⟩
        isplitl [Hx]; · iexact Hx
        isplitl [Hg0]; · iexact Hg0
        iexact Hg1
      · iapply (Entails.of_eq (show owns (c : Thread nD τ) (accQ q) fullShare k0_pay26 = owns (c : Thread nD τ) (accQ q) fullShare (accv m c q 0) from rfl)); iexact HA
    · replace c4 := mt c4.1 he
      simp (zeta := false) only [↓reduceDIte, c1, c4]
      simp only [Prog.lift, Prog.bind_op, Prog.bind_ret, Prog.pure_eq_ret, WP_deviceId, WP_bind]
      iintro ⟨#Hc, Ho, H2, H3, H4, HW, HX, HA⟩ Hk
      unfold Aq
      icases HA with ⟨%Xa, %hXa, HA⟩
      unfold Xs
      icases HX with ⟨%X, %G₀, %G₁, %hX, Hx, Hg0, Hg1⟩
      obtain ⟨hX1, hX2, hX3⟩ := hX q (if_neg he)
      have hA1 := hXa (fun h => he (Fin.ext (congrArg (fun x : Fin 9 => x.val) h)))
      subst hX1 hX2 hX3 hA1
      iapply (wp_load_col m c q 0 rfl) $$ H4; iintro H4
      iapply (wp_load_all c g0M zero2 fullShare (g0 m c q)) $$ Hg0; iintro Hg0
      iapply (wp_load_col m c q 1 rfl) $$ H4; iintro H4
      iapply (wp_load_all c g1M zero2 fullShare (g1 m c q)) $$ Hg1; iintro Hg1
      iapply (wp_ew_load m c _ _ e (by rfl) (off10 q e)) $$ HW; iintro HW
      iapply (wp_load_all c xbfM zero2 fullShare (xbf m c q)) $$ Hx; iintro Hx
      simp only [WP, wp_ret]
      imodintro
      iapply Hk $$ %_ %_ %_ %_ Ho H2 H3 H4 [HW] [Hx Hg0 Hg1] [HA]
      · iexact HW
      · iexists (xbf m c q), (g0 m c q), (g1 m c q)
        isplitr; · ipureintro; rintro q' ⟨⟩; exact ⟨rfl, rfl, rfl⟩
        isplitl [Hx]; · iexact Hx
        isplitl [Hg0]; · iexact Hg0
        iexact Hg1
      · iexact HA

end Point

end Cert.MoE
-- ==== Proof.Inner.lean ====
/-
# The points of the grid: those with no exchange, and those that reduce a quarter
-/
module

public import proofs.«01_k».proof.Proof.Point

@[expose] public section

noncomputable section

namespace Cert.MoE

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × KC → ℕ)

/-! ## The state by time -/

/-- Experts added, phases, dues paid and pieces in place, before the point of number `t`. -/
def fa (t : ℕ) : Fin 4 → Fin 9 := fun q => ⟨min (t - 8 * q.val) 8, by omega⟩
def fc (t : ℕ) : Fin 4 → Fin 5 := fun q =>
  if 32 ≤ t then 4 else if t ≤ 7 then 0 else if t ≤ 8 * q.val + 7 then 1 else if t ≤ 8 * q.val + 11 then 2 else if t ≤ 8 * q.val + 15 then 3 else 4
def no (t : ℕ) : ℕ :=
  if t ≤ 7 then 0 else if t ≤ 11 then 6 else if t ≤ 15 then 9 else if t ≤ 19 then 12 else if t ≤ 23 then 15 else if t ≤ 27 then 18 else if t ≤ 31 then 21 else 27
def Dn (c : Dev nD) (t : ℕ) : Fin 4 → Fin 4 → Bool := fun q p =>
  if p = c then decide (min (8 * q.val + 12) 32 ≤ t) else decide (min (8 * q.val + 16) 32 ≤ t)

theorem fa_at : ∀ (q : Fin 4) (e : Fin 8), fa (8 * q.val + e.val) q = ⟨e.val, by omega⟩ := by decide +kernel
theorem fa_next' : ∀ (q : Fin 4) (e : Fin 8) x, Function.update (fa (8 * q.val + e.val)) q ⟨e.val + 1, by omega⟩ x = fa (8 * q.val + e.val + 1) x := by decide +kernel
theorem fa_next (q : Fin 4) (e : Fin 8) : Function.update (fa (8 * q.val + e.val)) q ⟨e.val + 1, by omega⟩ = fa (8 * q.val + e.val + 1) := funext (fa_next' q e)

theorem plain_next : ∀ (q : Fin 4) (e : Fin 8), e ≠ 7 → (q = 0 ∨ e ≠ 3) → (∀ x, fc (8 * q.val + e.val) x = fc (8 * q.val + e.val + 1) x) ∧ no (8 * q.val + e.val) = no (8 * q.val + e.val + 1)
    ∧ decide (8 ≤ 8 * q.val + e.val) = decide (8 ≤ 8 * q.val + e.val + 1) := by decide +kernel
theorem Dn_plain' : ∀ (c : Dev nD) (q : Fin 4) (e : Fin 8), (q = 0 ∨ (e ≠ 3 ∧ e ≠ 7)) → ∀ x y, Dn c (8 * q.val + e.val) x y = Dn c (8 * q.val + e.val + 1) x y := by decide +kernel
theorem Dn_plain (c : Dev nD) (q : Fin 4) (e : Fin 8) (h : q = 0 ∨ (e ≠ 3 ∧ e ≠ 7)) : Dn c (8 * q.val + e.val) = Dn c (8 * q.val + e.val + 1) :=
  funext fun x => funext fun y => Dn_plain' c q e h x y
theorem mid_next : ∀ (q q' : Fin 4), q.val + 1 = q'.val → no (8 * q'.val + (3 : Fin 8).val) = 6 * q.val + 6 ∧ no (8 * q'.val + (3 : Fin 8).val + 1) = 6 * q.val + 9
    ∧ fc (8 * q'.val + (3 : Fin 8).val) q = 2 ∧ (∀ x, Function.update (fc (8 * q'.val + (3 : Fin 8).val)) q 3 x = fc (8 * q'.val + (3 : Fin 8).val + 1) x)
    ∧ fa (8 * q'.val + (3 : Fin 8).val + 1) q = 8
    ∧ (8 ≤ 8 * q'.val + (3 : Fin 8).val) := by decide +kernel
theorem mid_D : ∀ (c : Dev nD) (q q' : Fin 4), q.val + 1 = q'.val → ∀ x y, mark (Dn c (8 * q'.val + (3 : Fin 8).val)) q c x y = Dn c (8 * q'.val + (3 : Fin 8).val + 1) x y := by decide +kernel
theorem end_next : ∀ (q q' : Fin 4), q.val + 1 = q'.val → no (8 * q'.val + (7 : Fin 8).val) = 3 + 6 * q'.val
    ∧ fc (8 * q'.val + (7 : Fin 8).val) q' = 1 ∧ Function.update (fc (8 * q'.val + (7 : Fin 8).val)) q' 2 q = 3
    ∧ (q' ≠ 3 → no (8 * q'.val + (7 : Fin 8).val + 1) = 6 + 6 * q'.val
      ∧ ∀ x, Function.update (Function.update (fc (8 * q'.val + (7 : Fin 8).val)) q' 2) q 4 x = fc (8 * q'.val + (7 : Fin 8).val + 1) x)
    ∧ 8 ≤ 8 * q'.val + (7 : Fin 8).val := by decide +kernel
theorem end_D : ∀ (c : Dev nD) (q q' : Fin 4), q.val + 1 = q'.val → q' ≠ 3 → ∀ x y,
    mark (mark (mark (Dn c (8 * q'.val + (7 : Fin 8).val)) q (src c 0)) q (src c 1)) q (src c 2) x y = Dn c (8 * q'.val + (7 : Fin 8).val + 1) x y := by decide +kernel
theorem tail_next : Function.update (Function.update (fc (8 * (3 : Fin 4).val + (7 : Fin 8).val)) 3 2) 2 4 3 = 2
    ∧ ∀ x, Function.update (Function.update (Function.update (fc (8 * (3 : Fin 4).val + (7 : Fin 8).val)) 3 2) 2 4) 3 4 x = fc (8 * (3 : Fin 4).val + (7 : Fin 8).val + 1) x := by decide +kernel
theorem tail_D : ∀ (c : Dev nD) x y,
    mark (mark (mark (mark (mark (mark (mark (Dn c (8 * (3 : Fin 4).val + (7 : Fin 8).val)) 2 (src c 0)) 2 (src c 1)) 2 (src c 2)) 3 c) 3 (src c 0)) 3 (src c 1)) 3 (src c 2) x y
      = Dn c (8 * (3 : Fin 4).val + (7 : Fin 8).val + 1) x y := by decide +kernel

section Body
variable (c : Dev nD)

/-- What the device holds between points, but its dues and the windows' buffers. -/
def Gs (t : ℕ) (o : Option (Fin 4)) : sProp 𝕄 :=
  iprop(Ws m c (wf t) (wg t) ∗ Xs m c o ∗ As m c (fa t) ∗ Cs (F := F) c (fc t) ∗ Br (F := F) c (decide (8 ≤ t)))

theorem acc_step (q : Fin 4) (e : Fin 8) :
    (owns (c : Thread nD τ) (accQ q) fullShare (k0_pay1 (k0_pay27 (co q e) c (ic m c q 0) (g0 m c q) (ic m c q 1) (g1 m c q)) (k0_pay28 (ewb m c e) (xbf m c q)) (accv m c q e.val)) : sProp 𝕄)
      = owns (c : Thread nD τ) (accQ q) fullShare (accv m c q (e.val + 1)) := by
  rw [accv, show e8 e.val = e from Fin.ext (Nat.mod_eq_of_lt e.isLt)]

theorem Aq_of (q : Fin 4) (n : Fin 9) (k : ℕ) (h : k = n.val) : (owns (c : Thread nD τ) (accQ q) fullShare (accv m c q k) : sProp 𝕄) ⊢ Aq m c q n := by
  subst h; unfold Aq; iintro H; iexists _; isplitr; · ipureintro; exact fun _ => rfl
  iexact H
theorem Aq_8 (q : Fin 4) : Aq m c q 8 ⊢ (owns (c : Thread nD τ) (accQ q) fullShare (accv m c q 8) : sProp 𝕄) := by
  unfold Aq; iintro ⟨%X, %hX, H⟩; rw [hX (by decide)]; iexact H

theorem Cq_1 (q : Fin 4) : Cq (F := F) c q 1 = iprop(anyAgS (F := F) c q ∗ I1 (F := F) c q 0 ∗ I1 (F := F) c q 1 ∗ I1 (F := F) c q 2) := rfl
theorem Cq_2 (q : Fin 4) : Cq (F := F) c q 2 = iprop(anyAgS (F := F) c q ∗ I2 (F := F) c q 0 ∗ I2 (F := F) c q 1 ∗ I2 (F := F) c q 2) := rfl
theorem Cq_3 (q : Fin 4) : Cq (F := F) c q 3 = iprop(I3 (F := F) c q 0 ∗ I3 (F := F) c q 1 ∗ I3 (F := F) c q 2) := rfl
theorem Cq_4 (q : Fin 4) : Cq (F := F) c q 4 = iprop(anyAgS (F := F) c q ∗ I4 (F := F) c q 0 ∗ I4 (F := F) c q 1 ∗ I4 (F := F) c q 2) := rfl

/-- Once the devices have met, every quarter has its peers' landing slots. -/
theorem meet : iprop(Cs (F := F) c (fun _ => 0) ∗ landing (F := F) (dst c 0) 0 ∗ landing (F := F) (dst c 1) 1 ∗ landing (F := F) (dst c 2) 2) ⊢ Cs (F := F) c (fun _ => 1) := by
  unfold Cs landing
  iintro ⟨HC, H0, H1, H2⟩
  ihave HC := (Entails.of_eq (bigSep_sep' Finset.univ (fun q => Cq (F := F) c q 0) (fun q => iprop(anyRsR (F := F) (dst c 0) q 0 ∗ anyAgR (F := F) (dst c 0) q 0))).symm) $$ [HC H0]
  · isplitl [HC]; · iexact HC
    iexact H0
  ihave HC := (Entails.of_eq (bigSep_sep' Finset.univ (fun q => iprop(Cq (F := F) c q 0 ∗ anyRsR (F := F) (dst c 0) q 0 ∗ anyAgR (F := F) (dst c 0) q 0)) (fun q => iprop(anyRsR (F := F) (dst c 1) q 1 ∗ anyAgR (F := F) (dst c 1) q 1))).symm) $$ [HC H1]
  · isplitl [HC]; · iexact HC
    iexact H1
  ihave HC := (Entails.of_eq (bigSep_sep' Finset.univ (fun q => iprop((Cq (F := F) c q 0 ∗ anyRsR (F := F) (dst c 0) q 0 ∗ anyAgR (F := F) (dst c 0) q 0) ∗ anyRsR (F := F) (dst c 1) q 1 ∗ anyAgR (F := F) (dst c 1) q 1)) (fun q => iprop(anyRsR (F := F) (dst c 2) q 2 ∗ anyAgR (F := F) (dst c 2) q 2))).symm) $$ [HC H2]
  · isplitl [HC]; · iexact HC
    iexact H2
  have hm : ∀ q : Fin 4, iprop(((Cq (F := F) c q 0 ∗ anyRsR (F := F) (dst c 0) q 0 ∗ anyAgR (F := F) (dst c 0) q 0) ∗ anyRsR (F := F) (dst c 1) q 1 ∗ anyAgR (F := F) (dst c 1) q 1) ∗ anyRsR (F := F) (dst c 2) q 2 ∗ anyAgR (F := F) (dst c 2) q 2) ⊢ Cq (F := F) c q 1 := by
    intro q
    unfold Cq I1
    iintro ⟨⟨⟨⟨Hg, Ha, Hb, Hd⟩, H0⟩, H1⟩, H2⟩
    isplitl [Hg]; · iexact Hg
    isplitl [Ha H0]
    · isplitl [Ha]; · iexact Ha
      iexact H0
    isplitl [Hb H1]
    · isplitl [Hb]; · iexact Hb
      iexact H1
    isplitl [Hd]; · iexact Hd
    iexact H2
  iapply (show _ ⊢ (bigSep Finset.univ fun q => Cq (F := F) c q 1 : sProp 𝕄) from bigSep_mono fun q _ => hm q) $$ HC

variable (A2 : Memref sig .tc .vmem S512x1024 .f32) (h2 : A2.IsWhole) (A3 : Memref sig .tc .vmem S1024x32 .f32) (h3 : A3.IsWhole)
  (A4 : Memref sig .tc .vmem S512x2 .i32) (h4 : A4.IsWhole) (A6 : Memref sig .tc .vmem S2048x1024 .f32) (h6 : A6.IsWhole)
  (h5 : wM.IsWhole) (h7 : xbfM.IsWhole) (h8 : g0M.IsWhole) (h9 : g1M.IsWhole) (h10 : accM.IsWhole) (h11 : stgM.IsWhole) (h12 : ewM.IsWhole)
  (h14 : rsSM.IsWhole) (h15 : rsRM.IsWhole) (h16 : agSM.IsWhole) (h17 : agRM.IsWhole)

set_option maxHeartbeats 3200000 in
/-- A point with no exchange. -/
theorem body_plain (q : Fin 4) (e : Fin 8) (he : e ≠ 7) (hq : q = 0 ∨ e ≠ 3) (Kt : PUnit → sProp 𝕄) :
    iprop(ctx m K ∗ ow c (no (8 * q.val + e.val)) ∗ owns (c : Thread nD τ) A2 fullShare (xb m c q) ∗ owns (c : Thread nD τ) A3 fullShare (rw m c q) ∗ owns (c : Thread nD τ) A4 fullShare (ib m c q)
        ∗ Gs m c (8 * q.val + e.val) (xo q e) ∗ Os m c A6 (Dn c (8 * q.val + e.val)))
      ⊢ iprop((ow c (no (8 * q.val + e.val + 1)) -∗ owns (c : Thread nD τ) A2 fullShare (xb m c q) -∗ owns (c : Thread nD τ) A3 fullShare (rw m c q) -∗ owns (c : Thread nD τ) A4 fullShare (ib m c q)
            -∗ Gs m c (8 * q.val + e.val + 1) (some q) -∗ Os m c A6 (Dn c (8 * q.val + e.val + 1)) -∗ Kt ⟨⟩)
        -∗ WP c (cc0_body (F := F) (co q e) A2 h2 A3 h3 A4 h4 wM h5 A6 h6 xbfM h7 g0M h8 g1M h9 accM h10 stgM h11 ewM h12 cc0_scratch6 rsSM h14 rsRM h15 agSM h16 agRM h17 cc0_scratch11 cc0_scratch12 cc0_scratch13 cc0_scratch14) Kt) := by
  have c5 := mt (cond5_iff q e).1 (fun h => he h.2)
  have c6 := mt (cond6_iff q e).1 he
  have c7 := mt (cond7_iff q e).1 (fun h => hq.elim h.1 (fun h' => h' h.2))
  have c8 := mt (cond8_iff q e).1 (fun h => he h.2)
  have c9 := mt (cond9_iff q e).1 (fun h => he h.2)
  obtain ⟨p1, p2, p3⟩ := plain_next q e he hq
  unfold Gs
  rw [← p2, ← p3, ← show fc (8 * q.val + e.val) = fc (8 * q.val + e.val + 1) from funext p1, ← Dn_plain c q e (hq.imp id fun h => ⟨h, he⟩)]
  rw [cc0_body_eq_skeleton]; unfold cc0_body_skel
  simp (zeta := false) only [↓reduceDIte, c5, c6, c7, c8, c9]
  simp only [Prog.lift, Prog.bind_op, Prog.bind_ret, Prog.pure_eq_ret, WP_bind]
  iintro ⟨#Hc, Ho, H2, H3, H4, ⟨HW, HX, HA, HC, HB⟩, HO⟩ Hk
  ihave HA := (As_turn m c (fa (8 * q.val + e.val)) q) $$ HA
  icases HA with ⟨Ha, HA⟩
  ihave Ha := (Entails.of_eq (congrArg (Aq m c q) (fa_at q e))) $$ Ha
  iapply (part17_spec m K c A2 h2 A3 h3 A4 h4 A6 h6 h5 h7 h8 h9 h10 h11 h12 h14 h15 h16 h17 q e (no (8 * q.val + e.val))) $$ [Ho H2 H3 H4 HW HX Ha]
  · isplitr; · iexact Hc
    isplitl [Ho]; · iexact Ho
    isplitl [H2]; · iexact H2
    isplitl [H3]; · iexact H3
    isplitl [H4]; · iexact H4
    isplitl [HW]; · iexact HW
    isplitl [HX]; · iexact HX
    iexact Ha
  iintro %a0 %a1 %v2 %v31 Ho H2 H3 H4 HW HX Ha
  dsimp only
  iapply (wp_load_slice c accM (off₀ := ![512 * q.val, 0]) (inb₀ := inbQ q) (h₀ := fun _ => rfl) (off11 q e) fullShare (accv m c q e.val)) $$ Ha; iintro Ha
  iapply (wp_load_slice c accM (off₀ := ![512 * q.val, 0]) (inb₀ := inbQ q) (h₀ := fun _ => rfl) (off11 q e) fullShare (accv m c q e.val)) $$ Ha; iintro Ha
  iapply (wp_store_slice c accM (off₀ := ![512 * q.val, 0]) (inb₀ := inbQ q) (h₀ := fun _ => rfl) (off11 q e) (accv m c q e.val)) $$ Ha; iintro Ha
  ihave Ha := (Entails.of_eq (acc_step m c q e)) $$ Ha
  ihave HA := HA $$ %(⟨e.val + 1, Nat.succ_lt_succ e.isLt⟩ : Fin 9) [Ha]
  · iapply (Aq_of m c q (⟨e.val + 1, Nat.succ_lt_succ e.isLt⟩ : Fin 9) _ rfl) $$ Ha
  ihave HA := (Entails.of_eq (congrArg (As m c) (fa_next q e))) $$ HA
  simp only [WP, wp_ret]
  imodintro
  iapply Hk $$ Ho H2 H3 H4 [HW HX HA HC HB] HO
  isplitl [HW]; · iexact HW
  isplitl [HX]; · iexact HX
  isplitl [HA]; · iexact HA
  isplitl [HC]; · iexact HC
  iexact HB

set_option maxHeartbeats 3200000 in
/-- A point that reduces and sends on the quarter before. -/
theorem body_mid (q q' : Fin 4) (h : q.val + 1 = q'.val) (Kt : PUnit → sProp 𝕄) :
    iprop(ctx m K ∗ ow c (no (8 * q'.val + (3 : Fin 8).val)) ∗ owns (c : Thread nD τ) A2 fullShare (xb m c q') ∗ owns (c : Thread nD τ) A3 fullShare (rw m c q') ∗ owns (c : Thread nD τ) A4 fullShare (ib m c q')
        ∗ Gs m c (8 * q'.val + (3 : Fin 8).val) (xo q' 3) ∗ Os m c A6 (Dn c (8 * q'.val + (3 : Fin 8).val)))
      ⊢ iprop((ow c (no (8 * q'.val + (3 : Fin 8).val + 1)) -∗ owns (c : Thread nD τ) A2 fullShare (xb m c q') -∗ owns (c : Thread nD τ) A3 fullShare (rw m c q') -∗ owns (c : Thread nD τ) A4 fullShare (ib m c q')
            -∗ Gs m c (8 * q'.val + (3 : Fin 8).val + 1) (some q') -∗ Os m c A6 (Dn c (8 * q'.val + (3 : Fin 8).val + 1)) -∗ Kt ⟨⟩)
        -∗ WP c (cc0_body (F := F) (co q' 3) A2 h2 A3 h3 A4 h4 wM h5 A6 h6 xbfM h7 g0M h8 g1M h9 accM h10 stgM h11 ewM h12 cc0_scratch6 rsSM h14 rsRM h15 agSM h16 agRM h17 cc0_scratch11 cc0_scratch12 cc0_scratch13 cc0_scratch14) Kt) := by
  have hq : q' ≠ 0 := fun h0 => by subst h0; exact absurd h (Nat.succ_ne_zero _)
  have c5 := mt (cond5_iff q' 3).1 (fun h => hq h.1)
  have c6 := mt (cond6_iff q' 3).1 (by decide)
  have c7 := (cond7_iff q' 3).2 ⟨hq, rfl⟩
  have c8 := mt (cond8_iff q' 3).1 (fun h => absurd h.2 (by decide))
  have c9 := mt (cond9_iff q' 3).1 (fun h => absurd h.2 (by decide))
  obtain ⟨p1, p2, p3, p4, p5, p6⟩ := mid_next q q' h
  rw [cc0_body_eq_skeleton]; unfold cc0_body_skel
  simp (zeta := false) only [↓reduceDIte, c5, c6, c7, c8, c9]
  simp only [Prog.lift, Prog.bind_op, Prog.bind_ret, Prog.pure_eq_ret, WP_bind]
  unfold Gs
  iintro ⟨#Hc, Ho, H2, H3, H4, ⟨HW, HX, HA, HC, HB⟩, HO⟩ Hk
  ihave HA := (As_turn m c (fa (8 * q'.val + (3 : Fin 8).val)) q') $$ HA
  icases HA with ⟨Ha, HA⟩
  ihave Ha := (Entails.of_eq (congrArg (Aq m c q') (fa_at q' 3))) $$ Ha
  iapply (part17_spec m K c A2 h2 A3 h3 A4 h4 A6 h6 h5 h7 h8 h9 h10 h11 h12 h14 h15 h16 h17 q' 3 (no (8 * q'.val + (3 : Fin 8).val))) $$ [Ho H2 H3 H4 HW HX Ha]
  · isplitr; · iexact Hc
    isplitl [Ho]; · iexact Ho
    isplitl [H2]; · iexact H2
    isplitl [H3]; · iexact H3
    isplitl [H4]; · iexact H4
    isplitl [HW]; · iexact HW
    isplitl [HX]; · iexact HX
    iexact Ha
  iintro %a0 %a1 %v2 %v31 Ho H2 H3 H4 HW HX Ha
  dsimp only
  iapply (wp_load_slice c accM (off₀ := ![512 * q'.val, 0]) (inb₀ := inbQ q') (h₀ := fun _ => rfl) (off11 q' 3) fullShare (accv m c q' (3 : Fin 8).val)) $$ Ha; iintro Ha
  iapply (wp_load_slice c accM (off₀ := ![512 * q'.val, 0]) (inb₀ := inbQ q') (h₀ := fun _ => rfl) (off11 q' 3) fullShare (accv m c q' (3 : Fin 8).val)) $$ Ha; iintro Ha
  iapply (wp_store_slice c accM (off₀ := ![512 * q'.val, 0]) (inb₀ := inbQ q') (h₀ := fun _ => rfl) (off11 q' 3) (accv m c q' (3 : Fin 8).val)) $$ Ha; iintro Ha
  ihave Ha := (Entails.of_eq (acc_step m c q' 3)) $$ Ha
  ihave HA := HA $$ %(⟨(3 : Fin 8).val + 1, Nat.succ_lt_succ (3 : Fin 8).isLt⟩ : Fin 9) [Ha]
  · iapply (Aq_of m c q' (⟨(3 : Fin 8).val + 1, Nat.succ_lt_succ (3 : Fin 8).isLt⟩ : Fin 9) _ rfl) $$ Ha
  ihave HA := (Entails.of_eq (congrArg (As m c) (fa_next q' 3))) $$ HA
  ihave HA := (As_turn m c _ q) $$ HA
  icases HA with ⟨Ha, HA⟩
  ihave Ha := (Entails.of_eq (congrArg (Aq m c q) p5)) $$ Ha
  ihave Ha := (Aq_8 m c q) $$ Ha
  ihave HC := (Cs_turn (F := F) c _ q) $$ HC
  icases HC with ⟨Hq, HC⟩
  ihave Hq := (Entails.of_eq ((congrArg (Cq (F := F) c q) p3).trans (Cq_2 c q))) $$ Hq
  icases Hq with ⟨Hg, I0, I1, I2⟩
  unfold I2
  icases I0 with ⟨Hd0, Ht0, Hp0, Hr0, Hu0, Hw0, Hc0, Hs0, Hv0⟩
  icases I1 with ⟨Hd1, Ht1, Hp1, Hr1, Hu1, Hw1, Hc1, Hs1, Hv1⟩
  icases I2 with ⟨Hd2, Ht2, Hp2, Hr2, Hu2, Hw2, Hc2, Hs2, Hv2⟩
  rw [p1, p2]
  rw [WP_bind]
  iapply (part4_spec m K c A2 h2 A3 h3 A4 h4 A6 h6 h5 h7 h8 h9 h10 h11 h12 h14 h15 h16 h17 q q' h (6 * q.val + 6) (by omega)) $$ [Hc0 Hs0 Hp0 Hr0 Ho]
  · isplitr; · iexact Hc
    isplitl [Hc0]; · iexact Hc0
    isplitl [Hs0]; · iexact Hs0
    isplitl [Hp0]; · iexact Hp0
    isplitl [Hr0]; · iexact Hr0
    iexact Ho
  iintro %v64 Ho HM0
  rw [WP_bind]
  iapply (part5_spec m K c A2 h2 A3 h3 A4 h4 A6 h6 h5 h7 h8 h9 h10 h11 h12 h14 h15 h16 h17 q q' h (6 * q.val + 6) (by omega)) $$ [Hc1 Hs1 Hp1 Hr1 Hc2 Hs2 Hp2 Hr2 Ho]
  · isplitr; · iexact Hc
    isplitl [Hc1 Hs1 Hp1 Hr1]
    · isplitl [Hc1]; · iexact Hc1
      isplitl [Hs1]; · iexact Hs1
      isplitl [Hp1]; · iexact Hp1
      iexact Hr1
    isplitl [Hc2 Hs2 Hp2 Hr2]
    · isplitl [Hc2]; · iexact Hc2
      isplitl [Hs2]; · iexact Hs2
      isplitl [Hp2]; · iexact Hp2
      iexact Hr2
    iexact Ho
  iintro %v65 Ho HM1 HM2
  unfold M3
  icases HM0 with ⟨Hx0, Hz0, Hy0, Hb0⟩
  icases HM1 with ⟨Hx1, Hz1, Hy1, Hb1⟩
  icases HM2 with ⟨Hx2, Hz2, Hy2, Hb2⟩
  rw [WP_bind]
  iapply (part6_spec m c A2 h2 A3 h3 A4 h4 A6 h6 h5 h7 h8 h9 h10 h11 h12 h14 h15 h16 h17 q q' h _) $$ [Ha Hb0 Hb1 Hb2 HO Hg]
  · isplitl [Ha]; · iexact Ha
    isplitl [Hb0]; · iexact Hb0
    isplitl [Hb1]; · iexact Hb1
    isplitl [Hb2]; · iexact Hb2
    isplitl [HO]; · iexact HO
    iexact Hg
  iintro %v66 Ha Hb0 Hb1 Hb2 HO Hg
  rw [WP_bind]
  iapply (part7_spec m K c A2 h2 A3 h3 A4 h4 A6 h6 h5 h7 h8 h9 h10 h11 h12 h14 h15 h16 h17 q q' h (6 * q.val + 6) (6 * q.val + 9) (by omega) (by omega)) $$ [Hg Ho Hd0 Ht0 Hd1 Ht1 Hd2 Ht2]
  · isplitr; · iexact Hc
    isplitl [Hg]; · iexact Hg
    isplitl [Ho]; · iexact Ho
    isplitl [Hd0 Ht0]
    · isplitl [Hd0]; · iexact Hd0
      iexact Ht0
    isplitl [Hd1 Ht1]
    · isplitl [Hd1]; · iexact Hd1
      iexact Ht1
    isplitl [Hd2]; · iexact Hd2
    iexact Ht2
  iintro %v67 Ho Hc0 Hc1 Hc2
  ihave HC := HC $$ %3 [Hx0 Hz0 Hy0 Hb0 Hu0 Hw0 Hc0 Hv0 Hx1 Hz1 Hy1 Hb1 Hu1 Hw1 Hc1 Hv1 Hx2 Hz2 Hy2 Hb2 Hu2 Hw2 Hc2 Hv2]
  · iapply (Entails.of_eq (Cq_3 (F := F) c q).symm)
    unfold I3
    isplitl [Hx0 Hz0 Hy0 Hb0 Hu0 Hw0 Hc0 Hv0]
    · isplitl [Hx0]; · iexact Hx0
      isplitl [Hb0]; · iexact Hb0
      isplitl [Hz0]; · iexact Hz0
      isplitl [Hy0]; · iexact Hy0
      isplitl [Hu0]; · iexact Hu0
      isplitl [Hw0]; · iexact Hw0
      isplitl [Hc0]; · iexact Hc0
      iexact Hv0
    isplitl [Hx1 Hz1 Hy1 Hb1 Hu1 Hw1 Hc1 Hv1]
    · isplitl [Hx1]; · iexact Hx1
      isplitl [Hb1]; · iexact Hb1
      isplitl [Hz1]; · iexact Hz1
      isplitl [Hy1]; · iexact Hy1
      isplitl [Hu1]; · iexact Hu1
      isplitl [Hw1]; · iexact Hw1
      isplitl [Hc1]; · iexact Hc1
      iexact Hv1
    isplitl [Hx2]; · iexact Hx2
    isplitl [Hb2]; · iexact Hb2
    isplitl [Hz2]; · iexact Hz2
    isplitl [Hy2]; · iexact Hy2
    isplitl [Hu2]; · iexact Hu2
    isplitl [Hw2]; · iexact Hw2
    isplitl [Hc2]; · iexact Hc2
    iexact Hv2
  ihave HC := (Entails.of_eq (congrArg (Cs (F := F) c) (funext p4))) $$ HC
  ihave HA := HA $$ %8 [Ha]
  · iapply (Aq_of m c q 8 8 rfl) $$ Ha
  ihave HA := (Entails.of_eq (congrArg (As m c) (show Function.update (fa (8 * q'.val + (3 : Fin 8).val + 1)) q 8 = fa (8 * q'.val + (3 : Fin 8).val + 1) by have h5 := Function.update_eq_self q (fa (8 * q'.val + (3 : Fin 8).val + 1)); rwa [p5] at h5))) $$ HA
  rw [show mark (Dn c (8 * q'.val + (3 : Fin 8).val)) q c = Dn c (8 * q'.val + (3 : Fin 8).val + 1) from funext fun x => funext fun y => mid_D c q q' h x y]
  rw [show decide (8 ≤ 8 * q'.val + (3 : Fin 8).val + 1) = decide (8 ≤ 8 * q'.val + (3 : Fin 8).val) from decide_eq_decide.2 ⟨fun _ => p6, fun _ => Nat.le_succ_of_le p6⟩]
  simp only [WP, wp_ret]
  imodintro
  iapply Hk $$ Ho H2 H3 H4 [HW HX HA HC HB] HO
  isplitl [HW]; · iexact HW
  isplitl [HX]; · iexact HX
  isplitl [HA]; · iexact HA
  isplitl [HC]; · iexact HC
  iexact HB

end Body

end Cert.MoE
-- ==== Proof.Meet.lean ====
/-
# The point where the devices meet
-/
module

public import proofs.«01_k».proof.Proof.Inner

@[expose] public section

noncomputable section

namespace Cert.MoE

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem bs3 (Φ : Fin 3 → sProp 𝕄) : bigSep Finset.univ Φ = iprop(Φ 0 ∗ Φ 1 ∗ Φ 2) := by
  rw [bigSep_univ_eq_bigSepL [0, 1, 2] (by decide) (by decide) Φ]; rfl

variable (m : (ℓ : Loc nD τ sig) → Buf (Elt F) ℓ) (K : Dev nD × KC → ℕ)

theorem zero_next : no (8 * (0 : Fin 4).val + (7 : Fin 8).val) = 0 ∧ no (8 * (0 : Fin 4).val + (7 : Fin 8).val + 1) = 6
    ∧ (∀ x, fc (8 * (0 : Fin 4).val + (7 : Fin 8).val) x = 0) ∧ (∀ x, Function.update (fun _ : Fin 4 => (1 : Fin 5)) 0 2 x = fc (8 * (0 : Fin 4).val + (7 : Fin 8).val + 1) x) := by decide +kernel
theorem tail_no : no (8 * (3 : Fin 4).val + (7 : Fin 8).val + 1) = 27 ∧ no (8 * (3 : Fin 4).val + (7 : Fin 8).val) = 21 := by decide +kernel

section Body
variable (c : Dev nD)

theorem Br_false : Br (F := F) c false = iprop((bigSep Finset.univ fun i : Fin 3 => dutyTok ER (barC (dst c i)) 0 i) ∗ atPos ER (barC c) 0 ∅ 0 ∗ cred (tallyAt (barC c) () 3)
      ∗ bigSep Finset.univ fun k : Fin 3 => landing (F := F) c k) := rfl

variable (A2 : Memref sig .tc .vmem S512x1024 .f32) (h2 : A2.IsWhole) (A3 : Memref sig .tc .vmem S1024x32 .f32) (h3 : A3.IsWhole)
  (A4 : Memref sig .tc .vmem S512x2 .i32) (h4 : A4.IsWhole) (A6 : Memref sig .tc .vmem S2048x1024 .f32) (h6 : A6.IsWhole)
  (h5 : wM.IsWhole) (h7 : xbfM.IsWhole) (h8 : g0M.IsWhole) (h9 : g1M.IsWhole) (h10 : accM.IsWhole) (h11 : stgM.IsWhole) (h12 : ewM.IsWhole)
  (h14 : rsSM.IsWhole) (h15 : rsRM.IsWhole) (h16 : agSM.IsWhole) (h17 : agRM.IsWhole)

set_option maxHeartbeats 3200000 in
/-- The first quarter done: the devices meet, and it is sent off. -/
theorem body_meet (Kt : PUnit → sProp 𝕄) :
    iprop(ctx m K ∗ ow c (no (8 * (0 : Fin 4).val + (7 : Fin 8).val)) ∗ owns (c : Thread nD τ) A2 fullShare (xb m c 0) ∗ owns (c : Thread nD τ) A3 fullShare (rw m c 0) ∗ owns (c : Thread nD τ) A4 fullShare (ib m c 0)
        ∗ Gs m c (8 * (0 : Fin 4).val + (7 : Fin 8).val) (xo 0 7) ∗ Os m c A6 (Dn c (8 * (0 : Fin 4).val + (7 : Fin 8).val)))
      ⊢ iprop((ow c (no (8 * (0 : Fin 4).val + (7 : Fin 8).val + 1)) -∗ owns (c : Thread nD τ) A2 fullShare (xb m c 0) -∗ owns (c : Thread nD τ) A3 fullShare (rw m c 0) -∗ owns (c : Thread nD τ) A4 fullShare (ib m c 0)
            -∗ Gs m c (8 * (0 : Fin 4).val + (7 : Fin 8).val + 1) (some 0) -∗ Os m c A6 (Dn c (8 * (0 : Fin 4).val + (7 : Fin 8).val + 1)) -∗ Kt ⟨⟩)
        -∗ WP c (cc0_body (F := F) (co 0 7) A2 h2 A3 h3 A4 h4 wM h5 A6 h6 xbfM h7 g0M h8 g1M h9 accM h10 stgM h11 ewM h12 cc0_scratch6 rsSM h14 rsRM h15 agSM h16 agRM h17 cc0_scratch11 cc0_scratch12 cc0_scratch13 cc0_scratch14) Kt) := by
  have c5 := (cond5_iff 0 7).2 ⟨rfl, rfl⟩
  have c6 := (cond6_iff 0 7).2 rfl
  have c7 := mt (cond7_iff 0 7).1 (fun h => h.1 rfl)
  have c8 := mt (cond8_iff 0 7).1 (fun h => h.1 rfl)
  have c9 := mt (cond9_iff 0 7).1 (fun h => absurd h.1 (by decide))
  obtain ⟨p1, p2, p3, p4⟩ := zero_next
  rw [cc0_body_eq_skeleton]; unfold cc0_body_skel
  simp (zeta := false) only [↓reduceDIte, c5, c6, c7, c8, c9]
  simp only [Prog.lift, Prog.bind_op, Prog.bind_ret, Prog.pure_eq_ret, semSignalWord, semWaitWord, WP_bind]
  unfold Gs
  iintro ⟨#Hc, Ho, H2, H3, H4, ⟨HW, HX, HA, HC, HB⟩, HO⟩ Hk
  ihave HA := (As_turn m c (fa (8 * (0 : Fin 4).val + (7 : Fin 8).val)) 0) $$ HA
  icases HA with ⟨Ha, HA⟩
  ihave Ha := (Entails.of_eq (congrArg (Aq m c 0) (fa_at 0 7))) $$ Ha
  iapply (part17_spec m K c A2 h2 A3 h3 A4 h4 A6 h6 h5 h7 h8 h9 h10 h11 h12 h14 h15 h16 h17 0 7 (no (8 * (0 : Fin 4).val + (7 : Fin 8).val))) $$ [Ho H2 H3 H4 HW HX Ha]
  · isplitr; · iexact Hc
    isplitl [Ho]; · iexact Ho
    isplitl [H2]; · iexact H2
    isplitl [H3]; · iexact H3
    isplitl [H4]; · iexact H4
    isplitl [HW]; · iexact HW
    isplitl [HX]; · iexact HX
    iexact Ha
  iintro %a0 %a1 %v2 %v31 Ho H2 H3 H4 HW HX Ha
  dsimp only
  iapply (wp_load_slice c accM (off₀ := ![512 * (0 : Fin 4).val, 0]) (inb₀ := inbQ 0) (h₀ := fun _ => rfl) (off11 0 7) fullShare (accv m c 0 (7 : Fin 8).val)) $$ Ha; iintro Ha
  iapply (wp_load_slice c accM (off₀ := ![512 * (0 : Fin 4).val, 0]) (inb₀ := inbQ 0) (h₀ := fun _ => rfl) (off11 0 7) fullShare (accv m c 0 (7 : Fin 8).val)) $$ Ha; iintro Ha
  iapply (wp_store_slice c accM (off₀ := ![512 * (0 : Fin 4).val, 0]) (inb₀ := inbQ 0) (h₀ := fun _ => rfl) (off11 0 7) (accv m c 0 (7 : Fin 8).val)) $$ Ha; iintro Ha
  ihave Ha := (Entails.of_eq (acc_step m c 0 7)) $$ Ha
  rw [p1, p2]
  ihave HB := (Entails.of_eq ((show Br (F := F) c (decide (8 ≤ 8 * (0 : Fin 4).val + (7 : Fin 8).val)) = Br (F := F) c false from rfl).trans (Br_false (F := F) c))) $$ HB
  icases HB with ⟨Htk, Hat, Hcr, Hland⟩
  ihave Htk := (Entails.of_eq (bs3 _)) $$ Htk
  icases Htk with ⟨Hk0, Hk1, Hk2⟩
  ihave Hland := (Entails.of_eq (bs3 _)) $$ Hland
  icases Hland with ⟨Hl0, Hl1, Hl2⟩
  iapply (wp_signal_x m K c 0 (dev1_eq c) 0 rfl rfl) $$ [Hl2 Ho Hk0]
  · isplitr; · iexact Hc
    isplitl [Hl2]; · iexact Hl2
    isplitl [Ho]; · iexact Ho
    iexact Hk0
  iintro Ho
  iapply (wp_signal_x m K c 1 (dev2_eq c) 1 rfl rfl) $$ [Hl1 Ho Hk1]
  · isplitr; · iexact Hc
    isplitl [Hl1]; · iexact Hl1
    isplitl [Ho]; · iexact Ho
    iexact Hk1
  iintro Ho
  iapply (wp_signal_x m K c 2 (dev3_eq c) 2 rfl rfl) $$ [Hl0 Ho Hk2]
  · isplitr; · iexact Hc
    isplitl [Hl0]; · iexact Hl0
    isplitl [Ho]; · iexact Ho
    iexact Hk2
  iintro Ho
  iapply (wp_wait_bar m K c rfl) $$ [Hcr Ho Hat]
  · isplitr; · iexact Hc
    isplitl [Hcr]; · iexact Hcr
    isplitl [Ho]; · iexact Ho
    iexact Hat
  iintro ⟨Ho, HB, Hland⟩
  ihave Hland := (Entails.of_eq (bs3 _)) $$ Hland
  icases Hland with ⟨Hl2, Hl1, Hl0⟩
  ihave HC := (Entails.of_eq (congrArg (Cs (F := F) c) (funext p3))) $$ HC
  ihave HC := (meet (F := F) c) $$ [HC Hl0 Hl1 Hl2]
  · isplitl [HC]; · iexact HC
    isplitl [Hl0]; · iapply (Entails.of_eq (show landing (F := F) (src c 2) (rev 2) = landing (F := F) (dst c 0) 0 by rw [src_eq_dst_rev]; rfl)); iexact Hl0
    isplitl [Hl1]; · iapply (Entails.of_eq (show landing (F := F) (src c 1) (rev 1) = landing (F := F) (dst c 1) 1 by rw [src_eq_dst_rev]; rfl)); iexact Hl1
    iapply (Entails.of_eq (show landing (F := F) (src c 0) (rev 0) = landing (F := F) (dst c 2) 2 by rw [src_eq_dst_rev]; rfl)); iexact Hl2
  ihave HC := (Cs_turn (F := F) c _ 0) $$ HC
  icases HC with ⟨Hq, HC⟩
  ihave Ha := (Entails.of_eq (show (owns (c : Thread nD τ) (accQ 0) fullShare (accv m c 0 ((7 : Fin 8).val + 1)) : sProp 𝕄) = owns (c : Thread nD τ) (accQ 0) fullShare (accv m c 0 8) from rfl)) $$ Ha
  ihave Hq := (Entails.of_eq (Cq_1 (F := F) c 0)) $$ Hq
  icases Hq with ⟨Hg, I0, I1, I2⟩
  unfold I1 I0
  icases I0 with ⟨⟨Hx0, Ht0, Hu0, Hp0, Hr0, Hs0, Hw0, Hc0, Hv0⟩, Hl0, Hm0⟩
  icases I1 with ⟨⟨Hx1, Ht1, Hu1, Hp1, Hr1, Hs1, Hw1, Hc1, Hv1⟩, Hl1, Hm1⟩
  icases I2 with ⟨⟨Hx2, Ht2, Hu2, Hp2, Hr2, Hs2, Hw2, Hc2, Hv2⟩, Hl2, Hm2⟩
  rw [WP_bind]
  iapply (part2_spec m c A2 h2 A3 h3 A4 h4 A6 h6 h5 h7 h8 h9 h10 h11 h12 h14 h15 h16 h17 0) $$ [Ha Hx0 Hx1 Hx2]
  · isplitl [Ha]; · iexact Ha
    isplitl [Hx0]; · iexact Hx0
    isplitl [Hx1]; · iexact Hx1
    iexact Hx2
  iintro %v Ha Hx0 Hx1 Hx2
  dsimp only
  rw [WP_bind]
  iapply (part3_spec m K c A2 h2 A3 h3 A4 h4 A6 h6 h5 h7 h8 h9 h10 h11 h12 h14 h15 h16 h17 0 (3 + 6 * (0 : Fin 4).val) (3 + 6 * (0 : Fin 4).val + 2) rfl rfl) $$ [Hx0 Hx1 Hx2 Hl0 Hl1 Ho Ht0 Ht1]
  · isplitr; · iexact Hc
    isplitl [Hx0]; · iexact Hx0
    isplitl [Hx1]; · iexact Hx1
    isplitl [Hx2]; · iexact Hx2
    isplitl [Hl0]; · iexact Hl0
    isplitl [Hl1]; · iexact Hl1
    isplitl [Ho]; · iexact Ho
    isplitl [Ht0]; · iexact Ht0
    iexact Ht1
  iintro %v3 Hx2 Hd0 Hd1 Ho
  iapply (wp_rs_send m K c 0 2 (3 + 6 * (0 : Fin 4).val + 2) (3 + 6 * (0 : Fin 4).val + 3) rfl rfl (off20 0 7) (off21 0 7) (dev6_eq c)) $$ [Hx2 Hl2 Ho Ht2]
  · isplitr; · iexact Hc
    isplitl [Hx2]; · iexact Hx2
    isplitl [Hl2]; · iexact Hl2
    isplitl [Ho]; · iexact Ho
    iexact Ht2
  iintro ⟨Hd2, Ho⟩
  ihave HC := HC $$ %2 [Hg Hm0 Hu0 Hp0 Hr0 Hs0 Hw0 Hd0 Hc0 Hv0 Hm1 Hu1 Hp1 Hr1 Hs1 Hw1 Hd1 Hc1 Hv1 Hm2 Hu2 Hp2 Hr2 Hs2 Hw2 Hd2 Hc2 Hv2]
  · iapply (Entails.of_eq (Cq_2 (F := F) c 0).symm)
    unfold I2
    isplitl [Hg]; · iexact Hg
    isplitl [Hm0 Hu0 Hp0 Hr0 Hs0 Hw0 Hd0 Hc0 Hv0]
    · isplitl [Hm0]; · iexact Hm0
      isplitl [Hu0]; · iexact Hu0
      isplitl [Hp0]; · iexact Hp0
      isplitl [Hr0]; · iexact Hr0
      isplitl [Hs0]; · iexact Hs0
      isplitl [Hw0]; · iexact Hw0
      isplitl [Hd0]; · iexact Hd0
      isplitl [Hc0]; · iexact Hc0
      iexact Hv0
    isplitl [Hm1 Hu1 Hp1 Hr1 Hs1 Hw1 Hd1 Hc1 Hv1]
    · isplitl [Hm1]; · iexact Hm1
      isplitl [Hu1]; · iexact Hu1
      isplitl [Hp1]; · iexact Hp1
      isplitl [Hr1]; · iexact Hr1
      isplitl [Hs1]; · iexact Hs1
      isplitl [Hw1]; · iexact Hw1
      isplitl [Hd1]; · iexact Hd1
      isplitl [Hc1]; · iexact Hc1
      iexact Hv1
    isplitl [Hm2]; · iexact Hm2
    isplitl [Hu2]; · iexact Hu2
    isplitl [Hp2]; · iexact Hp2
    isplitl [Hr2]; · iexact Hr2
    isplitl [Hs2]; · iexact Hs2
    isplitl [Hw2]; · iexact Hw2
    isplitl [Hd2]; · iexact Hd2
    isplitl [Hc2]; · iexact Hc2
    iexact Hv2
  ihave HC := (Entails.of_eq (congrArg (Cs (F := F) c) (funext p4))) $$ HC
  ihave HA := HA $$ %(⟨(7 : Fin 8).val + 1, Nat.succ_lt_succ (7 : Fin 8).isLt⟩ : Fin 9) [Ha]
  · iapply (Aq_of m c 0 (⟨(7 : Fin 8).val + 1, Nat.succ_lt_succ (7 : Fin 8).isLt⟩ : Fin 9) 8 rfl) $$ Ha
  ihave HA := (Entails.of_eq (congrArg (As m c) (fa_next 0 7))) $$ HA
  rw [← Dn_plain c 0 7 (.inl rfl)]
  ihave HB := (Entails.of_eq (show semVal (barC c) 0 = Br (F := F) c (decide (8 ≤ 8 * (0 : Fin 4).val + (7 : Fin 8).val + 1)) from rfl)) $$ HB
  simp only [WP, wp_ret]
  imodintro
  iapply Hk $$ Ho H2 H3 H4 [HW HX HA HC HB] HO
  isplitl [HW]; · iexact HW
  isplitl [HX]; · iexact HX
  isplitl [HA]; · iexact HA
  isplitl [HC]; · iexact HC
  iexact HB

end Body

end Cert.MoE
-- ==== Proof.Close.lean ====
/-
# The end of a later quarter
-/
module

public import proofs.«01_k».proof.Proof.Meet

@[expose] public section

noncomputable section

namespace Cert.MoE

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × KC → ℕ)

section Body
variable (c : Dev nD)

variable (A2 : Memref sig .tc .vmem S512x1024 .f32) (h2 : A2.IsWhole) (A3 : Memref sig .tc .vmem S1024x32 .f32) (h3 : A3.IsWhole)
  (A4 : Memref sig .tc .vmem S512x2 .i32) (h4 : A4.IsWhole) (A6 : Memref sig .tc .vmem S2048x1024 .f32) (h6 : A6.IsWhole)
  (h5 : wM.IsWhole) (h7 : xbfM.IsWhole) (h8 : g0M.IsWhole) (h9 : g1M.IsWhole) (h10 : accM.IsWhole) (h11 : stgM.IsWhole) (h12 : ewM.IsWhole)
  (h14 : rsSM.IsWhole) (h15 : rsRM.IsWhole) (h16 : agSM.IsWhole) (h17 : agRM.IsWhole)

set_option maxHeartbeats 3200000 in
/-- A later quarter done: it is sent off, and the quarter before is gathered. -/
theorem body_end (q q' : Fin 4) (h : q.val + 1 = q'.val) (hl : q' ≠ 3) (Kt : PUnit → sProp 𝕄) :
    iprop(ctx m K ∗ ow c (no (8 * q'.val + (7 : Fin 8).val)) ∗ owns (c : Thread nD τ) A2 fullShare (xb m c q') ∗ owns (c : Thread nD τ) A3 fullShare (rw m c q') ∗ owns (c : Thread nD τ) A4 fullShare (ib m c q')
        ∗ Gs m c (8 * q'.val + (7 : Fin 8).val) (xo q' 7) ∗ Os m c A6 (Dn c (8 * q'.val + (7 : Fin 8).val)))
      ⊢ iprop((ow c (no (8 * q'.val + (7 : Fin 8).val + 1)) -∗ owns (c : Thread nD τ) A2 fullShare (xb m c q') -∗ owns (c : Thread nD τ) A3 fullShare (rw m c q') -∗ owns (c : Thread nD τ) A4 fullShare (ib m c q')
            -∗ Gs m c (8 * q'.val + (7 : Fin 8).val + 1) (some q') -∗ Os m c A6 (Dn c (8 * q'.val + (7 : Fin 8).val + 1)) -∗ Kt ⟨⟩)
        -∗ WP c (cc0_body (F := F) (co q' 7) A2 h2 A3 h3 A4 h4 wM h5 A6 h6 xbfM h7 g0M h8 g1M h9 accM h10 stgM h11 ewM h12 cc0_scratch6 rsSM h14 rsRM h15 agSM h16 agRM h17 cc0_scratch11 cc0_scratch12 cc0_scratch13 cc0_scratch14) Kt) := by
  have hq : q' ≠ 0 := fun h0 => by subst h0; exact absurd h (Nat.succ_ne_zero _)
  have c5 := mt (cond5_iff q' 7).1 (fun h => hq h.1)
  have c6 := (cond6_iff q' 7).2 rfl
  have c7 := mt (cond7_iff q' 7).1 (fun h => absurd h.2 (by decide))
  have c8 := (cond8_iff q' 7).2 ⟨hq, rfl⟩
  have c9 := mt (cond9_iff q' 7).1 (fun h => hl h.1)
  obtain ⟨p1, p2, p3, p4, p5⟩ := end_next q q' h
  obtain ⟨p6, p7⟩ := p4 hl
  rw [cc0_body_eq_skeleton]; unfold cc0_body_skel
  simp (zeta := false) only [↓reduceDIte, c5, c6, c7, c8, c9]
  simp only [Prog.lift, Prog.bind_op, Prog.bind_ret, Prog.pure_eq_ret, WP_bind]
  unfold Gs
  iintro ⟨#Hc, Ho, H2, H3, H4, ⟨HW, HX, HA, HC, HB⟩, HO⟩ Hk
  ihave HA := (As_turn m c (fa (8 * q'.val + (7 : Fin 8).val)) q') $$ HA
  icases HA with ⟨Ha, HA⟩
  ihave Ha := (Entails.of_eq (congrArg (Aq m c q') (fa_at q' 7))) $$ Ha
  iapply (part17_spec m K c A2 h2 A3 h3 A4 h4 A6 h6 h5 h7 h8 h9 h10 h11 h12 h14 h15 h16 h17 q' 7 (no (8 * q'.val + (7 : Fin 8).val))) $$ [Ho H2 H3 H4 HW HX Ha]
  · isplitr; · iexact Hc
    isplitl [Ho]; · iexact Ho
    isplitl [H2]; · iexact H2
    isplitl [H3]; · iexact H3
    isplitl [H4]; · iexact H4
    isplitl [HW]; · iexact HW
    isplitl [HX]; · iexact HX
    iexact Ha
  iintro %a0 %a1 %v2 %v31 Ho H2 H3 H4 HW HX Ha
  dsimp only
  iapply (wp_load_slice c accM (off₀ := ![512 * q'.val, 0]) (inb₀ := inbQ q') (h₀ := fun _ => rfl) (off11 q' 7) fullShare (accv m c q' (7 : Fin 8).val)) $$ Ha; iintro Ha
  iapply (wp_load_slice c accM (off₀ := ![512 * q'.val, 0]) (inb₀ := inbQ q') (h₀ := fun _ => rfl) (off11 q' 7) fullShare (accv m c q' (7 : Fin 8).val)) $$ Ha; iintro Ha
  iapply (wp_store_slice c accM (off₀ := ![512 * q'.val, 0]) (inb₀ := inbQ q') (h₀ := fun _ => rfl) (off11 q' 7) (accv m c q' (7 : Fin 8).val)) $$ Ha; iintro Ha
  ihave Ha := (Entails.of_eq (acc_step m c q' 7)) $$ Ha
  ihave HC := (Cs_turn (F := F) c _ q') $$ HC
  icases HC with ⟨Hq, HC⟩
  ihave Hq := (Entails.of_eq (congrArg (Cq (F := F) c q') p2)) $$ Hq
  rw [p1]
  ihave Ha := (Entails.of_eq (show (owns (c : Thread nD τ) (accQ q') fullShare (accv m c q' ((7 : Fin 8).val + 1)) : sProp 𝕄) = owns (c : Thread nD τ) (accQ q') fullShare (accv m c q' 8) from rfl)) $$ Ha
  ihave Hq := (Entails.of_eq (Cq_1 (F := F) c q')) $$ Hq
  icases Hq with ⟨Hg, I0, I1, I2⟩
  unfold I1 I0
  icases I0 with ⟨⟨Hx0, Ht0, Hu0, Hp0, Hr0, Hs0, Hw0, Hc0, Hv0⟩, Hl0, Hm0⟩
  icases I1 with ⟨⟨Hx1, Ht1, Hu1, Hp1, Hr1, Hs1, Hw1, Hc1, Hv1⟩, Hl1, Hm1⟩
  icases I2 with ⟨⟨Hx2, Ht2, Hu2, Hp2, Hr2, Hs2, Hw2, Hc2, Hv2⟩, Hl2, Hm2⟩
  rw [WP_bind]
  iapply (part2_spec m c A2 h2 A3 h3 A4 h4 A6 h6 h5 h7 h8 h9 h10 h11 h12 h14 h15 h16 h17 q') $$ [Ha Hx0 Hx1 Hx2]
  · isplitl [Ha]; · iexact Ha
    isplitl [Hx0]; · iexact Hx0
    isplitl [Hx1]; · iexact Hx1
    iexact Hx2
  iintro %v Ha Hx0 Hx1 Hx2
  dsimp only
  rw [WP_bind]
  iapply (part3_spec m K c A2 h2 A3 h3 A4 h4 A6 h6 h5 h7 h8 h9 h10 h11 h12 h14 h15 h16 h17 q' (3 + 6 * q'.val) (3 + 6 * q'.val + 2) rfl rfl) $$ [Hx0 Hx1 Hx2 Hl0 Hl1 Ho Ht0 Ht1]
  · isplitr; · iexact Hc
    isplitl [Hx0]; · iexact Hx0
    isplitl [Hx1]; · iexact Hx1
    isplitl [Hx2]; · iexact Hx2
    isplitl [Hl0]; · iexact Hl0
    isplitl [Hl1]; · iexact Hl1
    isplitl [Ho]; · iexact Ho
    isplitl [Ht0]; · iexact Ht0
    iexact Ht1
  iintro %v3 Hx2 Hd0 Hd1 Ho
  iapply (wp_rs_send m K c q' 2 (3 + 6 * q'.val + 2) (3 + 6 * q'.val + 3) rfl rfl (off20 q' 7) (off21 q' 7) (dev6_eq c)) $$ [Hx2 Hl2 Ho Ht2]
  · isplitr; · iexact Hc
    isplitl [Hx2]; · iexact Hx2
    isplitl [Hl2]; · iexact Hl2
    isplitl [Ho]; · iexact Ho
    iexact Ht2
  iintro ⟨Hd2, Ho⟩
  ihave HC := HC $$ %2 [Hg Hm0 Hu0 Hp0 Hr0 Hs0 Hw0 Hd0 Hc0 Hv0 Hm1 Hu1 Hp1 Hr1 Hs1 Hw1 Hd1 Hc1 Hv1 Hm2 Hu2 Hp2 Hr2 Hs2 Hw2 Hd2 Hc2 Hv2]
  · iapply (Entails.of_eq (Cq_2 (F := F) c q').symm)
    unfold I2
    isplitl [Hg]; · iexact Hg
    isplitl [Hm0 Hu0 Hp0 Hr0 Hs0 Hw0 Hd0 Hc0 Hv0]
    · isplitl [Hm0]; · iexact Hm0
      isplitl [Hu0]; · iexact Hu0
      isplitl [Hp0]; · iexact Hp0
      isplitl [Hr0]; · iexact Hr0
      isplitl [Hs0]; · iexact Hs0
      isplitl [Hw0]; · iexact Hw0
      isplitl [Hd0]; · iexact Hd0
      isplitl [Hc0]; · iexact Hc0
      iexact Hv0
    isplitl [Hm1 Hu1 Hp1 Hr1 Hs1 Hw1 Hd1 Hc1 Hv1]
    · isplitl [Hm1]; · iexact Hm1
      isplitl [Hu1]; · iexact Hu1
      isplitl [Hp1]; · iexact Hp1
      isplitl [Hr1]; · iexact Hr1
      isplitl [Hs1]; · iexact Hs1
      isplitl [Hw1]; · iexact Hw1
      isplitl [Hd1]; · iexact Hd1
      isplitl [Hc1]; · iexact Hc1
      iexact Hv1
    isplitl [Hm2]; · iexact Hm2
    isplitl [Hu2]; · iexact Hu2
    isplitl [Hp2]; · iexact Hp2
    isplitl [Hr2]; · iexact Hr2
    isplitl [Hs2]; · iexact Hs2
    isplitl [Hw2]; · iexact Hw2
    isplitl [Hd2]; · iexact Hd2
    isplitl [Hc2]; · iexact Hc2
    iexact Hv2
  ihave HC := (Cs_turn (F := F) c _ q) $$ HC
  icases HC with ⟨Hq, HC⟩
  ihave Hq := (Entails.of_eq ((congrArg (Cq (F := F) c q) p3).trans (Cq_3 c q))) $$ Hq
  icases Hq with ⟨I0, I1, I2⟩
  unfold I3
  icases I0 with ⟨Hx0, Hb0, Hz0, Hy0, Hu0, Hw0, Hc0, Hv0⟩
  icases I1 with ⟨Hx1, Hb1, Hz1, Hy1, Hu1, Hw1, Hc1, Hv1⟩
  icases I2 with ⟨Hx2, Hb2, Hz2, Hy2, Hu2, Hw2, Hc2, Hv2⟩
  rw [WP_bind]
  iapply (part8_spec m K c A2 h2 A3 h3 A4 h4 A6 h6 h5 h7 h8 h9 h10 h11 h12 h14 h15 h16 h17 q q' h (3 + 6 * (q').val + 3) (by have := h; show 6 * q.val + 9 ≤ _; omega)) $$ [Hc0 Hv0 Hu0 Hw0 Ho HO]
  · isplitr [HO]
    · isplitr; · iexact Hc
      isplitl [Hc0]; · iexact Hc0
      isplitl [Hv0]; · iexact Hv0
      isplitl [Hu0]; · iexact Hu0
      isplitl [Hw0]; · iexact Hw0
      iexact Ho
    iexact HO
  iintro %u0 Ho Hn0 HO
  rw [WP_bind]
  iapply (part9_spec m K c A2 h2 A3 h3 A4 h4 A6 h6 h5 h7 h8 h9 h10 h11 h12 h14 h15 h16 h17 q q' h (3 + 6 * (q').val + 3) (by have := h; show 6 * q.val + 9 ≤ _; omega)) $$ [Hc1 Hv1 Hu1 Hw1 Ho HO]
  · isplitr [HO]
    · isplitr; · iexact Hc
      isplitl [Hc1]; · iexact Hc1
      isplitl [Hv1]; · iexact Hv1
      isplitl [Hu1]; · iexact Hu1
      isplitl [Hw1]; · iexact Hw1
      iexact Ho
    iexact HO
  iintro %u1 Ho Hn1 HO
  iapply (wp_ag_wait m K c q 2 (3 + 6 * (q').val + 3) (by have := h; show 6 * q.val + 9 ≤ _; omega) (off42 q q' h) (off42 q q' h)) $$ [Hc2 Hv2 Hu2 Hw2 Ho]
  · isplitr; · iexact Hc
    isplitl [Hc2]; · iexact Hc2
    isplitl [Hv2]; · iexact Hv2
    isplitl [Hu2]; · iexact Hu2
    isplitl [Hw2]; · iexact Hw2
    iexact Ho
  iintro ⟨Ho, Hu2, Hw2, Hs2, Hr⟩
  iapply (wp_load_slice c agRM (off₀ := ![q.val, (2 : Fin 3).val, 0, 0]) (inb₀ := inb4 q 2) (h₀ := fun _ => rfl) (off44 q q' h) fullShare (agl m (src c 2) q)) $$ Hr; iintro Hr
  iapply (wp_out_load m c) $$ HO; iintro %w2 HO
  iapply (wp_out_store m c q (src c 2) (off38 q q' h c 2) (by unfold outp; rw [if_neg (src_ne c _)])) $$ HO; iintro HO
  unfold G3
  icases Hn0 with ⟨Hn0, Hu0, Hw0, Hs0⟩
  icases Hn1 with ⟨Hn1, Hu1, Hw1, Hs1⟩
  ihave Hg := (agS_join c q (agd m c q)) $$ [Hs0 Hs1 Hs2]
  · isplitl [Hs0]; · iexact Hs0
    isplitl [Hs1]; · iexact Hs1
    iexact Hs2
  ihave HC := HC $$ %4 [Hg Hx0 Hb0 Hn0 Hz0 Hy0 Hu0 Hw0 Hx1 Hb1 Hn1 Hz1 Hy1 Hu1 Hw1 Hx2 Hb2 Hr Hz2 Hy2 Hu2 Hw2]
  · iapply (Entails.of_eq (Cq_4 (F := F) c q).symm)
    unfold I4
    isplitl [Hg]; · unfold anyAgS; iexists _; iexact Hg
    isplitl [Hx0 Hb0 Hn0 Hz0 Hy0 Hu0 Hw0]
    · isplitl [Hx0]; · iexact Hx0
      isplitl [Hb0]; · iexact Hb0
      isplitl [Hn0]; · iexact Hn0
      isplitl [Hz0]; · iexact Hz0
      isplitl [Hy0]; · iexact Hy0
      isplitl [Hu0]; · iexact Hu0
      iexact Hw0
    isplitl [Hx1 Hb1 Hn1 Hz1 Hy1 Hu1 Hw1]
    · isplitl [Hx1]; · iexact Hx1
      isplitl [Hb1]; · iexact Hb1
      isplitl [Hn1]; · iexact Hn1
      isplitl [Hz1]; · iexact Hz1
      isplitl [Hy1]; · iexact Hy1
      isplitl [Hu1]; · iexact Hu1
      iexact Hw1
    isplitl [Hx2]; · iexact Hx2
    isplitl [Hb2]; · iexact Hb2
    isplitl [Hr]; · unfold anyAgR; iexists _; iexact Hr
    isplitl [Hz2]; · iexact Hz2
    isplitl [Hy2]; · iexact Hy2
    isplitl [Hu2]; · iexact Hu2
    iexact Hw2
  ihave HC := (Entails.of_eq (congrArg (Cs (F := F) c) (funext p7))) $$ HC
  ihave HA := HA $$ %(⟨(7 : Fin 8).val + 1, Nat.succ_lt_succ (7 : Fin 8).isLt⟩ : Fin 9) [Ha]
  · iapply (Aq_of m c q' (⟨(7 : Fin 8).val + 1, Nat.succ_lt_succ (7 : Fin 8).isLt⟩ : Fin 9) 8 rfl) $$ Ha
  ihave HA := (Entails.of_eq (congrArg (As m c) (fa_next q' 7))) $$ HA
  rw [show mark (mark (mark (Dn c (8 * q'.val + (7 : Fin 8).val)) q (src c 0)) q (src c 1)) q (src c 2) = Dn c (8 * q'.val + (7 : Fin 8).val + 1) from funext fun x => funext fun y => end_D c q q' h hl x y]
  rw [show decide (8 ≤ 8 * q'.val + (7 : Fin 8).val + 1) = decide (8 ≤ 8 * q'.val + (7 : Fin 8).val) from decide_eq_decide.2 ⟨fun _ => p5, fun _ => Nat.le_succ_of_le p5⟩]
  rw [p6]
  ihave Ho := (Entails.of_eq (congrArg (ow (F := F) c) (show 3 + 6 * q'.val + 3 = 6 + 6 * q'.val by omega))) $$ Ho
  simp only [WP, wp_ret]
  imodintro
  iapply Hk $$ Ho H2 H3 H4 [HW HX HA HC HB] HO
  isplitl [HW]; · iexact HW
  isplitl [HX]; · iexact HX
  isplitl [HA]; · iexact HA
  isplitl [HC]; · iexact HC
  iexact HB

end Body

end Cert.MoE
-- ==== Proof.Last.lean ====
/-
# The last point
-/
module

public import proofs.«01_k».proof.Proof.Close

@[expose] public section

noncomputable section

namespace Cert.MoE

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × KC → ℕ)

section Body
variable (c : Dev nD)

variable (A2 : Memref sig .tc .vmem S512x1024 .f32) (h2 : A2.IsWhole) (A3 : Memref sig .tc .vmem S1024x32 .f32) (h3 : A3.IsWhole)
  (A4 : Memref sig .tc .vmem S512x2 .i32) (h4 : A4.IsWhole) (A6 : Memref sig .tc .vmem S2048x1024 .f32) (h6 : A6.IsWhole)
  (h5 : wM.IsWhole) (h7 : xbfM.IsWhole) (h8 : g0M.IsWhole) (h9 : g1M.IsWhole) (h10 : accM.IsWhole) (h11 : stgM.IsWhole) (h12 : ewM.IsWhole)
  (h14 : rsSM.IsWhole) (h15 : rsRM.IsWhole) (h16 : agSM.IsWhole) (h17 : agRM.IsWhole)

set_option maxHeartbeats 3200000 in
/-- The last point: the last quarter is sent off, reduced and gathered before the run ends. -/
theorem body_last (Kt : PUnit → sProp 𝕄) :
    iprop(ctx m K ∗ ow c (no (8 * (3 : Fin 4).val + (7 : Fin 8).val)) ∗ owns (c : Thread nD τ) A2 fullShare (xb m c 3) ∗ owns (c : Thread nD τ) A3 fullShare (rw m c 3) ∗ owns (c : Thread nD τ) A4 fullShare (ib m c 3)
        ∗ Gs m c (8 * (3 : Fin 4).val + (7 : Fin 8).val) (xo 3 7) ∗ Os m c A6 (Dn c (8 * (3 : Fin 4).val + (7 : Fin 8).val)))
      ⊢ iprop((ow c (no (8 * (3 : Fin 4).val + (7 : Fin 8).val + 1)) -∗ owns (c : Thread nD τ) A2 fullShare (xb m c 3) -∗ owns (c : Thread nD τ) A3 fullShare (rw m c 3) -∗ owns (c : Thread nD τ) A4 fullShare (ib m c 3)
            -∗ Gs m c (8 * (3 : Fin 4).val + (7 : Fin 8).val + 1) (some 3) -∗ Os m c A6 (Dn c (8 * (3 : Fin 4).val + (7 : Fin 8).val + 1)) -∗ Kt ⟨⟩)
        -∗ WP c (cc0_body (F := F) (co 3 7) A2 h2 A3 h3 A4 h4 wM h5 A6 h6 xbfM h7 g0M h8 g1M h9 accM h10 stgM h11 ewM h12 cc0_scratch6 rsSM h14 rsRM h15 agSM h16 agRM h17 cc0_scratch11 cc0_scratch12 cc0_scratch13 cc0_scratch14) Kt) := by
  have h : (2 : Fin 4).val + 1 = (3 : Fin 4).val := rfl
  have c5 := mt (cond5_iff 3 7).1 (fun h => absurd h.1 (by decide))
  have c6 := (cond6_iff 3 7).2 rfl
  have c7 := mt (cond7_iff 3 7).1 (fun h => absurd h.2 (by decide))
  have c8 := (cond8_iff 3 7).2 ⟨by decide, rfl⟩
  have c9 := (cond9_iff 3 7).2 ⟨rfl, rfl⟩
  obtain ⟨p1, p2, p3, -, p5⟩ := end_next 2 3 rfl
  obtain ⟨p4, p6⟩ := tail_next
  rw [cc0_body_eq_skeleton]; unfold cc0_body_skel
  simp (zeta := false) only [↓reduceDIte, c5, c6, c7, c8, c9]
  simp only [Prog.lift, Prog.bind_op, Prog.bind_ret, Prog.pure_eq_ret, WP_bind]
  unfold Gs
  iintro ⟨#Hc, Ho, H2, H3, H4, ⟨HW, HX, HA, HC, HB⟩, HO⟩ Hk
  ihave HA := (As_turn m c (fa (8 * (3 : Fin 4).val + (7 : Fin 8).val)) 3) $$ HA
  icases HA with ⟨Ha, HA⟩
  ihave Ha := (Entails.of_eq (congrArg (Aq m c 3) (fa_at 3 7))) $$ Ha
  iapply (part17_spec m K c A2 h2 A3 h3 A4 h4 A6 h6 h5 h7 h8 h9 h10 h11 h12 h14 h15 h16 h17 3 7 (no (8 * (3 : Fin 4).val + (7 : Fin 8).val))) $$ [Ho H2 H3 H4 HW HX Ha]
  · isplitr; · iexact Hc
    isplitl [Ho]; · iexact Ho
    isplitl [H2]; · iexact H2
    isplitl [H3]; · iexact H3
    isplitl [H4]; · iexact H4
    isplitl [HW]; · iexact HW
    isplitl [HX]; · iexact HX
    iexact Ha
  iintro %a0 %a1 %v2 %v31 Ho H2 H3 H4 HW HX Ha
  dsimp only
  iapply (wp_load_slice c accM (off₀ := ![512 * (3 : Fin 4).val, 0]) (inb₀ := inbQ 3) (h₀ := fun _ => rfl) (off11 3 7) fullShare (accv m c 3 (7 : Fin 8).val)) $$ Ha; iintro Ha
  iapply (wp_load_slice c accM (off₀ := ![512 * (3 : Fin 4).val, 0]) (inb₀ := inbQ 3) (h₀ := fun _ => rfl) (off11 3 7) fullShare (accv m c 3 (7 : Fin 8).val)) $$ Ha; iintro Ha
  iapply (wp_store_slice c accM (off₀ := ![512 * (3 : Fin 4).val, 0]) (inb₀ := inbQ 3) (h₀ := fun _ => rfl) (off11 3 7) (accv m c 3 (7 : Fin 8).val)) $$ Ha; iintro Ha
  ihave Ha := (Entails.of_eq (acc_step m c 3 7)) $$ Ha
  ihave HC := (Cs_turn (F := F) c _ 3) $$ HC
  icases HC with ⟨Hq, HC⟩
  ihave Hq := (Entails.of_eq (congrArg (Cq (F := F) c 3) p2)) $$ Hq
  rw [p1]
  ihave Ha := (Entails.of_eq (show (owns (c : Thread nD τ) (accQ 3) fullShare (accv m c 3 ((7 : Fin 8).val + 1)) : sProp 𝕄) = owns (c : Thread nD τ) (accQ 3) fullShare (accv m c 3 8) from rfl)) $$ Ha
  ihave Hq := (Entails.of_eq (Cq_1 (F := F) c 3)) $$ Hq
  icases Hq with ⟨Hg, I0, I1, I2⟩
  unfold I1 I0
  icases I0 with ⟨⟨Hx0, Ht0, Hu0, Hp0, Hr0, Hs0, Hw0, Hc0, Hv0⟩, Hl0, Hm0⟩
  icases I1 with ⟨⟨Hx1, Ht1, Hu1, Hp1, Hr1, Hs1, Hw1, Hc1, Hv1⟩, Hl1, Hm1⟩
  icases I2 with ⟨⟨Hx2, Ht2, Hu2, Hp2, Hr2, Hs2, Hw2, Hc2, Hv2⟩, Hl2, Hm2⟩
  rw [WP_bind]
  iapply (part2_spec m c A2 h2 A3 h3 A4 h4 A6 h6 h5 h7 h8 h9 h10 h11 h12 h14 h15 h16 h17 3) $$ [Ha Hx0 Hx1 Hx2]
  · isplitl [Ha]; · iexact Ha
    isplitl [Hx0]; · iexact Hx0
    isplitl [Hx1]; · iexact Hx1
    iexact Hx2
  iintro %v Ha Hx0 Hx1 Hx2
  dsimp only
  rw [WP_bind]
  iapply (part3_spec m K c A2 h2 A3 h3 A4 h4 A6 h6 h5 h7 h8 h9 h10 h11 h12 h14 h15 h16 h17 3 (3 + 6 * (3 : Fin 4).val) (3 + 6 * (3 : Fin 4).val + 2) rfl rfl) $$ [Hx0 Hx1 Hx2 Hl0 Hl1 Ho Ht0 Ht1]
  · isplitr; · iexact Hc
    isplitl [Hx0]; · iexact Hx0
    isplitl [Hx1]; · iexact Hx1
    isplitl [Hx2]; · iexact Hx2
    isplitl [Hl0]; · iexact Hl0
    isplitl [Hl1]; · iexact Hl1
    isplitl [Ho]; · iexact Ho
    isplitl [Ht0]; · iexact Ht0
    iexact Ht1
  iintro %v3 Hx2 Hd0 Hd1 Ho
  iapply (wp_rs_send m K c 3 2 (3 + 6 * (3 : Fin 4).val + 2) (3 + 6 * (3 : Fin 4).val + 3) rfl rfl (off20 3 7) (off21 3 7) (dev6_eq c)) $$ [Hx2 Hl2 Ho Ht2]
  · isplitr; · iexact Hc
    isplitl [Hx2]; · iexact Hx2
    isplitl [Hl2]; · iexact Hl2
    isplitl [Ho]; · iexact Ho
    iexact Ht2
  iintro ⟨Hd2, Ho⟩
  ihave HC := HC $$ %2 [Hg Hm0 Hu0 Hp0 Hr0 Hs0 Hw0 Hd0 Hc0 Hv0 Hm1 Hu1 Hp1 Hr1 Hs1 Hw1 Hd1 Hc1 Hv1 Hm2 Hu2 Hp2 Hr2 Hs2 Hw2 Hd2 Hc2 Hv2]
  · iapply (Entails.of_eq (Cq_2 (F := F) c 3).symm)
    unfold I2
    isplitl [Hg]; · iexact Hg
    isplitl [Hm0 Hu0 Hp0 Hr0 Hs0 Hw0 Hd0 Hc0 Hv0]
    · isplitl [Hm0]; · iexact Hm0
      isplitl [Hu0]; · iexact Hu0
      isplitl [Hp0]; · iexact Hp0
      isplitl [Hr0]; · iexact Hr0
      isplitl [Hs0]; · iexact Hs0
      isplitl [Hw0]; · iexact Hw0
      isplitl [Hd0]; · iexact Hd0
      isplitl [Hc0]; · iexact Hc0
      iexact Hv0
    isplitl [Hm1 Hu1 Hp1 Hr1 Hs1 Hw1 Hd1 Hc1 Hv1]
    · isplitl [Hm1]; · iexact Hm1
      isplitl [Hu1]; · iexact Hu1
      isplitl [Hp1]; · iexact Hp1
      isplitl [Hr1]; · iexact Hr1
      isplitl [Hs1]; · iexact Hs1
      isplitl [Hw1]; · iexact Hw1
      isplitl [Hd1]; · iexact Hd1
      isplitl [Hc1]; · iexact Hc1
      iexact Hv1
    isplitl [Hm2]; · iexact Hm2
    isplitl [Hu2]; · iexact Hu2
    isplitl [Hp2]; · iexact Hp2
    isplitl [Hr2]; · iexact Hr2
    isplitl [Hs2]; · iexact Hs2
    isplitl [Hw2]; · iexact Hw2
    isplitl [Hd2]; · iexact Hd2
    isplitl [Hc2]; · iexact Hc2
    iexact Hv2
  ihave HC := (Cs_turn (F := F) c _ 2) $$ HC
  icases HC with ⟨Hq, HC⟩
  ihave Hq := (Entails.of_eq ((congrArg (Cq (F := F) c 2) p3).trans (Cq_3 c 2))) $$ Hq
  icases Hq with ⟨I0, I1, I2⟩
  unfold I3
  icases I0 with ⟨Hx0, Hb0, Hz0, Hy0, Hu0, Hw0, Hc0, Hv0⟩
  icases I1 with ⟨Hx1, Hb1, Hz1, Hy1, Hu1, Hw1, Hc1, Hv1⟩
  icases I2 with ⟨Hx2, Hb2, Hz2, Hy2, Hu2, Hw2, Hc2, Hv2⟩
  rw [WP_bind]
  iapply (part8_spec m K c A2 h2 A3 h3 A4 h4 A6 h6 h5 h7 h8 h9 h10 h11 h12 h14 h15 h16 h17 2 3 h (3 + 6 * (3 : Fin 4).val + 3) (by have := h; show 6 * (2 : Fin 4).val + 9 ≤ _; omega)) $$ [Hc0 Hv0 Hu0 Hw0 Ho HO]
  · isplitr [HO]
    · isplitr; · iexact Hc
      isplitl [Hc0]; · iexact Hc0
      isplitl [Hv0]; · iexact Hv0
      isplitl [Hu0]; · iexact Hu0
      isplitl [Hw0]; · iexact Hw0
      iexact Ho
    iexact HO
  iintro %u0 Ho Hn0 HO
  rw [WP_bind]
  iapply (part9_spec m K c A2 h2 A3 h3 A4 h4 A6 h6 h5 h7 h8 h9 h10 h11 h12 h14 h15 h16 h17 2 3 h (3 + 6 * (3 : Fin 4).val + 3) (by have := h; show 6 * (2 : Fin 4).val + 9 ≤ _; omega)) $$ [Hc1 Hv1 Hu1 Hw1 Ho HO]
  · isplitr [HO]
    · isplitr; · iexact Hc
      isplitl [Hc1]; · iexact Hc1
      isplitl [Hv1]; · iexact Hv1
      isplitl [Hu1]; · iexact Hu1
      isplitl [Hw1]; · iexact Hw1
      iexact Ho
    iexact HO
  iintro %u1 Ho Hn1 HO
  iapply (wp_ag_wait m K c 2 2 (3 + 6 * (3 : Fin 4).val + 3) (by have := h; show 6 * (2 : Fin 4).val + 9 ≤ _; omega) (off42 2 3 h) (off42 2 3 h)) $$ [Hc2 Hv2 Hu2 Hw2 Ho]
  · isplitr; · iexact Hc
    isplitl [Hc2]; · iexact Hc2
    isplitl [Hv2]; · iexact Hv2
    isplitl [Hu2]; · iexact Hu2
    isplitl [Hw2]; · iexact Hw2
    iexact Ho
  iintro ⟨Ho, Hu2, Hw2, Hs2, Hr⟩
  iapply (wp_load_slice c agRM (off₀ := ![(2 : Fin 4).val, (2 : Fin 3).val, 0, 0]) (inb₀ := inb4 2 2) (h₀ := fun _ => rfl) (off44 2 3 h) fullShare (agl m (src c 2) 2)) $$ Hr; iintro Hr
  iapply (wp_out_load m c) $$ HO; iintro %w2 HO
  iapply (wp_out_store m c 2 (src c 2) (off38 2 3 h c 2) (by unfold outp; rw [if_neg (src_ne c _)])) $$ HO; iintro HO
  unfold G3
  icases Hn0 with ⟨Hn0, Hu0, Hw0, Hs0⟩
  icases Hn1 with ⟨Hn1, Hu1, Hw1, Hs1⟩
  ihave Hg := (agS_join c 2 (agd m c 2)) $$ [Hs0 Hs1 Hs2]
  · isplitl [Hs0]; · iexact Hs0
    isplitl [Hs1]; · iexact Hs1
    iexact Hs2
  ihave HC := HC $$ %4 [Hg Hx0 Hb0 Hn0 Hz0 Hy0 Hu0 Hw0 Hx1 Hb1 Hn1 Hz1 Hy1 Hu1 Hw1 Hx2 Hb2 Hr Hz2 Hy2 Hu2 Hw2]
  · iapply (Entails.of_eq (Cq_4 (F := F) c 2).symm)
    unfold I4
    isplitl [Hg]; · unfold anyAgS; iexists _; iexact Hg
    isplitl [Hx0 Hb0 Hn0 Hz0 Hy0 Hu0 Hw0]
    · isplitl [Hx0]; · iexact Hx0
      isplitl [Hb0]; · iexact Hb0
      isplitl [Hn0]; · iexact Hn0
      isplitl [Hz0]; · iexact Hz0
      isplitl [Hy0]; · iexact Hy0
      isplitl [Hu0]; · iexact Hu0
      iexact Hw0
    isplitl [Hx1 Hb1 Hn1 Hz1 Hy1 Hu1 Hw1]
    · isplitl [Hx1]; · iexact Hx1
      isplitl [Hb1]; · iexact Hb1
      isplitl [Hn1]; · iexact Hn1
      isplitl [Hz1]; · iexact Hz1
      isplitl [Hy1]; · iexact Hy1
      isplitl [Hu1]; · iexact Hu1
      iexact Hw1
    isplitl [Hx2]; · iexact Hx2
    isplitl [Hb2]; · iexact Hb2
    isplitl [Hr]; · unfold anyAgR; iexists _; iexact Hr
    isplitl [Hz2]; · iexact Hz2
    isplitl [Hy2]; · iexact Hy2
    isplitl [Hu2]; · iexact Hu2
    iexact Hw2
  simp only [k0_part10_eq_skeleton, k0_part11_eq_skeleton, k0_part12_eq_skeleton, k0_part13_eq_skeleton, k0_part14_eq_skeleton, k0_part15_eq_skeleton, k0_part16_eq_skeleton,
    k0_part10_skel, k0_part11_skel, k0_part12_skel, k0_part13_skel, k0_part14_skel, k0_part15_skel, k0_part16_skel, Prog.lift, Prog.bind_op, Prog.bind_ret, Prog.pure_eq_ret]
  ihave HC := (Cs_turn (F := F) c _ 3) $$ HC
  icases HC with ⟨Hq, HC⟩
  ihave Hq := (Entails.of_eq ((congrArg (Cq (F := F) c 3) p4).trans (Cq_2 (F := F) c 3))) $$ Hq
  icases Hq with ⟨Hg, I0, I1, I2⟩
  unfold I2 anyAgS
  icases Hg with ⟨%Y, Hg⟩
  icases I0 with ⟨Hm0, Ht0, Hp0, Hr0, Hs0, Hw0, Hc0, Hd0, Hv0⟩
  icases I1 with ⟨Hm1, Ht1, Hp1, Hr1, Hs1, Hw1, Hc1, Hd1, Hv1⟩
  icases I2 with ⟨Hm2, Ht2, Hp2, Hr2, Hs2, Hw2, Hc2, Hd2, Hv2⟩
  iapply (wp_rs_wait m K c 3 0 24 (by decide) rfl rfl) $$ [Hc0 Hd0 Hp0 Hr0 Ho]
  · isplitr; · iexact Hc
    isplitl [Hc0]; · iexact Hc0
    isplitl [Hd0]; · iexact Hd0
    isplitl [Hp0]; · iexact Hp0
    isplitl [Hr0]; · iexact Hr0
    iexact Ho
  iintro ⟨Ho, Hp0, Hr0, Hx0, Hb0⟩
  iapply (wp_rs_wait m K c 3 1 24 (by decide) rfl rfl) $$ [Hc1 Hd1 Hp1 Hr1 Ho]
  · isplitr; · iexact Hc
    isplitl [Hc1]; · iexact Hc1
    isplitl [Hd1]; · iexact Hd1
    isplitl [Hp1]; · iexact Hp1
    isplitl [Hr1]; · iexact Hr1
    iexact Ho
  iintro ⟨Ho, Hp1, Hr1, Hx1, Hb1⟩
  iapply (wp_rs_wait m K c 3 2 24 (by decide) rfl rfl) $$ [Hc2 Hd2 Hp2 Hr2 Ho]
  · isplitr; · iexact Hc
    isplitl [Hc2]; · iexact Hc2
    isplitl [Hd2]; · iexact Hd2
    isplitl [Hp2]; · iexact Hp2
    isplitl [Hr2]; · iexact Hr2
    iexact Ho
  iintro ⟨Ho, Hp2, Hr2, Hx2, Hb2⟩
  iapply (wp_acc_piece m c 3 c (off45 c)) $$ Ha; iintro Ha
  iapply (wp_load_slice c rsRM (off₀ := ![(3 : Fin 4).val, (0 : Fin 3).val, 0, 0]) (inb₀ := inb4 3 0) (h₀ := fun _ => rfl) rfl fullShare (rsd m (src c 0) 3 0)) $$ Hb0; iintro Hb0
  iapply (wp_load_slice c rsRM (off₀ := ![(3 : Fin 4).val, (1 : Fin 3).val, 0, 0]) (inb₀ := inb4 3 1) (h₀ := fun _ => rfl) rfl fullShare (rsd m (src c 1) 3 1)) $$ Hb1; iintro Hb1
  iapply (wp_load_slice c rsRM (off₀ := ![(3 : Fin 4).val, (2 : Fin 3).val, 0, 0]) (inb₀ := inb4 3 2) (h₀ := fun _ => rfl) rfl fullShare (rsd m (src c 2) 3 2)) $$ Hb2; iintro Hb2
  iapply (wp_out_load m c) $$ HO; iintro %wo HO
  iapply (wp_out_store m c 3 c (off45 c) (by unfold outp; rw [if_pos rfl]; rfl)) $$ HO; iintro HO
  iapply (wp_load_slice c agSM (off₀ := ![(3 : Fin 4).val, 0, 0]) (inb₀ := inb3 3) (h₀ := fun _ => rfl) rfl fullShare Y) $$ Hg; iintro Hg
  iapply (wp_store_slice c agSM (off₀ := ![(3 : Fin 4).val, 0, 0]) (inb₀ := inb3 3) (h₀ := fun _ => rfl) rfl Y) $$ Hg; iintro Hg
  ihave Hg := (Entails.of_eq (show owns (c : Thread nD τ) (agS 3) fullShare (k0_pay21 (k0_pay20 (pc m c 3 c) (rsd m (src c 0) 3 0) (rsd m (src c 1) 3 1) (rsd m (src c 2) 3 2))) = owns (c : Thread nD τ) (agS 3) fullShare (agd m c 3) from rfl)) $$ Hg
  ihave Hg := (agS_split c 3 (agd m c 3)) $$ Hg
  icases Hg with ⟨Hg0, Hg1, Hg2⟩
  iapply (wp_ag_send m K c 3 0 24 25 rfl rfl rfl rfl rfl (dev10_eq c)) $$ [Hg0 Hm0 Ho Ht0]
  · isplitr; · iexact Hc
    isplitl [Hg0]; · iexact Hg0
    isplitl [Hm0]; · iexact Hm0
    isplitl [Ho]; · iexact Ho
    iexact Ht0
  iintro ⟨Hc0, Ho⟩
  iapply (wp_ag_send m K c 3 1 25 26 rfl rfl rfl rfl rfl (dev11_eq c)) $$ [Hg1 Hm1 Ho Ht1]
  · isplitr; · iexact Hc
    isplitl [Hg1]; · iexact Hg1
    isplitl [Hm1]; · iexact Hm1
    isplitl [Ho]; · iexact Ho
    iexact Ht1
  iintro ⟨Hc1, Ho⟩
  iapply (wp_ag_send m K c 3 2 26 27 rfl rfl rfl rfl rfl (dev12_eq c)) $$ [Hg2 Hm2 Ho Ht2]
  · isplitr; · iexact Hc
    isplitl [Hg2]; · iexact Hg2
    isplitl [Hm2]; · iexact Hm2
    isplitl [Ho]; · iexact Ho
    iexact Ht2
  iintro ⟨Hc2, Ho⟩
  iapply (wp_ag_wait m K c 3 0 27 (by decide) rfl rfl) $$ [Hc0 Hv0 Hs0 Hw0 Ho]
  · isplitr; · iexact Hc
    isplitl [Hc0]; · iexact Hc0
    isplitl [Hv0]; · iexact Hv0
    isplitl [Hs0]; · iexact Hs0
    isplitl [Hw0]; · iexact Hw0
    iexact Ho
  iintro ⟨Ho, Hs0, Hw0, Hg0, Hn0⟩
  iapply (wp_load_slice c agRM (off₀ := ![(3 : Fin 4).val, (0 : Fin 3).val, 0, 0]) (inb₀ := inb4 3 0) (h₀ := fun _ => rfl) rfl fullShare (agl m (src c 0) 3)) $$ Hn0; iintro Hn0
  iapply (wp_out_load m c) $$ HO; iintro %x0 HO
  iapply (wp_out_store m c 3 (src c 0) (off46 c 0) (by unfold outp; rw [if_neg (src_ne c _)]; try rfl)) $$ HO; iintro HO
  iapply (wp_ag_wait m K c 3 1 27 (by decide) rfl rfl) $$ [Hc1 Hv1 Hs1 Hw1 Ho]
  · isplitr; · iexact Hc
    isplitl [Hc1]; · iexact Hc1
    isplitl [Hv1]; · iexact Hv1
    isplitl [Hs1]; · iexact Hs1
    isplitl [Hw1]; · iexact Hw1
    iexact Ho
  iintro ⟨Ho, Hs1, Hw1, Hg1, Hn1⟩
  iapply (wp_load_slice c agRM (off₀ := ![(3 : Fin 4).val, (1 : Fin 3).val, 0, 0]) (inb₀ := inb4 3 1) (h₀ := fun _ => rfl) rfl fullShare (agl m (src c 1) 3)) $$ Hn1; iintro Hn1
  iapply (wp_out_load m c) $$ HO; iintro %x1 HO
  iapply (wp_out_store m c 3 (src c 1) (off46 c 1) (by unfold outp; rw [if_neg (src_ne c _)]; try rfl)) $$ HO; iintro HO
  iapply (wp_ag_wait m K c 3 2 27 (by decide) rfl rfl) $$ [Hc2 Hv2 Hs2 Hw2 Ho]
  · isplitr; · iexact Hc
    isplitl [Hc2]; · iexact Hc2
    isplitl [Hv2]; · iexact Hv2
    isplitl [Hs2]; · iexact Hs2
    isplitl [Hw2]; · iexact Hw2
    iexact Ho
  iintro ⟨Ho, Hs2, Hw2, Hg2, Hn2⟩
  iapply (wp_load_slice c agRM (off₀ := ![(3 : Fin 4).val, (2 : Fin 3).val, 0, 0]) (inb₀ := inb4 3 2) (h₀ := fun _ => rfl) rfl fullShare (agl m (src c 2) 3)) $$ Hn2; iintro Hn2
  iapply (wp_out_load m c) $$ HO; iintro %x2 HO
  iapply (wp_out_store m c 3 (src c 2) (off46 c 2) (by unfold outp; rw [if_neg (src_ne c _)]; try rfl)) $$ HO; iintro HO
  ihave Hg := (agS_join c 3 (agd m c 3)) $$ [Hg0 Hg1 Hg2]
  · isplitl [Hg0]; · iexact Hg0
    isplitl [Hg1]; · iexact Hg1
    iexact Hg2
  ihave HC := HC $$ %4 [Hg Hx0 Hb0 Hn0 Hp0 Hr0 Hs0 Hw0 Hx1 Hb1 Hn1 Hp1 Hr1 Hs1 Hw1 Hx2 Hb2 Hn2 Hp2 Hr2 Hs2 Hw2]
  · iapply (Entails.of_eq (Cq_4 (F := F) c 3).symm)
    unfold I4 anyAgS anyRsR anyAgR
    isplitl [Hg]; · iexists _; iexact Hg
    isplitl [Hx0 Hb0 Hn0 Hp0 Hr0 Hs0 Hw0]
    · isplitl [Hx0]; · iexact Hx0
      isplitl [Hb0]; · iexists _; iexact Hb0
      isplitl [Hn0]; · iexists _; iexact Hn0
      isplitl [Hp0]; · iexact Hp0
      isplitl [Hr0]; · iexact Hr0
      isplitl [Hs0]; · iexact Hs0
      iexact Hw0
    isplitl [Hx1 Hb1 Hn1 Hp1 Hr1 Hs1 Hw1]
    · isplitl [Hx1]; · iexact Hx1
      isplitl [Hb1]; · iexists _; iexact Hb1
      isplitl [Hn1]; · iexists _; iexact Hn1
      isplitl [Hp1]; · iexact Hp1
      isplitl [Hr1]; · iexact Hr1
      isplitl [Hs1]; · iexact Hs1
      iexact Hw1
    isplitl [Hx2]; · iexact Hx2
    isplitl [Hb2]; · iexists _; iexact Hb2
    isplitl [Hn2]; · iexists _; iexact Hn2
    isplitl [Hp2]; · iexact Hp2
    isplitl [Hr2]; · iexact Hr2
    isplitl [Hs2]; · iexact Hs2
    iexact Hw2
  ihave HC := (Entails.of_eq (congrArg (Cs (F := F) c) (funext p6))) $$ HC
  ihave HA := HA $$ %(⟨(7 : Fin 8).val + 1, Nat.succ_lt_succ (7 : Fin 8).isLt⟩ : Fin 9) [Ha]
  · iapply (Aq_of m c 3 (⟨(7 : Fin 8).val + 1, Nat.succ_lt_succ (7 : Fin 8).isLt⟩ : Fin 9) 8 rfl) $$ Ha
  ihave HA := (Entails.of_eq (congrArg (As m c) (fa_next 3 7))) $$ HA
  rw [show mark (mark (mark (mark (mark (mark (mark (Dn c (8 * (3 : Fin 4).val + (7 : Fin 8).val)) 2 (src c 0)) 2 (src c 1)) 2 (src c 2)) 3 c) 3 (src c 0)) 3 (src c 1)) 3 (src c 2) = Dn c (8 * (3 : Fin 4).val + (7 : Fin 8).val + 1)
    from funext fun x => funext fun y => tail_D c x y]
  rw [show decide (8 ≤ 8 * (3 : Fin 4).val + (7 : Fin 8).val + 1) = decide (8 ≤ 8 * (3 : Fin 4).val + (7 : Fin 8).val) from decide_eq_decide.2 ⟨fun _ => p5, fun _ => Nat.le_succ_of_le p5⟩]
  rw [tail_no.1]
  simp only [WP, wp_ret]
  imodintro
  iapply Hk $$ Ho H2 H3 H4 [HW HX HA HC HB] HO
  isplitl [HW]; · iexact HW
  isplitl [HX]; · iexact HX
  isplitl [HA]; · iexact HA
  isplitl [HC]; · iexact HC
  iexact HB

end Body

end Cert.MoE
-- ==== Proof.Obl.lean ====
/-
# The body at every point, and the pipeline's data
-/
module

public import proofs.«01_k».proof.Proof.Last

@[expose] public section

noncomputable section

namespace Cert.MoE

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

open Idealize.ShloMosaic.Pipeline (BodyObligationRel RDat)

/-! ## Every point's body -/

section All
variable (K : Dev nD × KC → ℕ) (c : Dev nD)

variable (A2 : Memref sig .tc .vmem S512x1024 .f32) (h2 : A2.IsWhole) (A3 : Memref sig .tc .vmem S1024x32 .f32) (h3 : A3.IsWhole)
  (A4 : Memref sig .tc .vmem S512x2 .i32) (h4 : A4.IsWhole) (A6 : Memref sig .tc .vmem S2048x1024 .f32) (h6 : A6.IsWhole)
  (h5 : wM.IsWhole) (h7 : xbfM.IsWhole) (h8 : g0M.IsWhole) (h9 : g1M.IsWhole) (h10 : accM.IsWhole) (h11 : stgM.IsWhole) (h12 : ewM.IsWhole)
  (h14 : rsSM.IsWhole) (h15 : rsRM.IsWhole) (h16 : agSM.IsWhole) (h17 : agRM.IsWhole)

/-- The body at any point of the grid. -/
theorem body_all (q : Fin 4) (e : Fin 8) (Kt : PUnit → sProp 𝕄) :
    iprop(ctx m K ∗ ow c (no (8 * q.val + e.val)) ∗ owns (c : Thread nD τ) A2 fullShare (xb m c q) ∗ owns (c : Thread nD τ) A3 fullShare (rw m c q) ∗ owns (c : Thread nD τ) A4 fullShare (ib m c q)
        ∗ Gs m c (8 * q.val + e.val) (xo q e) ∗ Os m c A6 (Dn c (8 * q.val + e.val)))
      ⊢ iprop((ow c (no (8 * q.val + e.val + 1)) -∗ owns (c : Thread nD τ) A2 fullShare (xb m c q) -∗ owns (c : Thread nD τ) A3 fullShare (rw m c q) -∗ owns (c : Thread nD τ) A4 fullShare (ib m c q)
            -∗ Gs m c (8 * q.val + e.val + 1) (some q) -∗ Os m c A6 (Dn c (8 * q.val + e.val + 1)) -∗ Kt ⟨⟩)
        -∗ WP c (cc0_body (F := F) (co q e) A2 h2 A3 h3 A4 h4 wM h5 A6 h6 xbfM h7 g0M h8 g1M h9 accM h10 stgM h11 ewM h12 cc0_scratch6 rsSM h14 rsRM h15 agSM h16 agRM h17 cc0_scratch11 cc0_scratch12 cc0_scratch13 cc0_scratch14) Kt) := by
  by_cases he : e = 7
  · subst he
    by_cases h0 : q = 0
    · subst h0; exact body_meet m K c A2 h2 A3 h3 A4 h4 A6 h6 h5 h7 h8 h9 h10 h11 h12 h14 h15 h16 h17 Kt
    · by_cases h3' : q = 3
      · subst h3'; exact body_last m K c A2 h2 A3 h3 A4 h4 A6 h6 h5 h7 h8 h9 h10 h11 h12 h14 h15 h16 h17 Kt
      · have hq : q.val ≠ 0 := fun h => h0 (Fin.ext h)
        exact body_end m K c A2 h2 A3 h3 A4 h4 A6 h6 h5 h7 h8 h9 h10 h11 h12 h14 h15 h16 h17 ⟨q.val - 1, by omega⟩ q (by show q.val - 1 + 1 = q.val; omega) h3' Kt
  · by_cases hm : q = 0 ∨ e ≠ 3
    · exact body_plain m K c A2 h2 A3 h3 A4 h4 A6 h6 h5 h7 h8 h9 h10 h11 h12 h14 h15 h16 h17 q e he hm Kt
    · obtain ⟨h0, h3'⟩ := not_or.mp hm
      obtain rfl : e = 3 := not_not.mp h3'
      have hq : q.val ≠ 0 := fun h => h0 (Fin.ext h)
      exact body_mid m K c A2 h2 A3 h3 A4 h4 A6 h6 h5 h7 h8 h9 h10 h11 h12 h14 h15 h16 h17 ⟨q.val - 1, by omega⟩ q (by show q.val - 1 + 1 = q.val; omega) Kt

end All

/-! ## The pipeline's data -/

set_option backward.proofsInPublic true in
/-- Which quarter's rounded block and gates are at hand before point `t`. -/
def xt (t : ℕ) : Option (Fin 4) := if h : t % 8 = 0 then none else some ⟨t / 8 % 4, Nat.mod_lt _ (by decide)⟩

theorem xt_at : ∀ (q : Fin 4) (e : Fin 8), xt (8 * q.val + e.val) = xo q e := by decide +kernel
theorem xt_next : ∀ (q : Fin 4) (e : Fin 8), xt (8 * q.val + e.val + 1) = none ∨ xt (8 * q.val + e.val + 1) = some q := by decide +kernel

/-- What a device holds before point `t`, the windows' buffers apart. -/
def Ph (c : Dev nD) (t : ℕ) : sProp 𝕄 := iprop((∃ K, ctx m K) ∗ Gs m c t (xt t))

/-- The windows whose contents are given by a relation: the result's. -/
def fgt : Fin cfg0.W → Bool := ![false, false, false, true]

/-- What the body leaves in the result's buffer at point `t`: the pieces due by then. -/
def Rl (c : Dev nD) : (w : Fin cfg0.W) → Fin cfg0.N → ((cfg0.win w).block.Idx → Elt F (cfg0.win w).elt) → Prop
  | ⟨3, _⟩ => fun t X => OutP m c (Dn c (t.val + 1)) X
  | _ => fun _ _ => True

/-- Contents for the result's window; the relation `Rl` stands in its place. -/
def outAny (m : (ℓ : Loc nD τ sig) → Buf (Elt F) ℓ) (c : Dev nD) : S2048x1024.Idx → Elt F .f32 :=
  fun _ => m ((c : Thread nD τ).loc main_v1) (show S2048x1024.Idx from fun a => ⟨0, Nat.pos_of_ne_zero (by revert a; decide)⟩)

/-- The run's proof data: each input's blocks stay as fetched; between points the device holds `Ph` and owes what
    it has yet to signal and send. -/
def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAny m c
  Φ t := Ph m c t.val
  q _ := fullShare
  owed t := O c (no t.val)

theorem before_0 (c : Dev nD) (t : Fin cfg0.N) (d) : (dats m 0 c).before 0 t d = iblk m c 0 t :=
  ((dats m 0 c).before_in_eq_fetched 0 rfl (fun _ => rfl) (fun _ _ _ => rfl) (fun t => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun t => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun t => rfl) t d).trans rfl

theorem index_0 : ∀ (q : Fin 4) (e : Fin 8), (cfg0.win 0).index (pt q e) = (cfg0.win 0).index (pt q 0) := by decide +kernel
theorem index_1 : ∀ (q : Fin 4) (e : Fin 8), (cfg0.win 1).index (pt q e) = (cfg0.win 1).index (pt q 0) := by decide +kernel
theorem index_2 : ∀ (q : Fin 4) (e : Fin 8), (cfg0.win 2).index (pt q e) = (cfg0.win 2).index (pt q 0) := by decide +kernel

/-- Through a quarter's points each input's block is the quarter's. -/
theorem blk_0 (c : Dev nD) (q : Fin 4) (e : Fin 8) (d) : (dats m 0 c).before 0 (pt q e) d = xb m c q := by
  rw [before_0]
  exact (dats m 0 c).fetched_congr 0 (index_0 q e) rfl d
theorem blk_1 (c : Dev nD) (q : Fin 4) (e : Fin 8) (d) : (dats m 0 c).before 1 (pt q e) d = rw m c q := by
  rw [before_1]
  exact (dats m 0 c).fetched_congr 1 (index_1 q e) rfl d
theorem blk_2 (c : Dev nD) (q : Fin 4) (e : Fin 8) (d) : (dats m 0 c).before 2 (pt q e) d = ib m c q := by
  rw [before_2]
  exact (dats m 0 c).fetched_congr 2 (index_2 q e) rfl d

theorem Dn_zero : ∀ (c : Dev nD) (q p : Fin 4), ¬ Dn c 0 q p = true := by decide +kernel

/-- What the body finds in the result's buffer: the pieces due before the point. -/
theorem finds_3 (c : Dev nD) (t : Fin cfg0.N) (X) (h : ((dats m 0 c).toRRel fgt (Rl m c)).Finds 3 t X) : OutP m c (Dn c t.val) X := by
  by_cases h0 : t.val = 0
  · intro q p hD; rw [h0] at hD; exact absurd hD (Dn_zero c q p)
  · have hN : cfg0.N = 32 := N_0
    have ht := t.isLt
    rcases (((dats m 0 c).toRRel fgt (Rl m c)).finds_of_pos ((cfg0.win 3).fetch_out rfl t) h0 X).mp h with hf | hl
    · have := (flush0_3 _).1 hf
      simp only at this; omega
    · have h' := (dats m 0 c).toRRel_leaves (show fgt 3 = true from rfl) hl
      have h'' : OutP m c (Dn c (t.val - 1 + 1)) X := h'
      rwa [show t.val - 1 + 1 = t.val by omega] at h''

theorem owes_in (c : Dev nD) (t : Fin (cfg0.N + 1)) : (dats m 0 c).owesAt () t ⊢ ow (F := F) c (no t.val) := by
  unfold ow; iintro ⟨%W, -, H⟩; iexists W; iexact H
theorem owes_out (c : Dev nD) (t : Fin (cfg0.N + 1)) : ow (F := F) c (no t.val) ⊢ (dats m 0 c).owesAt () t := by
  unfold ow; iintro ⟨%W, H⟩; iexists W; isplitr
  · ipureintro; exact fun _ _ => Or.inl trivial
  · iexact H

theorem Xs_weaken (c : Dev nD) (q : Fin 4) (o : Option (Fin 4)) (h : o = none ∨ o = some q) : Xs m c (some q) ⊢ Xs m c o := by
  rcases h with rfl | rfl
  · unfold Xs; iintro ⟨%X, %G₀, %G₁, -, H⟩; iexists X; iexists G₀; iexists G₁; isplitr
    · ipureintro; exact fun _ h => nomatch h
    · iexact H
  · exact .rfl

theorem Gs_weaken (c : Dev nD) (t : ℕ) (q : Fin 4) (o : Option (Fin 4)) (h : o = none ∨ o = some q) : Gs m c t (some q) ⊢ Gs m c t o := by
  unfold Gs; iintro ⟨H1, H2, H3⟩
  isplitl [H1]; · iexact H1
  isplitl [H2]; · iapply (Xs_weaken m c q o h) $$ H2
  iexact H3

set_option maxHeartbeats 1600000 in
/-- The body's obligation to the pipeline. -/
theorem body_obl (c : Dev nD) : BodyObligationRel (dats m 0 c) (defs₀ (F := F)) 𝒱₀ () Set.univ fgt (Rl m c) := fun t => by
  obtain ⟨q, e, rfl⟩ := exists_pt t
  rw [bigSep_W0, bigSep_W0]
  show iprop(Ph m c (8 * q.val + e.val) ∗ (dats m 0 c).owesAt () (pt q e).castSucc
      ∗ (∃ d, owns (c : Thread nD τ) (st0_0 (pt q e)) fullShare ((dats m 0 c).before 0 (pt q e) d))
      ∗ (∃ d, owns (c : Thread nD τ) (st0_1 (pt q e)) fullShare ((dats m 0 c).before 1 (pt q e) d))
      ∗ (∃ d, owns (c : Thread nD τ) (st0_2 (pt q e)) fullShare ((dats m 0 c).before 2 (pt q e) d))
      ∗ (∃ Y, ⌜((dats m 0 c).toRRel fgt (Rl m c)).Finds 3 (pt q e) Y⌝ ∗ owns (c : Thread nD τ) (st0_3 (pt q e)) fullShare Y))
    ⊢ WP c (bodyAt0 (F := F) (pt q e)) fun _ => iprop(Ph m c (8 * q.val + e.val + 1) ∗ (dats m 0 c).owesAt () (pt q e).succ
      ∗ owns (c : Thread nD τ) (st0_0 (pt q e)) fullShare (iblk m c 0 (pt q e))
      ∗ owns (c : Thread nD τ) (st0_1 (pt q e)) fullShare (iblk m c 1 (pt q e))
      ∗ owns (c : Thread nD τ) (st0_2 (pt q e)) fullShare (iblk m c 2 (pt q e))
      ∗ (∃ X, ⌜OutP m c (Dn c (8 * q.val + e.val + 1)) X⌝ ∗ owns (c : Thread nD τ) (st0_3 (pt q e)) fullShare X))
  unfold Ph
  iintro ⟨⟨⟨%K, #Hctx⟩, HG⟩, Ho, ⟨%d0, H0⟩, ⟨%d1, H1⟩, ⟨%d2, H2⟩, ⟨%Y, %hY, H3⟩⟩
  have e0 := blk_0 m c q e d0
  have e1 := blk_1 m c q e d1
  have e2 := blk_2 m c q e d2
  rw [← before_0 m c (pt q e) d0, ← before_1 m c (pt q e) d1, ← before_2 m c (pt q e) d2, e0, e1, e2, xt_at]
  ihave Ho := (owes_in m c _) $$ Ho
  have hO := finds_3 m c _ Y hY
  iapply (body_all m K c (st0_0 (pt q e)) _ (st0_1 (pt q e)) _ (st0_2 (pt q e)) _ (st0_3 (pt q e)) _ _ _ _ _ _ _ _ _ _ _ _ q e) $$ [Hctx Ho H0 H1 H2 HG H3] [Hctx]
  · isplitl [Hctx]; · iexact Hctx
    isplitl [Ho]; · iexact Ho
    isplitl [H0]; · iexact H0
    isplitl [H1]; · iexact H1
    isplitl [H2]; · iexact H2
    isplitl [HG]; · iexact HG
    unfold Os; iexists Y; isplitr
    · ipureintro; exact hO
    · iexact H3
  · iintro Ho H0 H1 H2 HG H3
    isplitl [Hctx HG]
    · isplitl [Hctx]
      · iexists K; iexact Hctx
      · iapply (Gs_weaken m c _ q _ (xt_next q e)) $$ HG
    isplitl [Ho]; · iapply (show ow (F := F) c (no (8 * q.val + e.val + 1)) ⊢ (dats m 0 c).owesAt () (pt q e).succ from owes_out m c (pt q e).succ) $$ Ho
    isplitl [H0]; · iexact H0
    isplitl [H1]; · iexact H1
    isplitl [H2]; · iexact H2
    unfold Os; iexact H3

/-- The run's data, relational at the result's window. -/
def rdats (p : Fin 1) (c : Dev nD) : RDat τ (Elt F) Unit ℕ UU ℕ cfg0 c := (dats m p c).toRRel fgt (Rl m c)

theorem rbody_obl (c : Dev nD) : (rdats m 0 c).BodyObligation (defs₀ (F := F)) 𝒱₀ () Set.univ := (body_obl m c).toRRel

end Cert.MoE
-- ==== Proof.Ghost.lean ====
/-
# The launch's cells, tokens and credit
-/
module

public import proofs.«01_k».proof.Proof.Obl

@[expose] public section

noncomputable section

namespace Cert.MoE

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells and the duties' tokens -/

def myCells : Finset (GSem nD τ sig) := Finset.univ.map ⟨fun ck : Dev nD × KC => cell ck.1 ck.2, cell_injective⟩

/-- A device's duties as its cells number them: the barrier's three, one for each transfer cell, one for each expert. -/
abbrev TI : Type := Fin 3 ⊕ ((Fin 4 × Fin 4 × Fin 3) ⊕ Fin 8)
def tokK : TI → KC × ℕ × Fin 3
  | .inl i => (none, 0, i)
  | .inr (.inl x) => (some (.inl x), 0, 0)
  | .inr (.inr e) => (some (.inr (par e)), e.val / 2, 0)
def tokOf (ci : Dev nD × TI) : GSem nD τ sig × ℕ × Fin 3 := (cell ci.1 (tokK ci.2).1, (tokK ci.2).2)

theorem tokK_injective : Function.Injective tokK := by
  rintro (i | x | e) (i' | x' | e') h
  · exact congrArg Sum.inl (congrArg (fun y : KC × ℕ × Fin 3 => y.2.2) h)
  · exact absurd h (by simp [tokK])
  · exact absurd h (by simp [tokK])
  · exact absurd h (by simp [tokK])
  · exact congrArg (fun x => Sum.inr (Sum.inl x)) (Sum.inl.inj (Option.some.inj (congrArg (fun y : KC × ℕ × Fin 3 => y.1) h)))
  · exact absurd h (by simp [tokK])
  · exact absurd h (by simp [tokK])
  · exact absurd h (by simp [tokK])
  · have h1 : par e = par e' := Sum.inr.inj (Option.some.inj (congrArg (fun y : KC × ℕ × Fin 3 => y.1) h))
    have h2 : e.val / 2 = e'.val / 2 := congrArg (fun y : KC × ℕ × Fin 3 => y.2.1) h
    rw [← pe_par e, ← pe_par e', h1, h2]

theorem tokOf_injective : Function.Injective tokOf := by
  rintro ⟨c, i⟩ ⟨c', i'⟩ h
  have h1 := cell_injective (a₁ := (c, (tokK i).1)) (a₂ := (c', (tokK i').1)) (congrArg (fun y : GSem nD τ sig × ℕ × Fin 3 => y.1) h)
  have h2 : (tokK i).2 = (tokK i').2 := congrArg (fun y : GSem nD τ sig × ℕ × Fin 3 => y.2) h
  have h3 : c = c' := congrArg Prod.fst h1
  have h4 : tokK i = tokK i' := Prod.ext (congrArg Prod.snd h1) h2
  rw [h3, tokK_injective h4]
def myToks : Finset (GSem nD τ sig × ℕ × Fin 3) := Finset.univ.map ⟨tokOf, tokOf_injective⟩

/-- The run's initial ghost state: the pipeline's cells and the exchange's. -/
def u₀ : UU := (initOf (Pipeline.cells cfgs cellOf_inj) (Pipeline.launchToks cfgs cellOf_inj), initOf myCells myToks)

/-- The tokens of the duties at device `c`'s own cells. -/
def toks (c : Dev nD) : sProp 𝕄 :=
  iprop((bigSep Finset.univ fun i : Fin 3 => dutyTok ER (barC c) 0 i)
    ∗ ((bigSep Finset.univ fun x : Fin 4 × Fin 4 × Fin 3 => dutyTok ER (xC c x.1 x.2.1 x.2.2) 0 0)
    ∗ (bigSep Finset.univ fun e : Fin 8 => dutyTok ER (pC c (par e)) (e.val / 2) 0)))

/-- The tokens of the duties device `c` pays. -/
def payT (c : Dev nD) : sProp 𝕄 :=
  iprop((bigSep Finset.univ fun i : Fin 3 => dutyTok ER (barC (dst c i)) 0 i)
    ∗ (bigSep Finset.univ fun x : Fin 4 × Fin 3 => iprop(tkx (F := F) c 0 1 x.1 x.2 ∗ tkx (F := F) c 2 3 x.1 x.2))
    ∗ (bigSep Finset.univ fun e : Fin 8 => dutyTok ER (pC c (par e)) (e.val / 2) 0))

def G (c : Dev nD) : sProp 𝕄 :=
  iprop((bigSep Finset.univ fun k : KC => roundState ER (Rd m) (cell c k) 0)
    ∗ (bigSep Finset.univ fun k : KC => iprop(atPos ER (cell c k) 0 ∅ 0 ∗ reached ER (cell c k) 0)) ∗ toks (F := F) c)

/-- Every cell's record. -/
def recs (K : Dev nD × KC → ℕ) : sProp 𝕄 :=
  bigSep Finset.univ fun ck : Dev nD × KC => iprop(cellInv ER (Rd m) (K ck) (cell ck.1 ck.2) ∗ reached ER (cell ck.1 ck.2) 0)
instance recs_pers (K : Dev nD × KC → ℕ) : BI.Persistent (recs m K) := by unfold recs; infer_instance

def poss (c : Dev nD) : sProp 𝕄 := bigSep Finset.univ fun k : KC => atPos ER (cell c k) 0 ∅ 0
def G' (c : Dev nD) : sProp 𝕄 := iprop(∃ K, recs m K ∗ poss (F := F) c ∗ payT (F := F) c)

theorem fund_all : BI.own (ER (initOf myCells myToks)) ⊢ (|==> bigSep Finset.univ (G m) : sProp 𝕄) := by
  have hX (Φ : GSem nD τ sig → sProp 𝕄) : bigSep myCells Φ = bigSep Finset.univ fun c : Dev nD => bigSep Finset.univ fun k : KC => Φ (cell c k) := by
    unfold myCells; rw [bigSep_map, bigSep_univ_prod]; rfl
  have hT : bigSep myToks (fun x => (dutyTok ER x.1 x.2.1 x.2.2 : sProp 𝕄)) = bigSep Finset.univ fun c : Dev nD => toks (F := F) c := by
    unfold myToks; rw [bigSep_map, bigSep_univ_prod]
    exact bigSep_congr fun c _ => by unfold toks; rw [bigSep_univ_sum, bigSep_univ_sum]; rfl
  iintro HX
  imod (Rounds.fund ER (Rd m) myCells myToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

theorem ownSems0_eq (c : Dev nD) : (Pipeline.ownSems0 (Ix := Unit) (Name := ℕ) (U := UU) (Lvl := ℕ) (Val := Elt F) (τ := τ) osem c : sProp 𝕄)
    = bigSep Finset.univ fun k : KO => semVal (cell c (some k)) 0 := rfl
theorem unscopedSems0_eq (c : Dev nD) : (unscopedSems0 c : sProp 𝕄) = semVal (barC c) 0 := by
  unfold unscopedSems0; rw [bigSep_eq_bigSepL_of_eq [SemLoc.reg barS] (by decide +kernel) (by decide +kernel)]; rfl

theorem bs_sum {A B : Type} [Fintype A] [Fintype B] (Φ : A ⊕ B → sProp 𝕄) :
    bigSep Finset.univ Φ = iprop(bigSep Finset.univ (fun a => Φ (.inl a)) ∗ bigSep Finset.univ (fun b => Φ (.inr b))) := bigSep_univ_sum Φ

theorem bigSep_KC (Φ : KC → sProp 𝕄) : bigSep Finset.univ Φ = iprop(Φ none ∗ bigSep Finset.univ fun k : KO => Φ (some k)) := by
  have h : (Finset.univ : Finset KC) = insert none (Finset.univ.map Function.Embedding.some) := Finset.ext fun x => by
    cases x <;> simp
  rw [h]
  exact (bigSep_insert (by simp)).trans (by rw [bigSep_map]; rfl)

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : KC => semVal (cell c k) 0 : sProp 𝕄) := by
  rw [ownSems0_eq, unscopedSems0_eq, bigSep_KC]
  iintro ⟨H1, H2⟩; isplitl [H2]; · iexact H2
  iexact H1

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : KC => iprop(∃ κ : ℕ, cellInv ER (Rd m) κ (cell c k)))
          ∗ (bigSep Finset.univ fun k : KC => iprop(atPos ER (cell c k) 0 ∅ 0 ∗ reached ER (cell c k) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : KC => semVal (cell c k) 0) ∗ bigSep Finset.univ fun k : KC => roundState ER (Rd m) (cell c k) 0)
      ⊢ (|={Set.univ}=> bigSep Finset.univ fun k : KC => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to those that pay -/

/-- A family over devices and indices, each index's row turned by its own permutation of the mesh. -/
theorem around {J : Type} [Fintype J] (σ : J → Dev nD ≃ Dev nD) (T : Dev nD → J → sProp 𝕄) :
    (bigSep Finset.univ fun c : Dev nD => bigSep Finset.univ fun j : J => T c j)
      = bigSep Finset.univ fun c : Dev nD => bigSep Finset.univ fun j : J => T (σ j c) j := by
  rw [bigSep_univ_comm, bigSep_congr (fun (j : J) _ => bigSep_univ_equiv (σ j) (fun c => T c j)), bigSep_univ_comm]

theorem bs4 (Φ : Fin 4 → sProp 𝕄) : bigSep Finset.univ Φ = iprop(Φ 0 ∗ Φ 1 ∗ Φ 2 ∗ Φ 3) := bigSep_univ_eq_bigSepL [0, 1, 2, 3] (by decide) (by decide) Φ

theorem toks_around : (bigSep Finset.univ fun c : Dev nD => (toks (F := F) c : sProp 𝕄)) ⊢ bigSep Finset.univ fun c : Dev nD => payT (F := F) c := by
  have hx (c : Dev nD) : (bigSep Finset.univ fun x : Fin 4 × Fin 4 × Fin 3 => (dutyTok ER (xC c x.1 x.2.1 x.2.2) 0 0 : sProp 𝕄))
      = iprop((bigSep Finset.univ fun x : Fin 4 × Fin 3 => dutyTok ER (xC c 0 x.1 x.2) 0 0)
        ∗ (bigSep Finset.univ fun x : Fin 4 × Fin 3 => dutyTok ER (xC c 1 x.1 x.2) 0 0)
        ∗ (bigSep Finset.univ fun x : Fin 4 × Fin 3 => dutyTok ER (xC c 2 x.1 x.2) 0 0)
        ∗ (bigSep Finset.univ fun x : Fin 4 × Fin 3 => dutyTok ER (xC c 3 x.1 x.2) 0 0)) := by
    rw [bigSep_univ_prod, bs4]
  unfold toks payT tkx
  simp only [hx, bigSep_sep']
  rw [around (fun i : Fin 3 => shift i) (fun c i => dutyTok ER (barC c) 0 i),
    around (fun x : Fin 4 × Fin 3 => shift x.2) (fun c x => dutyTok ER (xC c 1 x.1 x.2) 0 0),
    around (fun x : Fin 4 × Fin 3 => shift x.2) (fun c x => dutyTok ER (xC c 3 x.1 x.2) 0 0)]
  iintro ⟨HB, ⟨H0, H1, H2, H3⟩, HP⟩
  isplitl [HB]; · iexact HB
  isplitr [HP]
  · isplitl [H0 H1]
    · isplitl [H0]; · iexact H0
      iexact H1
    · isplitl [H2]; · iexact H2
      iexact H3
  · iexact HP

theorem with_pers {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : KC => iprop(∃ κ : ℕ, cellInv ER (Rd m) κ (cell c k)))
          ∗ (bigSep Finset.univ fun k : KC => iprop(atPos ER (cell c k) 0 ∅ 0 ∗ reached ER (cell c k) 0)) ∗ toks (F := F) c) : sProp 𝕄)
      ⊢ bigSep Finset.univ (G' m) := by
  rw [bigSep_sep', bigSep_sep', ← bigSep_univ_prod (fun ck : Dev nD × KC => iprop(∃ κ : ℕ, cellInv ER (Rd m) κ (cell ck.1 ck.2))),
    bigSep_congr (s := Finset.univ) (fun (c : Dev nD) _ => bigSep_sep' Finset.univ (fun k : KC => (atPos ER (cell c k) 0 ∅ 0 : sProp 𝕄)) (fun k => reached ER (cell c k) 0)),
    bigSep_sep', ← bigSep_univ_prod (fun ck : Dev nD × KC => (reached ER (cell ck.1 ck.2) 0 : sProp 𝕄))]
  iintro ⟨HI, ⟨Hat, #HR⟩, Htok⟩
  ihave HK := (BI.bigSep_exists_pi Finset.univ (fun (ck : Dev nD × KC) (κ : ℕ) => (cellInv ER (Rd m) κ (cell ck.1 ck.2) : sProp 𝕄))) $$ HI
  icases HK with ⟨%K, #HI⟩
  ihave Htk := (toks_around (F := F)) $$ Htok
  iapply (with_pers (R := recs m K) (Φ := fun c => iprop(poss (F := F) c ∗ payT (F := F) c)) (Ψ := G' m) fun c _ => by
    unfold G'; iintro ⟨#H1, H2⟩; iexists K; isplitr; · iexact H1
    iexact H2)
  isplitr
  · unfold recs; rw [bigSep_sep']; isplitl; · iexact HI
    iexact HR
  · rw [bigSep_sep']
    isplitl [Hat]; · unfold poss; iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

/-- How often devices owe at a cell: a signal, or a transfer. -/
def cnt (g : GSem nD τ sig) (b : Bool) : ℕ := ∑ d : Dev nD, ∑ j ∈ Finset.Ico 0 27, if dueC d j = g ∧ decide (j < 3) = b then 1 else 0

theorem owed_cnt (g : GSem nD τ sig) : ∑ d : Dev nD, O d 0 g () = cnt g true + cnt g false * NX := by
  unfold cnt
  rw [Finset.sum_mul, ← Finset.sum_add_distrib]
  refine Finset.sum_congr rfl fun d _ => ?_
  unfold O
  rw [Finset.sum_apply, Finsupp.finset_sum_apply, Finset.sum_mul, ← Finset.sum_add_distrib]
  refine Finset.sum_congr rfl fun j _ => ?_
  rw [tallyAt_apply]
  unfold dueN
  by_cases h : dueC d j = g
  · rw [if_pos ⟨h.symm, rfl⟩]
    by_cases h3 : j < 3
    · simp [h, h3]
    · simp [h, h3]
  · rw [if_neg (fun h' => h h'.1.symm), if_neg (fun h' => h h'.1), if_neg (fun h' => h h'.1), zero_mul, Nat.add_zero]

theorem cnt_bar : ∀ c : Dev nD, cnt (barC c) true = 3 ∧ cnt (barC c) false = 0 := by decide +kernel
theorem cnt_rs : ∀ (c : Dev nD) (q : Fin 4) (k : Fin 3), cnt (xC c 1 q k) true = 0 ∧ cnt (xC c 1 q k) false = 1 := by decide +kernel
theorem cnt_ag : ∀ (c : Dev nD) (q : Fin 4) (k : Fin 3), cnt (xC c 3 q k) true = 0 ∧ cnt (xC c 3 q k) false = 1 := by decide +kernel

theorem launch_at (g : GSem nD τ sig) (n : ℕ) (h : cnt g true + cnt g false * NX = n) :
    tallyOn g (launchCredit (Pipeline.owing fun c => O c 0) 0 g) = (tallyAt g () n : CellTallies nD τ sig Unit) := by
  unfold tallyAt; refine congrArg _ (Finsupp.ext fun u => ?_); cases u
  rw [Pipeline.launchCredit_owing, Finsupp.single_eq_same, owed_cnt, h]

theorem csem_injective : Function.Injective csem := fun a b h => by
  have := congrArg decode h
  rw [decode_csem, decode_csem] at this
  exact Option.some.inj this

/-- A device's launch credit: three signals at its barrier, a transfer at each of its receive cells. -/
theorem creds (c : Dev nD) :
    (Pipeline.launchCred (fun c => O c 0) c : sProp 𝕄) ⊢ iprop(cred (tallyAt (barC c) () 3)
      ∗ (bigSep Finset.univ fun x : Fin 4 × Fin 3 => crx (F := F) c 1 x.1 x.2) ∗ (bigSep Finset.univ fun x : Fin 4 × Fin 3 => crx (F := F) c 3 x.1 x.2)) := by
  have hbar := launch_at (barC c) 3 (by rw [(cnt_bar c).1, (cnt_bar c).2, zero_mul, Nat.add_zero])
  have hrs (q : Fin 4) (k : Fin 3) := launch_at (xC c 1 q k) NX (by rw [(cnt_rs c q k).1, (cnt_rs c q k).2]; omega)
  have hag (q : Fin 4) (k : Fin 3) := launch_at (xC c 3 q k) NX (by rw [(cnt_ag c q k).1, (cnt_ag c q k).2]; omega)
  unfold Pipeline.launchCred
  refine (bigSep_subset (t := Finset.univ.map ⟨csem, csem_injective⟩) (Finset.subset_univ _)).trans ?_
  rw [bigSep_map, bigSep_KC, bs_sum, bigSep_univ_prod (α := Fin 4) (β := Fin 4 × Fin 3), bs4]
  let CR (g : GSem nD τ sig) : sProp 𝕄 := cred (tallyOn g (launchCredit (Pipeline.owing fun c => O c 0) 0 g))
  show (iprop(CR (barC c) ∗ ((bigSep Finset.univ fun x : Fin 4 × Fin 3 => CR (xC c 0 x.1 x.2)) ∗ (bigSep Finset.univ fun x : Fin 4 × Fin 3 => CR (xC c 1 x.1 x.2))
    ∗ (bigSep Finset.univ fun x : Fin 4 × Fin 3 => CR (xC c 2 x.1 x.2)) ∗ (bigSep Finset.univ fun x : Fin 4 × Fin 3 => CR (xC c 3 x.1 x.2)))
    ∗ bigSep Finset.univ fun p : Fin 2 => CR (pC c p)) : sProp 𝕄) ⊢ _
  iintro ⟨HB, ⟨-, H1, -, H3⟩, -⟩
  isplitl [HB]; · iapply (show CR (barC c) ⊢ (cred (tallyAt (barC c) () 3) : sProp 𝕄) from Entails.of_eq (congrArg (fun x => (cred x : sProp 𝕄)) hbar)) $$ HB
  isplitl [H1]
  · iapply (show (bigSep Finset.univ fun x : Fin 4 × Fin 3 => CR (xC c 1 x.1 x.2)) ⊢ (bigSep Finset.univ fun x : Fin 4 × Fin 3 => crx (F := F) c 1 x.1 x.2 : sProp 𝕄) from
      bigSep_mono fun x _ => Entails.of_eq (congrArg (fun x => (cred x : sProp 𝕄)) (hrs x.1 x.2))) $$ H1
  · iapply (show (bigSep Finset.univ fun x : Fin 4 × Fin 3 => CR (xC c 3 x.1 x.2)) ⊢ (bigSep Finset.univ fun x : Fin 4 × Fin 3 => crx (F := F) c 3 x.1 x.2 : sProp 𝕄) from
      bigSep_mono fun x _ => Entails.of_eq (congrArg (fun x => (cred x : sProp 𝕄)) (hag x.1 x.2))) $$ H3

/-! ## The pipeline's own waits -/

theorem no_le : ∀ t : Fin 33, no t.val < 27 ∨ t.val = 32 := by decide
theorem stage_lv : ∀ (w : Fin 4) (s : Fin (spec0 w).nbuf), decode (.dma ((spec0 w).sem s)) = none := by decide +kernel

theorem waits (c : Dev nD) : (levAts L lv : sProp 𝕄) ⊢ Pipeline.RDat.cellsWaits cfgs (rdats m) () 0 c :=
  Pipeline.RDat.cellsWaits_intro cfgs (rdats m) () 0 c fun w s t => by
    show (levAts L lv : sProp 𝕄) ⊢ MayWait (c : Thread nD τ) (.dma ((spec0 w).sem s)) () (O c (no t.val))
    have ht : t.val < 33 := t.isLt
    rcases no_le ⟨t.val, ht⟩ with h | h
    · exact mayWait c _ _ 0 (by unfold lv; rw [stage_lv w s]) (by omega)
    · rw [show no t.val = 27 from by rw [show t.val = 32 from h]; rfl]; exact mayWait_done c _

end Cert.MoE
-- ==== Proof.Cut.lean ====
/-
# Cutting the buffers
-/
module

public import proofs.«01_k».proof.Proof.Ghost

@[expose] public section

noncomputable section

namespace Cert.MoE

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The slices' rectangles: disjoint, and covering -/

theorem R4_disj : ∀ t t' : Fin 4 × Fin 3, t ≠ t' → Disjoint (R4 t.1 t.2).set (R4 t'.1 t'.2).set := by
  rintro ⟨q, k⟩ ⟨q', k'⟩ h
  rw [Finset.disjoint_left]
  intro i h1 h2
  rw [Rect.mem_set_unit] at h1 h2
  have a0 := h1 0; have a1 := h1 1; have b0 := h2 0; have b1 := h2 1
  simp at a0 a1 b0 b1
  exact h (Prod.ext (Fin.ext (by show q.val = q'.val; omega)) (Fin.ext (by show k.val = k'.val; omega)))

theorem R4_cov : (Finset.univ : Finset (Fin 4 × Fin 3)).biUnion (fun t => (R4 t.1 t.2).set) = Finset.univ := by
  refine Finset.eq_univ_iff_forall.mpr fun i => Finset.mem_biUnion.mpr ⟨((i 0 : Fin 4), (i 1 : Fin 3)), Finset.mem_univ _, ?_⟩
  rw [Rect.mem_set_unit]
  intro a
  have := (i a).isLt
  fin_cases a <;> simp <;> simp at this <;> omega

theorem R3_disj : ∀ t t' : Fin 4, t ≠ t' → Disjoint (R3 t).set (R3 t').set := by
  intro q q' h
  rw [Finset.disjoint_left]
  intro i h1 h2
  rw [Rect.mem_set_unit] at h1 h2
  have a0 := h1 0; have b0 := h2 0
  simp at a0 b0
  exact h (Fin.ext (by omega))

theorem R3_cov : (Finset.univ : Finset (Fin 4)).biUnion (fun t => (R3 t).set) = Finset.univ := by
  refine Finset.eq_univ_iff_forall.mpr fun i => Finset.mem_biUnion.mpr ⟨(i 0 : Fin 4), Finset.mem_univ _, ?_⟩
  rw [Rect.mem_set_unit]
  intro a
  have := (i a).isLt
  fin_cases a <;> simp <;> simp at this <;> omega

theorem RE_disj : ∀ t t' : Fin 8, t ≠ t' → Disjoint (RE t).set (RE t').set := by
  intro q q' h
  rw [Finset.disjoint_left]
  intro i h1 h2
  rw [Rect.mem_set_unit] at h1 h2
  have a0 := h1 0; have b0 := h2 0
  simp at a0 b0
  exact h (Fin.ext (by omega))

theorem RE_cov : (Finset.univ : Finset (Fin 8)).biUnion (fun t => (RE t).set) = Finset.univ := by
  refine Finset.eq_univ_iff_forall.mpr fun i => Finset.mem_biUnion.mpr ⟨(i 0 : Fin 8), Finset.mem_univ _, ?_⟩
  rw [Rect.mem_set_unit]
  intro a
  have := (i a).isLt
  fin_cases a <;> simp <;> simp at this <;> omega

theorem RP_disj : ∀ t t' : Fin 2, t ≠ t' → Disjoint (RP t).set (RP t').set := by
  intro q q' h
  rw [Finset.disjoint_left]
  intro i h1 h2
  rw [Rect.mem_set_unit] at h1 h2
  have a0 := h1 0; have b0 := h2 0
  simp at a0 b0
  exact h (Fin.ext (by omega))

theorem RP_cov : (Finset.univ : Finset (Fin 2)).biUnion (fun t => (RP t).set) = Finset.univ := by
  refine Finset.eq_univ_iff_forall.mpr fun i => Finset.mem_biUnion.mpr ⟨(i 0 : Fin 2), Finset.mem_univ _, ?_⟩
  rw [Rect.mem_set_unit]
  intro a
  have := (i a).isLt
  fin_cases a <;> simp <;> simp at this <;> omega

theorem RQ_disj : ∀ t t' : Fin 4, t ≠ t' → Disjoint (RQ t).set (RQ t').set := by
  intro q q' h
  rw [Finset.disjoint_left]
  intro i h1 h2
  rw [Rect.mem_set_unit] at h1 h2
  have a0 := h1 0; have b0 := h2 0
  simp at a0 b0
  exact h (Fin.ext (by omega))

theorem RQ_cov : (Finset.univ : Finset (Fin 4)).biUnion (fun t => (RQ t).set) = Finset.univ := by
  refine Finset.eq_univ_iff_forall.mpr fun i => Finset.mem_biUnion.mpr
    ⟨⟨(i 0).val / 512, by have h : (i 0).val < 2048 := (i 0).isLt; omega⟩, Finset.mem_univ _, ?_⟩
  rw [Rect.mem_set_unit]
  intro a
  have := (i a).isLt
  fin_cases a <;> simp <;> simp at this <;> omega

/-! ## Cutting the scratch buffers and gluing them back -/

section Cut
variable (c : Dev nD) {sp : Space} {sh : Shape} {e : EltTy} (M : Memref sig .tc sp sh e)
variable {T : Type} [Fintype T] [DecidableEq T] (r : T → Rect sh) (hr : ∀ t a, (r t).stride a = 1)
  (hd : ∀ t t', t ≠ t' → Disjoint (r t).set (r t').set)
  (hcov : (Finset.univ : Finset T).biUnion (fun t => (r t).set) = Finset.univ)

include hd hcov
theorem cut_any : iprop(∃ X, owns (c : Thread nD τ) M fullShare X)
    ⊢ (bigSep Finset.univ fun t => iprop(∃ X, owns (c : Thread nD τ) (M.slice (r t) (hr t)) fullShare X) : sProp 𝕄) := by
  iintro ⟨%X, H⟩
  iapply (show (owns (c : Thread nD τ) M fullShare X : sProp 𝕄) ⊢ bigSep Finset.univ fun t => iprop(∃ X, owns (c : Thread nD τ) (M.slice (r t) (hr t)) fullShare X) from
    (owns_rects (c : Thread nD τ) M fullShare r hr hd hcov X).trans (bigSep_mono fun t _ =>
      (show (owns (c : Thread nD τ) (M.slice (r t) (hr t)) fullShare (fun j => X ((r t).emb j)) : sProp 𝕄) ⊢ iprop(∃ X, owns (c : Thread nD τ) (M.slice (r t) (hr t)) fullShare X) by
        iintro H; iexists _; iexact H)))
  iexact H

theorem glue_any : (bigSep Finset.univ fun t => iprop(∃ X, owns (c : Thread nD τ) (M.slice (r t) (hr t)) fullShare X) : sProp 𝕄)
    ⊢ iprop(∃ X, owns (c : Thread nD τ) M fullShare X) := by
  refine (bigSep_mono fun t _ => (ownsSat_true (c : Thread nD τ) (M.slice (r t) (hr t)) fullShare).2).trans ?_
  refine (ownsSat_of_rects (c : Thread nD τ) M fullShare r hr hd hcov fun _ _ => True).trans ?_
  refine (ownsSat_elim _ _ _ _).trans ?_
  iintro ⟨%X, -, H⟩; iexists X; iexact H

end Cut

theorem whole_any (c : Dev nD) (b : Ref sig .tc) : iprop(∃ f : Buf (Elt F) ((c : Thread nD τ).loc b), ((c : Thread nD τ).loc b) ↦{fullShare} f)
    ⊢ (iprop(∃ X, owns (c : Thread nD τ) (Memref.whole b) fullShare X) : sProp 𝕄) := by
  iintro ⟨%f, H⟩; iexists f
  ihave H := (Entails.of_eq (owns_whole (Ix := Unit) (Name := ℕ) (U := UU) (Lvl := ℕ) (c : Thread nD τ) b fullShare f).symm) $$ H
  iexact H
theorem any_whole (c : Dev nD) (b : Ref sig .tc) : (iprop(∃ X, owns (c : Thread nD τ) (Memref.whole b) fullShare X) : sProp 𝕄)
    ⊢ iprop(∃ f : Buf (Elt F) ((c : Thread nD τ).loc b), ((c : Thread nD τ).loc b) ↦{fullShare} f) := by
  iintro ⟨%f, H⟩; iexists f
  ihave H := (Entails.of_eq (owns_whole (Ix := Unit) (Name := ℕ) (U := UU) (Lvl := ℕ) (c : Thread nD τ) b fullShare f)) $$ H
  iexact H

end Cert.MoE
-- ==== Proof.Run.lean ====
/-
# The run
-/
module

public import proofs.«01_k».proof.Proof.Cut
public import Idealize.ShloMosaic.Lib.Pipeline.ArrRel
public import Idealize.ShloMosaic.Lib.Pipeline.ValueKit.Geometry
public import Idealize.ShloMosaic.Lib.Pipeline.CollectiveSegs

@[expose] public section

noncomputable section

namespace Cert.MoE

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Before the first point -/

/-- Over quarters and peers, the conjunction of what each pair has. -/
theorem bs_pairs (Φ : Fin 4 → Fin 3 → sProp 𝕄) :
    (bigSep Finset.univ fun x : Fin 4 × Fin 3 => Φ x.1 x.2) = bigSep Finset.univ fun q => iprop(Φ q 0 ∗ Φ q 1 ∗ Φ q 2) := by
  rw [bigSep_univ_prod]
  exact bigSep_congr fun q _ => bs3 (Φ q)
theorem bs2 (Φ : Fin 2 → sProp 𝕄) : bigSep Finset.univ Φ = iprop(Φ 0 ∗ Φ 1) := bigSep_univ_eq_bigSepL [0, 1] (by decide) (by decide) Φ

/-- The landing slots, for each peer, off the slots one by one. -/
theorem landing_all (c : Dev nD) :
    iprop((bigSep Finset.univ fun x : Fin 4 × Fin 3 => anyRsR (F := F) c x.1 x.2) ∗ bigSep Finset.univ fun x : Fin 4 × Fin 3 => anyAgR (F := F) c x.1 x.2)
      = (bigSep Finset.univ fun k : Fin 3 => landing (F := F) c k : sProp 𝕄) := by
  rw [← bigSep_sep', bigSep_univ_prod (Φ := fun x : Fin 4 × Fin 3 => iprop(anyRsR (F := F) c x.1 x.2 ∗ anyAgR (F := F) c x.1 x.2)), bigSep_univ_comm]
  rfl

theorem Cs_first (c : Dev nD) :
    Cs (F := F) c (fun _ => 0) = iprop((bigSep Finset.univ fun q => anyAgS (F := F) c q) ∗ bigSep Finset.univ fun x : Fin 4 × Fin 3 => I0 (F := F) c x.1 x.2) := by
  rw [bs_pairs (fun q k => I0 (F := F) c q k), ← bigSep_sep']; rfl
theorem Cs_final (c : Dev nD) :
    Cs (F := F) c (fun _ => 4) = iprop((bigSep Finset.univ fun q => anyAgS (F := F) c q) ∗ bigSep Finset.univ fun x : Fin 4 × Fin 3 => I4 (F := F) c x.1 x.2) := by
  rw [bs_pairs (fun q k => I4 (F := F) c q k), ← bigSep_sep']; rfl

theorem poss_eq (c : Dev nD) :
    poss (F := F) c = iprop(atPos ER (barC c) 0 ∅ 0
      ∗ ((bigSep Finset.univ fun x : Fin 4 × Fin 3 => posx (F := F) c 0 x.1 x.2) ∗ (bigSep Finset.univ fun x : Fin 4 × Fin 3 => posx (F := F) c 1 x.1 x.2)
        ∗ (bigSep Finset.univ fun x : Fin 4 × Fin 3 => posx (F := F) c 2 x.1 x.2) ∗ (bigSep Finset.univ fun x : Fin 4 × Fin 3 => posx (F := F) c 3 x.1 x.2))
      ∗ bigSep Finset.univ fun p : Fin 2 => atPos ER (pC c p) 0 ∅ 0) := by
  unfold poss
  rw [bigSep_KC, bs_sum, bigSep_univ_prod (α := Fin 4) (β := Fin 4 × Fin 3), bs4]
  rfl

/-- What a device starts with, its scratch buffers apart. -/
def X₀ (c : Dev nD) : sProp 𝕄 :=
  iprop((∃ K, ctx m K) ∗ poss (F := F) c ∗ payT (F := F) c
    ∗ (cred (tallyAt (barC c) () 3) ∗ (bigSep Finset.univ fun x : Fin 4 × Fin 3 => crx (F := F) c 1 x.1 x.2) ∗ bigSep Finset.univ fun x : Fin 4 × Fin 3 => crx (F := F) c 3 x.1 x.2)
    ∗ (((c : Thread nD τ).loc main_arg3) ↦{fullShare.right} m ((c : Thread nD τ).loc main_arg3)))

/-- What it keeps aside: half of the weights' array. -/
def Z₀ (c : Dev nD) : sProp 𝕄 := iprop(((c : Thread nD τ).loc main_arg3) ↦{fullShare.left} m ((c : Thread nD τ).loc main_arg3))

variable (g : Dev nD → PrngReg)

theorem start_intro (c : Dev nD) :
    iprop(Pipeline.unscopedRestP Pipeline.Prefetch.none cfg0.spec c (fun b => m ((c : Thread nD τ).loc b)) ∗ levAts L lv
        ∗ Pipeline.launchCred (fun c => O c 0) c ∗ prngReg c (g c) ∗ G' m c)
      ⊢ |={Set.univ}=> iprop(X₀ m c ∗ Z₀ m c) := by
  rw [Pipeline.unscopedRestP_none]
  iintro ⟨Hr, Hlev, Hcr, -, HG⟩
  ihave Hr := (Entails.of_eq (show (Pipeline.unscopedRest (Ix := Unit) (Name := ℕ) (U := UU) (Lvl := ℕ) cfg0.spec c (fun b => m ((c : Thread nD τ).loc b)) : sProp 𝕄) = _ from
    unscopedRest0_eq c _)) $$ Hr
  ihave Hr := ((show ((((c : Thread nD τ).loc main_arg3) ↦{fullShare} m ((c : Thread nD τ).loc main_arg3)) : sProp 𝕄)
      ⊢ iprop((((c : Thread nD τ).loc main_arg3) ↦{fullShare.left} m ((c : Thread nD τ).loc main_arg3)) ∗ (((c : Thread nD τ).loc main_arg3) ↦{fullShare.right} m ((c : Thread nD τ).loc main_arg3)))
    from (pointsTo_share (PosShare.mem_left_op_right fullShare)).1)) $$ Hr
  icases Hr with ⟨Hl, Hr⟩
  ihave Hc := (creds (F := F) c) $$ Hcr
  ihave HG := (show G' m c ⊢ iprop(∃ K, recs m K ∗ poss (F := F) c ∗ payT (F := F) c) from .rfl) $$ HG
  icases HG with ⟨%K, #HR, Hp, Ht⟩
  imodintro
  unfold X₀ Z₀
  isplitr [Hl]
  · isplitl [Hlev]
    · iexists K
      iapply (show iprop(recs m K ∗ levAts L lv) ⊢ ctx m K from by unfold ctx; exact intuitionistic_alias)
      isplitr; · iexact HR
      iexact Hlev
    isplitl [Hp]; · iexact Hp
    isplitl [Ht]; · iexact Ht
    isplitl [Hc]; · iexact Hc
    iexact Hr
  · iexact Hl

theorem wraw_all (c : Dev nD) :
    ((((c : Thread nD τ).loc main_arg3) ↦{fullShare.right} m ((c : Thread nD τ).loc main_arg3)) : sProp 𝕄)
      ⊢ bigSep Finset.univ fun e => owns (c : Thread nD τ) (wE e) fullShare.right (wraw m c e) := by
  rw [show ((((c : Thread nD τ).loc main_arg3) ↦{fullShare.right} m ((c : Thread nD τ).loc main_arg3)) : sProp 𝕄)
    = owns (c : Thread nD τ) wM fullShare.right (m ((c : Thread nD τ).loc main_arg3)) from (owns_whole _ _ _ _).symm]
  exact owns_rects (c : Thread nD τ) wM fullShare.right RE (fun _ _ => rfl) RE_disj RE_cov _

theorem wf_0 : wf 0 = fun _ => 0 := by decide +kernel
theorem wg_0 : wg 0 = fun _ => (0, true) := by decide +kernel
theorem fa_0 : fa 0 = fun _ => 0 := by decide +kernel
theorem fc_0 : fc 0 = fun _ => 0 := by decide +kernel
theorem wg_32 : wg 32 = fun _ => (4, true) := by decide +kernel
theorem wf_32 : wf 32 = fun _ => 2 := by decide +kernel
theorem fa_32 : fa 32 = fun _ => 8 := by decide +kernel
theorem fc_32 : fc 32 = fun _ => 4 := by decide +kernel

theorem Ws_first (c : Dev nD) (K : Dev nD × KC → ℕ) :
    iprop(ctx m K ∗ (bigSep Finset.univ fun e : Fin 8 => (dutyTok ER (pC c (par e)) (e.val / 2) 0 : sProp 𝕄))
        ∗ (bigSep Finset.univ fun e => owns (c : Thread nD τ) (wE e) fullShare.right (wraw m c e))
        ∗ (bigSep Finset.univ fun e => iprop(∃ X, owns (c : Thread nD τ) (ewE e) fullShare X))
        ∗ (bigSep Finset.univ fun p : Fin 2 => atPos ER (pC c p) 0 ∅ 0)
        ∗ bigSep Finset.univ fun p => iprop(∃ X, owns (c : Thread nD τ) (stg p) fullShare X))
      ⊢ Ws m c (fun _ => 0) (fun _ => (0, true)) := by
  unfold Ws
  rw [show (bigSep Finset.univ fun e : Fin 8 => Wi m c e 0) = iprop((bigSep Finset.univ fun e : Fin 8 => (dutyTok ER (pC c (par e)) (e.val / 2) 0 : sProp 𝕄))
        ∗ (bigSep Finset.univ fun e => owns (c : Thread nD τ) (wE e) fullShare.right (wraw m c e))
        ∗ (bigSep Finset.univ fun e => iprop(∃ X, owns (c : Thread nD τ) (ewE e) fullShare X))) from by
      rw [← bigSep_sep', ← bigSep_sep']; rfl,
    bs2 (fun p => Si (F := F) c p (0, true)), bs2, bs2]
  iintro ⟨#Hc, H1, H2, H3, ⟨Ha, Hb⟩, ⟨Sa, Sb⟩⟩
  ihave Ia := (ctx_cell m K c (some (.inr 0))) $$ Hc
  ihave Ib := (ctx_cell m K c (some (.inr 1))) $$ Hc
  icases Ia with ⟨-, Ra⟩
  icases Ib with ⟨-, Rb⟩
  isplitl [H1 H2 H3]
  · isplitl [H1]; · iexact H1
    isplitl [H2]; · iexact H2
    iexact H3
  isplitl [Ha Ra Sa]
  · iapply (show iprop((atPos ER (pC c 0) 0 ∅ 0 ∗ reached ER (pC c 0) 0) ∗ ∃ Y, owns (c : Thread nD τ) (stg 0) fullShare Y) ⊢ Si (F := F) c 0 (0, true) from .rfl)
    isplitl [Ha Ra]
    · isplitl [Ha]; · iexact Ha
      iexact Ra
    · iexact Sa
  · iapply (show iprop((atPos ER (pC c 1) 0 ∅ 0 ∗ reached ER (pC c 1) 0) ∗ ∃ Y, owns (c : Thread nD τ) (stg 1) fullShare Y) ⊢ Si (F := F) c 1 (0, true) from .rfl)
    isplitl [Hb Rb]
    · isplitl [Hb]; · iexact Hb
      iexact Rb
    · iexact Sb

theorem As_first (c : Dev nD) : (bigSep Finset.univ fun q => iprop(∃ X, owns (c : Thread nD τ) (accQ q) fullShare X)) ⊢ As m c (fun _ => 0) := by
  unfold As
  exact bigSep_mono fun q _ => (show iprop(∃ X, owns (c : Thread nD τ) (accQ q) fullShare X) ⊢ Aq m c q 0 by
    unfold Aq; iintro ⟨%X, H⟩; iexists X; isplitr
    · ipureintro; exact fun h => absurd rfl h
    · iexact H)

theorem I0_all (c : Dev nD) :
    (bigSep Finset.univ fun x : Fin 4 × Fin 3 => I0 (F := F) c x.1 x.2)
      = iprop((bigSep Finset.univ fun x : Fin 4 × Fin 3 => anyRsS (F := F) c x.1 x.2) ∗ (bigSep Finset.univ fun x : Fin 4 × Fin 3 => tkx (F := F) c 0 1 x.1 x.2)
        ∗ (bigSep Finset.univ fun x : Fin 4 × Fin 3 => tkx (F := F) c 2 3 x.1 x.2) ∗ (bigSep Finset.univ fun x : Fin 4 × Fin 3 => posx (F := F) c 0 x.1 x.2)
        ∗ (bigSep Finset.univ fun x : Fin 4 × Fin 3 => posx (F := F) c 1 x.1 x.2) ∗ (bigSep Finset.univ fun x : Fin 4 × Fin 3 => posx (F := F) c 2 x.1 x.2)
        ∗ (bigSep Finset.univ fun x : Fin 4 × Fin 3 => posx (F := F) c 3 x.1 x.2) ∗ (bigSep Finset.univ fun x : Fin 4 × Fin 3 => crx (F := F) c 1 x.1 x.2)
        ∗ bigSep Finset.univ fun x : Fin 4 × Fin 3 => crx (F := F) c 3 x.1 x.2) := by
  simp only [← bigSep_sep']; rfl
theorem I4_all (c : Dev nD) :
    (bigSep Finset.univ fun x : Fin 4 × Fin 3 => I4 (F := F) c x.1 x.2)
      = iprop((bigSep Finset.univ fun x : Fin 4 × Fin 3 => anyRsS (F := F) c x.1 x.2) ∗ (bigSep Finset.univ fun x : Fin 4 × Fin 3 => anyRsR (F := F) c x.1 x.2)
        ∗ (bigSep Finset.univ fun x : Fin 4 × Fin 3 => anyAgR (F := F) c x.1 x.2) ∗ (bigSep Finset.univ fun x : Fin 4 × Fin 3 => zx (F := F) c 0 x.1 x.2)
        ∗ (bigSep Finset.univ fun x : Fin 4 × Fin 3 => zx (F := F) c 1 x.1 x.2) ∗ (bigSep Finset.univ fun x : Fin 4 × Fin 3 => zx (F := F) c 2 x.1 x.2)
        ∗ bigSep Finset.univ fun x : Fin 4 × Fin 3 => zx (F := F) c 3 x.1 x.2) := by
  simp only [← bigSep_sep']; rfl

theorem xt_0 : xt 0 = none := rfl

set_option maxHeartbeats 1600000 in
theorem phi0_intro (c : Dev nD) :
    iprop(X₀ m c ∗ Pipeline.prefHeld Pipeline.Prefetch.none c (fun _ => fullShare.right) (fun k => k.elim0) ∗ Pipeline.scopedRest cfg0.spec c)
      ⊢ (rdats m 0 c).Φ 0 := by
  rw [show (rdats m 0 c).Φ 0 = Ph m c 0 from rfl, show Pipeline.scopedRest cfg0.spec c = _ from scopedRest0_eq (Ix := Unit) (Name := ℕ) (U := UU) (Lvl := ℕ) (Val := Elt F) c]
  unfold Ph X₀ payT Gs
  rw [poss_eq, wf_0, wg_0, fa_0, fc_0, Cs_first, I0_all, bigSep_sep' _ (fun x : Fin 4 × Fin 3 => tkx (F := F) c 0 1 x.1 x.2)]
  iintro ⟨⟨⟨%K, #Hc⟩, ⟨Pb, ⟨P0, P1, P2, P3⟩, Pp⟩, ⟨Tb, ⟨T0, T2⟩, Tp⟩, ⟨Cb, C1, C3⟩, Hw⟩, -, ⟨B0, B1, B2, B3, B4, B5, B7, B8, B9, B10⟩⟩
  ihave Hw := (wraw_all m c) $$ Hw
  ihave B0 := (whole_any c cc0_scratch0) $$ B0
  ihave B1 := (whole_any c cc0_scratch1) $$ B1
  ihave B2 := (whole_any c cc0_scratch2) $$ B2
  ihave B3 := ((whole_any c cc0_scratch3).trans (cut_any c accM RQ (fun _ _ => rfl) RQ_disj RQ_cov)) $$ B3
  ihave B4 := ((whole_any c cc0_scratch4).trans (cut_any c stgM RP (fun _ _ => rfl) RP_disj RP_cov)) $$ B4
  ihave B5 := ((whole_any c cc0_scratch5).trans (cut_any c ewM RE (fun _ _ => rfl) RE_disj RE_cov)) $$ B5
  ihave B7 := ((whole_any c cc0_scratch7).trans (cut_any c rsSM (fun t : Fin 4 × Fin 3 => R4 t.1 t.2) (fun _ _ => rfl) R4_disj R4_cov)) $$ B7
  ihave B8 := ((whole_any c cc0_scratch8).trans (cut_any c rsRM (fun t : Fin 4 × Fin 3 => R4 t.1 t.2) (fun _ _ => rfl) R4_disj R4_cov)) $$ B8
  ihave B9 := ((whole_any c cc0_scratch9).trans (cut_any c agSM R3 (fun _ _ => rfl) R3_disj R3_cov)) $$ B9
  ihave B10 := ((whole_any c cc0_scratch10).trans (cut_any c agRM (fun t : Fin 4 × Fin 3 => R4 t.1 t.2) (fun _ _ => rfl) R4_disj R4_cov)) $$ B10
  isplitr; · iexists K; iexact Hc
  isplitl [Tp Hw B5 Pp B4]
  · iapply (Ws_first m c K)
    isplitr; · iexact Hc
    isplitl [Tp]; · iexact Tp
    isplitl [Hw]; · iexact Hw
    isplitl [B5]; · iexact B5
    isplitl [Pp]; · iexact Pp
    iexact B4
  isplitl [B0 B1 B2]
  · unfold Xs
    icases B0 with ⟨%X, B0⟩
    icases B1 with ⟨%Y, B1⟩
    icases B2 with ⟨%Y', B2⟩
    iexists X; iexists Y; iexists Y'
    isplitr; · ipureintro; exact fun _ h => nomatch h
    isplitl [B0]; · iexact B0
    isplitl [B1]; · iexact B1
    iexact B2
  isplitl [B3]; · iapply (As_first m c) $$ B3
  isplitl [B9 B7 T0 T2 P0 P1 P2 P3 C1 C3]
  · isplitl [B9]; · iexact B9
    isplitl [B7]; · iexact B7
    isplitl [T0]; · iexact T0
    isplitl [T2]; · iexact T2
    isplitl [P0]; · iexact P0
    isplitl [P1]; · iexact P1
    isplitl [P2]; · iexact P2
    isplitl [P3]; · iexact P3
    isplitl [C1]; · iexact C1
    iexact C3
  iapply (show iprop((bigSep Finset.univ fun i : Fin 3 => dutyTok ER (barC (dst c i)) 0 i) ∗ atPos ER (barC c) 0 ∅ 0 ∗ cred (tallyAt (barC c) () 3)
      ∗ bigSep Finset.univ fun k : Fin 3 => landing (F := F) c k) ⊢ Br (F := F) c (decide (8 ≤ 0)) from .rfl)
  isplitl [Tb]; · iexact Tb
  isplitl [Pb]; · iexact Pb
  isplitl [Cb]; · iexact Cb
  iapply (show iprop((bigSep Finset.univ fun x : Fin 4 × Fin 3 => anyRsR (F := F) c x.1 x.2) ∗ bigSep Finset.univ fun x : Fin 4 × Fin 3 => anyAgR (F := F) c x.1 x.2)
      ⊢ (bigSep Finset.univ fun k : Fin 3 => landing (F := F) c k : sProp 𝕄) from Entails.of_eq (landing_all c))
  isplitl [B8]; · iexact B8
  iexact B10

/-! ## After the last point -/

theorem Ws_last (c : Dev nD) :
    Ws m c (fun _ => 2) (fun _ => (4, true))
      ⊢ iprop((bigSep Finset.univ fun e => iprop(∃ X, owns (c : Thread nD τ) (ewE e) fullShare X))
        ∗ (bigSep Finset.univ fun p : Fin 2 => semVal (pC c p) 0)
        ∗ bigSep Finset.univ fun p => iprop(∃ X, owns (c : Thread nD τ) (stg p) fullShare X)) := by
  unfold Ws
  iintro ⟨H1, H2⟩
  isplitl [H1]
  · iapply (show (bigSep Finset.univ fun e => Wi m c e 2) ⊢ (bigSep Finset.univ fun e => iprop(∃ X, owns (c : Thread nD τ) (ewE e) fullShare X)) from
      bigSep_mono fun e _ => (show Wi m c e 2 ⊢ iprop(∃ X, owns (c : Thread nD τ) (ewE e) fullShare X) by
        rw [Wi_2]; iintro ⟨-, H⟩; iexists _; iexact H))
    iexact H1
  · iapply (show (bigSep Finset.univ fun p => Si (F := F) c p (4, true))
      ⊢ iprop((bigSep Finset.univ fun p : Fin 2 => semVal (pC c p) 0) ∗ bigSep Finset.univ fun p => iprop(∃ X, owns (c : Thread nD τ) (stg p) fullShare X)) from
      Entails.of_eq (by rw [← bigSep_sep']; rfl))
    iexact H2

theorem As_last (c : Dev nD) (f : Fin 4 → Fin 9) : As m c f ⊢ (bigSep Finset.univ fun q => iprop(∃ X, owns (c : Thread nD τ) (accQ q) fullShare X)) := by
  unfold As
  exact bigSep_mono fun q _ => (show Aq m c q (f q) ⊢ iprop(∃ X, owns (c : Thread nD τ) (accQ q) fullShare X) by
    unfold Aq; iintro ⟨%X, -, H⟩; iexists X; iexact H)

theorem own_zero (c : Dev nD) :
    iprop(((bigSep Finset.univ fun x : Fin 4 × Fin 3 => zx (F := F) c 0 x.1 x.2) ∗ (bigSep Finset.univ fun x : Fin 4 × Fin 3 => zx (F := F) c 1 x.1 x.2)
        ∗ (bigSep Finset.univ fun x : Fin 4 × Fin 3 => zx (F := F) c 2 x.1 x.2) ∗ bigSep Finset.univ fun x : Fin 4 × Fin 3 => zx (F := F) c 3 x.1 x.2)
      ∗ bigSep Finset.univ fun p : Fin 2 => semVal (pC c p) 0)
    = (Pipeline.ownSems0 osem c : sProp 𝕄) := by
  rw [ownSems0_eq, bs_sum, bigSep_univ_prod (α := Fin 4) (β := Fin 4 × Fin 3), bs4]
  rfl

set_option maxHeartbeats 1600000 in
theorem phi_exit (c : Dev nD) :
    (rdats m 0 c).Φ (Fin.last cfg0.N) ⊢ iprop(unscopedSems0 c ∗ Pipeline.ownSems0 osem c ∗ Pipeline.scopedRest cfg0.spec c) := by
  rw [show (rdats m 0 c).Φ (Fin.last cfg0.N) = Ph m c 32 from rfl, show Pipeline.scopedRest cfg0.spec c = _ from scopedRest0_eq (Ix := Unit) (Name := ℕ) (U := UU) (Lvl := ℕ) (Val := Elt F) c,
    ← own_zero, unscopedSems0_eq]
  unfold Ph Gs
  rw [wf_32, wg_32, fa_32, fc_32, Cs_final, I4_all]
  iintro ⟨-, Hw, Hx, Ha, ⟨B9, B7, B8, B10, Z0, Z1, Z2, Z3⟩, Hb⟩
  ihave Hw := (Ws_last m c) $$ Hw
  icases Hw with ⟨B5, Zp, B4⟩
  ihave B3 := (As_last m c _) $$ Ha
  ihave Hb := (show Br (F := F) c (decide (8 ≤ 32)) ⊢ semVal (barC c) 0 from .rfl) $$ Hb
  unfold Xs
  icases Hx with ⟨%X, %Y, %Y', -, B0, B1, B2⟩
  isplitl [Hb]; · iexact Hb
  isplitl [Z0 Z1 Z2 Z3 Zp]
  · isplitl [Z0 Z1 Z2 Z3]
    · isplitl [Z0]; · iexact Z0
      isplitl [Z1]; · iexact Z1
      isplitl [Z2]; · iexact Z2
      iexact Z3
    · iexact Zp
  isplitl [B0]; · iapply (any_whole c cc0_scratch0); iexists X; iexact B0
  isplitl [B1]; · iapply (any_whole c cc0_scratch1); iexists Y; iexact B1
  isplitl [B2]; · iapply (any_whole c cc0_scratch2); iexists Y'; iexact B2
  isplitl [B3]; · iapply ((glue_any c accM RQ (fun _ _ => rfl) RQ_disj RQ_cov).trans (any_whole c cc0_scratch3)) $$ B3
  isplitl [B4]; · iapply ((glue_any c stgM RP (fun _ _ => rfl) RP_disj RP_cov).trans (any_whole c cc0_scratch4)) $$ B4
  isplitl [B5]; · iapply ((glue_any c ewM RE (fun _ _ => rfl) RE_disj RE_cov).trans (any_whole c cc0_scratch5)) $$ B5
  isplitl [B7]
  · iapply (show (bigSep Finset.univ fun x : Fin 4 × Fin 3 => anyRsS (F := F) c x.1 x.2) ⊢ _ from
      (glue_any c rsSM (fun t : Fin 4 × Fin 3 => R4 t.1 t.2) (fun _ _ => rfl) R4_disj R4_cov).trans (any_whole c cc0_scratch7)) $$ B7
  isplitl [B8]
  · iapply (show (bigSep Finset.univ fun x : Fin 4 × Fin 3 => anyRsR (F := F) c x.1 x.2) ⊢ _ from
      (glue_any c rsRM (fun t : Fin 4 × Fin 3 => R4 t.1 t.2) (fun _ _ => rfl) R4_disj R4_cov).trans (any_whole c cc0_scratch8)) $$ B8
  isplitl [B9]
  · iapply (show (bigSep Finset.univ fun q => anyAgS (F := F) c q) ⊢ _ from
      (glue_any c agSM R3 (fun _ _ => rfl) R3_disj R3_cov).trans (any_whole c cc0_scratch9)) $$ B9
  iapply (show (bigSep Finset.univ fun x : Fin 4 × Fin 3 => anyAgR (F := F) c x.1 x.2) ⊢ _ from
    (glue_any c agRM (fun t : Fin 4 × Fin 3 => R4 t.1 t.2) (fun _ _ => rfl) R4_disj R4_cov).trans (any_whole c cc0_scratch10)) $$ B10

/-! ## The run -/

theorem no_32 : no 32 = 27 := by decide +kernel
theorem Dn_32 : ∀ (c : Dev nD) (q p : Fin 4), Dn c 32 q p = true := by decide +kernel
def t31 : Fin cfg0.N := ⟨31, by have : cfg0.N = 32 := N_0; omega⟩
theorem whole_3 : (cfg0.win 3).WholeAt t31 := by decide +kernel

/-- A final memory of device `c`: its arguments as they were, and its result the pieces of every quarter and owner. -/
def Final (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ ∀ (q p : Fin 4) (j : S128x1024.Idx), (show S2048x1024.Idx → Elt F .f32 from s.mem ((c : Thread nD τ).loc main_v1)) ((RQP q p).emb j) = outp m c q p j

theorem arr_in (c : Dev nD) (w : Fin cfg0.W) (h : (cfg0.win w).isOut = false) (G) (hG : (rdats m 0 c).ArrAt w cfg0.N G) : G = V m c (Pipeline.arrRef spec0 w) := by
  rw [(rdats m 0 c).ArrAt_in w h] at hG
  exact hG

theorem arr_out (c : Dev nD) (G : S2048x1024.Idx → Elt F .f32) (hG : (rdats m 0 c).ArrAt 3 cfg0.N G) (q p : Fin 4) (j : S128x1024.Idx) :
    G ((RQP q p).emb j) = outp m c q p j := by
  obtain ⟨X, hX, hj⟩ := Pipeline.RDat.ArrAt.emb_eq_of_wholeAt hG whole_3
  have hX' : OutP m c (Dn c (31 + 1)) X := (dats m 0 c).toRRel_leaves (show fgt 3 = true from rfl) hX
  have h1 := congrFun (hX' q p (Dn_32 c q p)) j
  exact (hj ((RQP q p).emb j)).trans h1

set_option maxRecDepth 8000 in
/-- At the mesh of four devices, for any float values, from any memory with zero counters: every weakly fair execution
    terminates, and every final state has each device's arguments unchanged, its result at the pieces the experts'
    partial sums make, and every semaphore counter at zero. -/
theorem run_main : θ_run defs (onTc (τ := τ) (main (F := F))) ⟨m, fun _ => 0, g⟩ (fun r => (∀ c, Final m c r.2) ∧ r.2.sem = fun _ => 0) :=
  Pipeline.RDat.θ_run_region_owing_glob_pf (fun p => (cfgs p).toPCfg) (fun p => (cfgs p).toPCfg_adm) (rdats m) () cellOf_inj (0 : Fin 1)
    winFacts0.to₀ ownSemFacts (Pipeline.PreFacts.none _) EP defs₀ 𝒱₀ m g main
    (hmain := fun _ => rfl)
    (hbody := rbody_obl m) (hne := block_pos0) (harr := arr_whole0) (hstage := stage_whole0)
    (hshare := fun c w => by unfold Pipeline.RDat.share; split <;> rfl)
    (hdistinct := winFacts0.arr_inj)
    (O₀ := fun c => O c 0) (howed₀ := fun _ => rfl) (howedN := fun c => (show O c (no 32) = 0 by rw [no_32, O_last]))
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := X₀ m) (Y := fun c => unscopedSems0 c) (Z := Z₀ m)
    (hX := start_intro m g) (hin := phi0_intro m) (hout := phi_exit m)
    (QY := fun c s => s.mem ((c : Thread nD τ).loc main_arg3) = m ((c : Thread nD τ).loc main_arg3)
      ∧ ∀ sm : SemLoc sig, sm.isScoped .tc = false → s.sem ((c.tc : Thread nD τ), sm) = 0)
    (hY := fun c s' => by
      unfold Z₀
      iintro ⟨Hu, HZ, HSI⟩
      icombine HSI HZ gives %h
      imod (Pipeline.unscopedSems0_read (X := unscopedSems0 c) (c := c) fupd_intro s') $$ [Hu HSI] with ⟨%h', HSI⟩
      · isplitl [Hu] <;> iassumption
      imodintro
      isplitr
      · ipureintro; exact ⟨Buf.eq_of_forall_mem_univ h, h'⟩
      · iexact HSI)
    (hQ := fun s h hs => ⟨fun c => ⟨arr_in m c 0 rfl _ ((h c).1 0), arr_in m c 1 rfl _ ((h c).1 1), arr_in m c 2 rfl _ ((h c).1 2), (h c).2.2.1,
      fun q p j => arr_out m c _ ((h c).1 3) q p j⟩, sem_eq_zero hs fun c => (h c).2.2.2⟩)

end Cert.MoE
-- ==== Proof.Frames.lean ====
/-
# The frames

The three programs run to their end from any launch, leave their arguments as they were and every counter at zero.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Run
public import Idealize.ShloMosaic.Adequacy
public import Idealize.ShloMosaic.Init

@[expose] public section

noncomputable section

namespace Cert.MoE

open Idealize.ShloMosaic Idealize.ShloMosaic.TcCoe Idealize.SL.Sem

/-- The body of the kernel and of its idealization are one text. -/
theorem body_eq : (Cert.Kernel.cc0_body (F := Bits)) = Cert.KernelIdeal.cc0_body := rfl

/-- So are their tables of bodies. -/
theorem defs₀_eq : (Cert.Kernel.defs₀ (F := Bits)) = Cert.KernelIdeal.defs₀ := by
  unfold Cert.Kernel.defs₀ Cert.KernelIdeal.defs₀
  congr 1
  funext l a
  match l, a with
  | 0, (t, s) => dsimp only; rw [body_eq]; rfl

theorem defs_eq : (Cert.Kernel.defs (F := Bits)) = Cert.KernelIdeal.defs := by
  unfold Cert.Kernel.defs Cert.KernelIdeal.defs
  rw [defs₀_eq]
  rfl

/-- `Cert.quiescent_Kernel`: on every device the kernel's run ends with the four arguments unchanged and every counter
    at zero. The kernel and its idealization have one text, so this is the one run (Proof/Run.lean) at the bit-exact
    instance. -/
theorem frame_p : Cert.quiescent_Kernel := fun m g _ => by
  rw [defs_eq]
  exact (θ_run Cert.KernelIdeal.defs _ _).mono (fun _ h =>
      ⟨fun c => ⟨(h.1 c).1, (h.1 c).2.1, (h.1 c).2.2.1, (h.1 c).2.2.2.1⟩, h.2⟩)
    (run_main (F := Bits) m g)

/-- `Cert.quiescent_KernelIdeal`: the same run over the extended reals. -/
theorem frame_pi : Cert.quiescent_KernelIdeal := fun m g _ =>
  (θ_run Cert.KernelIdeal.defs _ _).mono (fun _ h =>
      ⟨fun c => ⟨(h.1 c).1, (h.1 c).2.1, (h.1 c).2.2.1, (h.1 c).2.2.2.1⟩, h.2⟩)
    (run_main (F := Ideal) m g)

/-- `Cert.quiescent_ReferenceIdeal`: no operation of the reference writes an argument, and it declares no semaphore. -/
theorem frame_ri : Cert.quiescent_ReferenceIdeal := fun m g _ =>
  (θ_run Cert.ReferenceIdeal.defs _ _).mono (fun r h =>
      ⟨fun c => (h c).2, Idealize.ShloMosaic.sem_eq_zero_of_no_sems (by decide) r.2⟩)
    (Cert.ReferenceIdeal.Value.run (F := Ideal) m g)

end Cert.MoE

end
-- ==== Proof.Gates.lean ====
/-
# The gates of one row

The reference's gates of a row divide the two chosen softmax probabilities by their sum; the kernel's divide the two
chosen exponentials by theirs. Where the row's scores are finite the softmax's normaliser is a positive real, and
the two are the same extended real — also when neither index names an expert, where both divide zero by zero.
-/
module

public import Idealize.ShloMosaic.PureOps.Ideal

@[expose] public section

noncomputable section

namespace Cert.MoE

open Idealize.ShloMosaic
open scoped BigOperators

/-- The exponential of each score less the row's greatest. -/
def pex (s : Fin 32 → EReal) (e : Fin 32) : EReal := Ideal.exp (s e - Finset.univ.fold max ⊥ s)

/-- One where the index names expert `e`, zero elsewhere. -/
def hot (i : BitVec 32) (e : Fin 32) : EReal := if i = BitVec.ofNat 32 e.val then 1 else 0

/-- The probability the index chooses, as the reference computes it. -/
def rsel (s : Fin 32 → EReal) (i : BitVec 32) : EReal :=
  ∑ e, hot i e * Ideal.div (pex s e) (∑ e', pex s e')

/-- The reference's gate of choice `k`. -/
def rgate (s : Fin 32 → EReal) (i : Fin 2 → BitVec 32) (k : Fin 2) : EReal :=
  Ideal.div (rsel s (i k)) (∑ k', rsel s (i k'))

/-- The reference's weight of expert `e` in the row. -/
def rweight (s : Fin 32 → EReal) (i : Fin 2 → BitVec 32) (e : Fin 32) : EReal :=
  ∑ k, rgate s i k * hot (i k) e

/-- The exponential the index chooses, as the kernel computes it. -/
def ksel (s : Fin 32 → EReal) (i : BitVec 32) : EReal :=
  ∑ e, if BitVec.ofNat 32 (e : Fin 32).val = i then pex s e else 0

/-- The kernel's gate of choice `k`. -/
def kgate (s : Fin 32 → EReal) (i : Fin 2 → BitVec 32) (k : Fin 2) : EReal :=
  Ideal.div (ksel s (i k)) (ksel s (i 0) + ksel s (i 1))

/-- The kernel's weight of expert `e` in the row. -/
def kweight (s : Fin 32 → EReal) (i : Fin 2 → BitVec 32) (e : Fin 32) : EReal :=
  (if i 0 = BitVec.ofNat 32 e.val then kgate s i 0 else 0) + (if i 1 = BitVec.ofNat 32 e.val then kgate s i 1 else 0)

/-- The coercion of the reals commutes with finite sums. -/
theorem coe_sum_real {ι : Type} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]

/-- A quotient of reals by a nonzero real is the real quotient. -/
theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- With finite scores every exponential is a positive real. -/
theorem pex_real (r : Fin 32 → ℝ) :
    ∃ p : Fin 32 → ℝ, (∀ e, 0 < p e) ∧ ∀ e, pex (fun e => (r e : EReal)) e = (p e : EReal) := by
  obtain ⟨e0, -, h⟩ := Finset.exists_mem_eq_sup (Finset.univ : Finset (Fin 32)) Finset.univ_nonempty (fun e => (r e : EReal))
  have hM : Finset.univ.fold max ⊥ (fun e => (r e : EReal)) = (r e0 : EReal) := h
  refine ⟨fun e => Real.exp (r e - r e0), fun e => Real.exp_pos _, fun e => ?_⟩
  unfold pex
  rw [hM, ← EReal.coe_sub]
  rfl

/-- The two gates of a row with finite scores are the same. -/
theorem kgate_eq (r : Fin 32 → ℝ) (i : Fin 2 → BitVec 32) (k : Fin 2) :
    kgate (fun e => (r e : EReal)) i k = rgate (fun e => (r e : EReal)) i k := by
  obtain ⟨p, hpos, hp⟩ := pex_real r
  have hZ : 0 < ∑ e, p e := Finset.sum_pos (fun e _ => hpos e) Finset.univ_nonempty
  have hk : ∀ i, ksel (fun e => (r e : EReal)) i = ((∑ e : Fin 32, if BitVec.ofNat 32 e.val = i then p e else 0 : ℝ) : EReal) := by
    intro i
    unfold ksel
    rw [coe_sum_real]
    refine Finset.sum_congr rfl fun e _ => ?_
    split
    · exact hp e
    · rfl
  have hr : ∀ i, rsel (fun e => (r e : EReal)) i
      = (((∑ e : Fin 32, if BitVec.ofNat 32 e.val = i then p e else 0) / (∑ e, p e) : ℝ) : EReal) := by
    intro i
    unfold rsel
    rw [Finset.sum_div, coe_sum_real]
    refine Finset.sum_congr rfl fun e _ => ?_
    have hs : (∑ e', pex (fun e => (r e : EReal)) e') = ((∑ e, p e : ℝ) : EReal) := by
      rw [coe_sum_real]; exact Finset.sum_congr rfl fun e _ => hp e
    rw [hs, hp e, div_coe _ _ hZ.ne']
    unfold hot
    by_cases h : i = BitVec.ofNat 32 e.val
    · rw [if_pos h, if_pos h.symm, one_mul]
    · rw [if_neg h, if_neg (fun h' => h h'.symm), zero_mul, zero_div]; rfl
  have hn : ∀ i : BitVec 32, 0 ≤ (∑ e : Fin 32, if BitVec.ofNat 32 e.val = i then p e else 0 : ℝ) := fun i =>
    Finset.sum_nonneg fun e _ => by split <;> first | exact (hpos e).le | exact le_rfl
  unfold kgate rgate
  rw [Fin.sum_univ_two, hk, hk, hk, hr, hr, hr]
  generalize hA : (fun i : BitVec 32 => (∑ e : Fin 32, if BitVec.ofNat 32 e.val = i then p e else 0 : ℝ)) = A at hn
  have hA' : ∀ i : BitVec 32, (∑ e : Fin 32, if BitVec.ofNat 32 e.val = i then p e else 0 : ℝ) = A i := fun i => congrFun hA i
  simp only [hA'] at hn ⊢
  rw [← EReal.coe_add, ← EReal.coe_add, ← add_div]
  by_cases h0 : A (i 0) + A (i 1) = 0
  · have h1 : A (i k) = 0 := by
      have a0 := hn (i 0)
      have a1 := hn (i 1)
      match k with
      | 0 => linarith
      | 1 => linarith
    rw [h0, h1]; simp only [zero_div]
  · rw [div_coe _ _ h0, div_coe _ _ (div_ne_zero h0 hZ.ne')]
    congr 1
    have := hZ.ne'
    field_simp

/-- So are the two weights of every expert. -/
theorem kweight_eq (r : Fin 32 → ℝ) (i : Fin 2 → BitVec 32) (e : Fin 32) :
    kweight (fun e => (r e : EReal)) i e = rweight (fun e => (r e : EReal)) i e := by
  unfold kweight rweight hot
  rw [Fin.sum_univ_two, kgate_eq, kgate_eq]
  simp only [mul_ite, mul_one, mul_zero]

end Cert.MoE

end
-- ==== Proof.RefValue.lean ====
/-
# What the reference computes, element by element
-/
module

public import proofs.«01_k».proof.Proof.Gen.ReferenceIdeal.Run
public import proofs.«01_k».proof.Proof.Gates
public import Idealize.ShloMosaic.Lib.Pointwise

@[expose] public section

noncomputable section

namespace Cert.MoE

open Idealize.ShloMosaic
open scoped BigOperators

abbrev SX : Shape := ⟨2, ![2048, 1024]⟩
abbrev SR : Shape := ⟨2, ![1024, 32]⟩
abbrev SI : Shape := ⟨2, ![2048, 2]⟩
abbrev SW : Shape := ⟨3, ![32, 1024, 1024]⟩

/-- The scores of row `t`. -/
def srow (x : SX.Idx → EReal) (w : SR.Idx → EReal) (t : Fin 2048) (e : Fin 32) : EReal :=
  ∑ d : Fin 1024, x (ix2 t d) * w (ix2 d e)
/-- The two expert indices of row `t`. -/
def irow (i : SI.Idx → BitVec 32) (t : Fin 2048) (k : Fin 2) : BitVec 32 := i (ix2 t k)
/-- Element `f` of expert `e` applied to row `t`. -/
def yrow (x : SX.Idx → EReal) (W : SW.Idx → EReal) (t : Fin 2048) (f : Fin 1024) (e : Fin 32) : EReal :=
  ∑ d : Fin 1024, x (ix2 t d) * W (ix3 e d f)

/-- A comparison for equality, read as a number. -/
theorem uitofp_cmpi_eq (a b : BitVec 32) :
    (FloatOps.uitofp .f32 (IntOp.cmpi .eq a b) : Ideal .f32) = (if a = b then (1 : EReal) else 0) := by
  show ((((IntOp.cmpi .eq a b).toNat : ℕ) : ℝ) : EReal) = _
  by_cases h : a = b
  · subst h; simp [IntOp.cmpi]
  · simp [IntOp.cmpi, h]

theorem ofBits_neg_inf : Ideal.ofBits .f32 0xFF800000#32 = ⊥ := by simp [Ideal.ofBits, Ideal.ieee]

section
open Cert.ReferenceIdeal Idealize.ShloMosaic.TcCoe

/-- The reference's result at row `t` and column `f`: the weighted sum of the 32 experts' results. -/
theorem ref_at (m : (ℓ : Loc nD τ sig) → Buf (Elt Ideal) ℓ) (t : Fin 2048) (f : Fin 1024) :
    (show SX.Idx → EReal from Cert.ReferenceIdeal.Value.res_main_v18 m 0) (ix2 t f)
      = ∑ e, rweight (srow (m (((0 : Dev nD).tc : Thread nD τ).loc main_arg0)) (m (((0 : Dev nD).tc : Thread nD τ).loc main_arg1)) t)
          (irow (m (((0 : Dev nD).tc : Thread nD τ).loc main_arg2)) t) e
        * yrow (m (((0 : Dev nD).tc : Thread nD τ).loc main_arg0)) (m (((0 : Dev nD).tc : Thread nD τ).loc main_arg3)) t f e := by
  unfold Cert.ReferenceIdeal.Value.res_main_v18
  pointwise [rweight, rgate, rsel, hot, pex, srow, irow, yrow]
  simp only [uitofp_cmpi_eq, ofBits_neg_inf]
  rfl

end

end Cert.MoE

end
-- ==== Proof.KerOps.lean ====
/-
# What the kernel's operations compute, element by element
-/
module

public import proofs.«01_k».proof.Proof.Common
public import proofs.«01_k».proof.Proof.RefValue
public import Idealize.ShloMosaic.Lib.Pointwise
public import Idealize.ShloMosaic.Lib.Pipeline.Value

@[expose] public section

noncomputable section

namespace Cert.MoE

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators

/-! ## The kernel's payloads, element by element -/

/-- A selection by an equality of words is a case distinction. -/
theorem select_eq {α : Type} (a b : BitVec 32) (x y : α) :
    Scalar.select (IntOp.cmpi .eq a b) x y = if a = b then x else y := by
  by_cases h : a = b
  · subst h; simp [IntOp.cmpi, Scalar.select]
  · simp [IntOp.cmpi, Scalar.select, h, beq_eq_false_iff_ne.mpr h]

/-- The word of an expert's number: eight times the device's, plus its own on the device. -/
theorem eid_word (c : Dev nD) (n : ℕ) :
    Scalar.addi (Scalar.muli (Scalar.remsi (Scalar.divsi (Dev.word c) 1#32) 4#32) 8#32) (BitVec.ofNat 32 n) = BitVec.ofNat 32 (8 * c.val + n) := by
  have h : Scalar.muli (Scalar.remsi (Scalar.divsi (Dev.word c) 1#32) 4#32) 8#32 = BitVec.ofNat 32 (8 * c.val) := by
    revert c; decide +kernel
  rw [h]
  show BitVec.ofNat 32 (8 * c.val) + BitVec.ofNat 32 n = _
  rw [BitVec.ofNat_add]

/-- The kernel's exponentials: those of the row's scores less their greatest. -/
theorem pay6_at (X : S512x1024.Idx → EReal) (R : S1024x32.Idx → EReal) (r : Fin 512) (e : Fin 32) :
    (show S512x32.Idx → EReal from k0_pay6 (F := Ideal) X R) (ix2 r e) = pex (fun e => ∑ d, X (ix2 r d) * R (ix2 d e)) e := by
  unfold k0_pay6 k0_pay4
  pointwise [pex]
  simp only [ofBits_neg_inf]

/-- The exponential the first index of the row chooses. -/
theorem pay7_at (X : S512x1024.Idx → EReal) (R : S1024x32.Idx → EReal) (i : S512x1.Idx → BitVec 32) (r : Fin 512) :
    (show S512x1.Idx → EReal from k0_pay7 (F := Ideal) X R i) (ix2 r 0)
      = ksel (fun e => ∑ d, X (ix2 r d) * R (ix2 d e)) (i (ix2 r 0)) := by
  unfold k0_pay7
  pointwise [ksel]
  refine Finset.sum_congr rfl fun e _ => ?_
  rw [select_eq]
  split
  · exact pay6_at X R r e
  · rfl

/-- The exponential the second index of the row chooses. -/
theorem pay8_at (X : S512x1024.Idx → EReal) (R : S1024x32.Idx → EReal) (i : S512x1.Idx → BitVec 32) (r : Fin 512) :
    (show S512x1.Idx → EReal from k0_pay8 (F := Ideal) X R i) (ix2 r 0)
      = ksel (fun e => ∑ d, X (ix2 r d) * R (ix2 d e)) (i (ix2 r 0)) := pay7_at X R i r

/-- An expert's weights as stored: those launched. -/
theorem pay24_at (W : S1x1024x1024.Idx → EReal) (d f : Fin 1024) :
    (show S1x1024x1024.Idx → EReal from k0_pay24 (F := Ideal) W) (ix3 0 d f) = W (ix3 0 d f) := by
  unfold k0_pay24
  pointwise []

/-- The expert's product. -/
theorem pay28_at (W : S1x1024x1024.Idx → EReal) (X : S512x1024.Idx → EReal) (r : Fin 512) (f : Fin 1024) :
    (show S512x1024.Idx → EReal from k0_pay28 (F := Ideal) W X) (ix2 r f) = ∑ d, X (ix2 r d) * W (ix3 0 d f) := by
  unfold k0_pay28
  pointwise []

/-- The quarter's block as the products read it. -/
theorem pay5_at (X : S512x1024.Idx → EReal) (r : Fin 512) (d : Fin 1024) :
    (show S512x1024.Idx → EReal from k0_pay5 (F := Ideal) X) (ix2 r d) = X (ix2 r d) := by
  unfold k0_pay5 k0_pay4
  pointwise []

/-- One expert added to the accumulator. -/
theorem pay1_at (w : S512x1.Idx → EReal) (y a : S512x1024.Idx → EReal) (r : Fin 512) (f : Fin 1024) :
    (show S512x1024.Idx → EReal from k0_pay1 (F := Ideal) w y a) (ix2 r f) = a (ix2 r f) + w (ix2 r 0) * y (ix2 r f) := by
  unfold k0_pay1
  pointwise []

/-- The first accumulator is zero. -/
theorem pay26_at (r : Fin 512) (f : Fin 1024) :
    (show S512x1024.Idx → EReal from k0_pay26 (F := Ideal)) (ix2 r f) = 0 := by
  unfold k0_pay26
  pointwise []

/-- A piece as sent. -/
theorem pay12_at (P : S128x1024.Idx → EReal) (r : Fin 128) (f : Fin 1024) :
    (show S1x1x128x1024.Idx → EReal from k0_pay12 (F := Ideal) P) (ix4 0 0 r f) = P (ix2 r f) := by
  unfold k0_pay12
  pointwise []

/-- The reduced piece: the device's own and the three received. -/
theorem pay16_at (P : S128x1024.Idx → EReal) (A B C : S1x1x128x1024.Idx → EReal) (r : Fin 128) (f : Fin 1024) :
    (show S128x1024.Idx → EReal from k0_pay16 (F := Ideal) P A B C) (ix2 r f)
      = P (ix2 r f) + A (ix4 0 0 r f) + B (ix4 0 0 r f) + C (ix4 0 0 r f) := by
  unfold k0_pay16
  pointwise []

/-- The weight of the grid point's expert: the gates of the indices that name it. -/
theorem pay27_at (i : grid0.Coords) (c : Dev nD) (i0 : S512x1.Idx → BitVec 32) (a0 : S512x1.Idx → EReal) (i1 : S512x1.Idx → BitVec 32)
    (a1 : S512x1.Idx → EReal) (r : Fin 512) :
    (show S512x1.Idx → EReal from k0_pay27 (F := Ideal) i c i0 a0 i1 a1) (ix2 r 0)
      = (if i0 (ix2 r 0) = BitVec.ofNat 32 (8 * c.val + (i 1).val) then a0 (ix2 r 0) else 0)
        + (if i1 (ix2 r 0) = BitVec.ofNat 32 (8 * c.val + (i 1).val) then a1 (ix2 r 0) else 0) := by
  unfold k0_pay27
  pointwise []
  rw [eid_word, select_eq, select_eq]

/-- The gate of the first index. -/
theorem pay10_at (X : S512x1024.Idx → EReal) (R : S1024x32.Idx → EReal) (i0 i1 : S512x1.Idx → BitVec 32) (r : Fin 512) :
    (show S512x1.Idx → EReal from k0_pay10 (F := Ideal) X R i0 i1) (ix2 r 0)
      = kgate (fun e => ∑ d, X (ix2 r d) * R (ix2 d e)) ![i0 (ix2 r 0), i1 (ix2 r 0)] 0 := by
  unfold k0_pay10 k0_pay9
  pointwise [kgate]
  exact congrArg₂ Ideal.div (pay7_at X R i0 r) (congrArg₂ (· + ·) (pay7_at X R i0 r) (pay8_at X R i1 r))

/-- The gate of the second index. -/
theorem pay25_at (X : S512x1024.Idx → EReal) (R : S1024x32.Idx → EReal) (i0 i1 : S512x1.Idx → BitVec 32) (r : Fin 512) :
    (show S512x1.Idx → EReal from k0_pay25 (F := Ideal) (k0_pay11 (F := Ideal) X R i0 i1)) (ix2 r 0)
      = kgate (fun e => ∑ d, X (ix2 r d) * R (ix2 d e)) ![i0 (ix2 r 0), i1 (ix2 r 0)] 1 := by
  unfold k0_pay25 k0_pay11 k0_pay9
  pointwise [kgate]
  exact congrArg₂ Ideal.div (pay8_at X R i1 r) (congrArg₂ (· + ·) (pay7_at X R i0 r) (pay8_at X R i1 r))

/-- A peer's piece as written to the result. -/
theorem pay2_at (A : S1x1x128x1024.Idx → EReal) (r : Fin 128) (f : Fin 1024) :
    (show S128x1024.Idx → EReal from k0_pay2 (F := Ideal) A) (ix2 r f) = A (ix4 0 0 r f) := by
  unfold k0_pay2
  pointwise []

/-- The reduced piece as sent. -/
theorem pay17_at (P : S128x1024.Idx → EReal) (A B C : S1x1x128x1024.Idx → EReal) (r : Fin 128) (f : Fin 1024) :
    (show S1x128x1024.Idx → EReal from k0_pay17 (F := Ideal) P A B C) (ix3 0 r f)
      = (show S128x1024.Idx → EReal from k0_pay16 (F := Ideal) P A B C) (ix2 r f) := by
  unfold k0_pay17
  pointwise []

/-- A piece laid out anew in its landing slot is the same piece. -/
theorem relay_at (A : S1x128x1024.Idx → EReal) (r : Fin 128) (f : Fin 1024) :
    relay squeezes_S1x128x1024_S128x1024 squeezes_S1x1x128x1024_S128x1024 A (ix4 0 0 r f) = A (ix3 0 r f) := by
  have h4 : Shape.reshapeEquiv squeezes_S1x1x128x1024_S128x1024.numel_eq (ix2 r f : S128x1024.Idx) = (ix4 0 0 r f : S1x1x128x1024.Idx) :=
    Shape.reshapeEquiv_eq_of_vals _ _ _ _ _ (rowMajor_val4 _ (128 * 1024) (128 * 1024) 1024 rfl rfl rfl) (rowMajor_val2 _ 1024 rfl)
      (by show 0 * _ + 0 * _ + r.val * 1024 + f.val = r.val * 1024 + f.val; omega)
  have h3 : Shape.reshapeEquiv squeezes_S1x128x1024_S128x1024.numel_eq (ix2 r f : S128x1024.Idx) = (ix3 0 r f : S1x128x1024.Idx) :=
    Shape.reshapeEquiv_eq_of_vals _ _ _ _ _ (rowMajor_val3 _ (128 * 1024) 1024 rfl rfl) (rowMajor_val2 _ 1024 rfl)
      (by show 0 * _ + r.val * 1024 + f.val = r.val * 1024 + f.val; omega)
  unfold relay
  rw [← h4, Equiv.symm_apply_apply, h3]

end Cert.MoE
-- ==== Proof.KerValue.lean ====
/-
# What the kernel computes, element by element
-/
module

public import proofs.«01_k».proof.Proof.KerOps

@[expose] public section

noncomputable section

namespace Cert.MoE

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators

variable (m : (ℓ : Loc nD τ sig) → Buf (Elt Ideal) ℓ) (c : Dev nD)

/-! ## The arguments -/

/-- The device's arguments as launched. -/
abbrev aX : S2048x1024.Idx → EReal := m ((c : Thread nD τ).loc main_arg0)
abbrev aR : S1024x32.Idx → EReal := m ((c : Thread nD τ).loc main_arg1)
abbrev aI : S2048x2.Idx → BitVec 32 := m ((c : Thread nD τ).loc main_arg2)
abbrev aW : S8x1024x1024.Idx → EReal := m ((c : Thread nD τ).loc main_arg3)

/-- Row `r` of quarter `q`. -/
def qrow (q : Fin 4) (r : Fin 512) : Fin 2048 := ⟨512 * q.val + r.val, by omega⟩
/-- Row `r` of piece `p` of a quarter. -/
def prow (p : Fin 4) (r : Fin 128) : Fin 512 := ⟨128 * p.val + r.val, by omega⟩

/-- The quarter's block of `x`. -/
theorem xb_at (q : Fin 4) (r : Fin 512) (d : Fin 1024) :
    (show S512x1024.Idx → EReal from xb m c q) (ix2 r d) = aX m c (ix2 (qrow q r) d) := by
  unfold xb iblk
  refine congrArg (aX m c) (funext fun a => Fin.ext ?_)
  refine (Pipeline.Window.rect_emb_val win0_0 (pt q 0) (ix2 r d) a).trans ?_
  match a with
  | 0 =>
    show (cc0_transform_0 (co q 0) 0) * 512 + r.val = 512 * q.val + r.val
    have : cc0_transform_0 (co q 0) 0 = q.val := by revert q; decide +kernel
    omega
  | 1 => show 0 * 1024 + d.val = d.val; omega

/-- The router's weights. -/
theorem rw_at (q : Fin 4) (d : Fin 1024) (e : Fin 32) :
    (show S1024x32.Idx → EReal from rw m c q) (ix2 d e) = aR m c (ix2 d e) := by
  unfold rw iblk
  refine congrArg (aR m c) (funext fun a => Fin.ext ?_)
  refine (Pipeline.Window.rect_emb_val win0_1 (pt q 0) (ix2 d e) a).trans ?_
  match a with
  | 0 => show 0 * 1024 + d.val = d.val; omega
  | 1 => show 0 * 32 + e.val = e.val; omega

/-- The quarter's block of the expert indices. -/
theorem ib_at (q : Fin 4) (r : Fin 512) (k : Fin 2) :
    (show S512x2.Idx → BitVec 32 from ib m c q) (ix2 r k) = aI m c (ix2 (qrow q r) k) := by
  unfold ib iblk
  refine congrArg (aI m c) (funext fun a => Fin.ext ?_)
  refine (Pipeline.Window.rect_emb_val win0_2 (pt q 0) (ix2 r k) a).trans ?_
  match a with
  | 0 =>
    show (cc0_transform_2 (co q 0) 0) * 512 + r.val = 512 * q.val + r.val
    have : cc0_transform_2 (co q 0) 0 = q.val := by revert q; decide +kernel
    omega
  | 1 => show 0 * 2 + k.val = k.val; omega

/-- One column of it. -/
theorem ic_at (q : Fin 4) (k : Fin 2) (r : Fin 512) :
    (show S512x1.Idx → BitVec 32 from ic m c q k) (ix2 r 0) = aI m c (ix2 (qrow q r) k) := by
  unfold ic
  refine Eq.trans (congrArg (ib m c q) (funext fun a => Fin.ext ?_)) (ib_at m c q r k)
  match a with
  | 0 => show 0 + 1 * r.val = r.val; omega
  | 1 => show k.val + 1 * 0 = k.val; omega

/-- One expert's weights. -/
theorem wraw_at (e : Fin 8) (d f : Fin 1024) :
    (show S1x1024x1024.Idx → EReal from wraw m c e) (ix3 0 d f) = aW m c (ix3 e d f) := by
  unfold wraw
  refine congrArg (aW m c) (funext fun a => Fin.ext ?_)
  match a with
  | 0 => show e.val + 1 * 0 = e.val; omega
  | 1 => show 0 + 1 * d.val = d.val; omega
  | 2 => show 0 + 1 * f.val = f.val; omega

/-! ## The accumulators -/

/-- The expert's weight of a row, and its product with the row, of the device's own arguments. -/
def kw (t : Fin 2048) (e : ℕ) : EReal :=
  (if aI m c (ix2 t 0) = BitVec.ofNat 32 e then kgate (srow (aX m c) (aR m c) t) (irow (aI m c) t) 0 else 0)
    + (if aI m c (ix2 t 1) = BitVec.ofNat 32 e then kgate (srow (aX m c) (aR m c) t) (irow (aI m c) t) 1 else 0)
def ky (t : Fin 2048) (f : Fin 1024) (e : Fin 8) : EReal := ∑ d : Fin 1024, aX m c (ix2 t d) * aW m c (ix3 e d f)

/-- The quarter's scores are the rows' scores. -/
theorem srow_at (q : Fin 4) (r : Fin 512) :
    (fun e => ∑ d, (show S512x1024.Idx → EReal from xb m c q) (ix2 r d) * (show S1024x32.Idx → EReal from rw m c q) (ix2 d e))
      = srow (aX m c) (aR m c) (qrow q r) :=
  funext fun e => Finset.sum_congr rfl fun d _ => congrArg₂ (· * ·) (xb_at m c q r d) (rw_at m c q d e)

/-- The quarter's indices are the rows' indices. -/
theorem irow_at (q : Fin 4) (r : Fin 512) :
    ![(show S512x1.Idx → BitVec 32 from ic m c q 0) (ix2 r 0), (show S512x1.Idx → BitVec 32 from ic m c q 1) (ix2 r 0)]
      = irow (aI m c) (qrow q r) := by
  funext k
  match k with
  | 0 => exact ic_at m c q 0 r
  | 1 => exact ic_at m c q 1 r

/-- The first gate as stored. -/
theorem g0_at (q : Fin 4) (r : Fin 512) :
    (show S512x1.Idx → EReal from g0 m c q) (ix2 r 0) = kgate (srow (aX m c) (aR m c) (qrow q r)) (irow (aI m c) (qrow q r)) 0 := by
  rw [← srow_at, ← irow_at]
  exact pay10_at _ _ _ _ r

/-- The second gate as stored. -/
theorem g1_at (q : Fin 4) (r : Fin 512) :
    (show S512x1.Idx → EReal from g1 m c q) (ix2 r 0) = kgate (srow (aX m c) (aR m c) (qrow q r)) (irow (aI m c) (qrow q r)) 1 := by
  rw [← srow_at, ← irow_at]
  exact pay25_at _ _ _ _ r

/-- The accumulator after `n` experts: the sum of the weighted products of the first `n`. -/
theorem accv_at (q : Fin 4) (r : Fin 512) (f : Fin 1024) (n : ℕ) (hn : n ≤ 8) :
    (show S512x1024.Idx → EReal from accv m c q n) (ix2 r f)
      = ∑ e ∈ Finset.range n, kw m c (qrow q r) (8 * c.val + e) * ky m c (qrow q r) f (e8 e) := by
  induction n with
  | zero => exact pay26_at r f
  | succ n ih =>
    rw [Finset.sum_range_succ, ← ih (by omega)]
    refine (pay1_at _ _ _ r f).trans ?_
    refine congrArg₂ (· + ·) rfl (congrArg₂ (· * ·) ?_ ?_)
    · refine (pay27_at _ _ _ _ _ _ r).trans ?_
      have he : (co q (e8 n) 1).val = n := by rw [co_1]; show n % 8 = n; omega
      rw [he]
      unfold kw
      rw [show (ic m c q 0 : S512x1.Idx → BitVec 32) (ix2 r 0) = _ from ic_at m c q 0 r, show (ic m c q 1 : S512x1.Idx → BitVec 32) (ix2 r 0) = _ from ic_at m c q 1 r]
      rw [show (g0 m c q : S512x1.Idx → EReal) (ix2 r 0) = _ from g0_at m c q r, show (g1 m c q : S512x1.Idx → EReal) (ix2 r 0) = _ from g1_at m c q r]
    · refine (pay28_at _ _ r f).trans ?_
      refine Finset.sum_congr rfl fun d _ => congrArg₂ (· * ·) ?_ ?_
      · exact (pay5_at _ r d).trans (xb_at m c q r d)
      · exact (pay24_at _ d f).trans (wraw_at m c (e8 n) d f)

/-- Device `c`'s partial sum of row `t`, over its eight experts. -/
def part (t : Fin 2048) (f : Fin 1024) : EReal :=
  ∑ e : Fin 8, kw m c t (8 * c.val + e.val) * ky m c t f e

/-- A piece of the finished accumulator: the device's partial sums of its rows. -/
theorem pc_at (q p : Fin 4) (r : Fin 128) (f : Fin 1024) :
    (show S128x1024.Idx → EReal from pc m c q p) (ix2 r f) = part m c (qrow q (prow p r)) f := by
  unfold pc
  refine Eq.trans (congrArg (accv m c q 8) (funext fun a => Fin.ext ?_ : _ = (ix2 (prow p r) f : S512x1024.Idx))) ?_
  · match a with
    | 0 => show 128 * p.val + 1 * r.val = 128 * p.val + r.val; omega
    | 1 => show 0 + 1 * f.val = f.val; omega
  · refine (accv_at m c q (prow p r) f 8 le_rfl).trans ?_
    unfold part
    rw [Finset.sum_range]
    refine Finset.sum_congr rfl fun e _ => ?_
    have : e8 e.val = e := Fin.ext (Nat.mod_eq_of_lt e.isLt)
    rw [this]

/-- A sum over the devices, from one of them on. -/
theorem sum_dev (c : Dev nD) (g : Dev nD → EReal) : ∑ s, g s = g c + g (src c 0) + g (src c 1) + g (src c 2) := by
  rw [show (Finset.univ : Finset (Dev nD)) = {c, src c 0, src c 1, src c 2} from by revert c; decide]
  rw [Finset.sum_insert (by revert c; decide), Finset.sum_insert (by revert c; decide), Finset.sum_insert (by revert c; decide), Finset.sum_singleton]
  simp only [add_assoc]

/-- The reduced piece: the four devices' partial sums of its row. -/
theorem red_at (q : Fin 4) (r : Fin 128) (f : Fin 1024) :
    (show S128x1024.Idx → EReal from red m c q) (ix2 r f) = ∑ s : Dev nD, part m s (qrow q (prow c r)) f := by
  unfold red
  refine (pay16_at _ _ _ _ r f).trans ?_
  have hs : ∀ k : Fin 3, (show S1x1x128x1024.Idx → EReal from rsd m (src c k) q k) (ix4 0 0 r f) = part m (src c k) (qrow q (prow c r)) f := by
    intro k
    refine (pay12_at _ r f).trans ?_
    rw [dst_src]
    exact pc_at m (src c k) q c r f
  refine (congrArg₂ (· + ·) (congrArg₂ (· + ·) (congrArg₂ (· + ·) (pc_at m c q c r f) (hs 0)) (hs 1)) (hs 2)).trans ?_
  exact (sum_dev c fun s => part m s (qrow q (prow c r)) f).symm

/-- The result's piece `p` of quarter `q`: the same four partial sums, on every device. -/
theorem outp_at (q p : Fin 4) (r : Fin 128) (f : Fin 1024) :
    (show S128x1024.Idx → EReal from outp m c q p) (ix2 r f) = ∑ s : Dev nD, part m s (qrow q (prow p r)) f := by
  unfold outp
  by_cases h : p = c
  · subst h
    rw [if_pos rfl]
    exact red_at m p q r f
  · rw [if_neg h]
    refine (pay2_at _ r f).trans ?_
    refine (relay_at _ r f).trans ?_
    refine (pay17_at _ _ _ _ r f).trans ?_
    exact red_at m p q r f

end Cert.MoE
-- ==== Proof.Value.lean ====
/-
# The kernel's results are the reference's

On finite scores the weights the kernel computes are the reference's; the four devices' partial sums are then the
reference's sum over all 32 experts, and every device holds the whole of it.
-/
module

public import proofs.«01_k».proof.Defs
public import proofs.«01_k».proof.Proof.KerValue
public import proofs.«01_k».proof.Proof.Run
public import proofs.«01_k».proof.Proof.Gen.ReferenceIdeal
public import proofs.«01_k».proof.Proof.Gen.ReferenceIdeal.Run
public import Idealize.ShloMosaic.Lib.ReduceAll

@[expose] public section

noncomputable section

namespace Cert.MoE

open Idealize.ShloMosaic Idealize.ShloMosaic.TcCoe Idealize.SL.Sem
open scoped BigOperators

/-! ## The precondition -/

/-- The shape relations the precondition's operations take, over the kernel's arguments; -/
theorem pre_facts : Cert.Pre_finite_scores_KernelIdeal.Facts where
  bcast_S_S2048x1024 := by decide
  reducesTo_S2048x1024_S_d0_1 := by decide
  h_S_ := by decide
  bcast_S_S1024x32 := by decide
  reducesTo_S1024x32_S_d0_1 := by decide

/-- and over the reference's. -/
theorem pre_facts_ref : Cert.Pre_finite_scores_ReferenceIdeal.Facts where
  bcast_S_S2048x1024 := by decide
  reducesTo_S2048x1024_S_d0_1 := by decide
  h_S_ := by decide
  bcast_S_S1024x32 := by decide
  reducesTo_S1024x32_S_d0_1 := by decide

/-- An extended real whose absolute value compares below the word of infinity is a real. -/
theorem real_of_abs_lt (x : EReal) (h : Ideal.cmp .olt (max x (-x)) (Ideal.ofBits .f32 0x7F800000#32) = 1#1) : ∃ r : ℝ, x = r := by
  have hinf : Ideal.ofBits .f32 0x7F800000#32 = ⊤ := by simp [Ideal.ofBits, Ideal.ieee]
  rw [hinf] at h
  have hlt : max x (-x) < ⊤ := by
    by_contra hn
    simp [Ideal.cmp, hn] at h
  induction x using EReal.rec with
  | bot => simp at hlt
  | coe r => exact ⟨r, rfl⟩
  | top => simp at hlt

instance : Subsingleton (Cert.Pre_finite_scores_KernelIdeal.S_).Idx := ⟨fun a b => funext fun i => i.elim0⟩

/-- The precondition of a device's arguments: every element of `x` and of the router's weights is a real. -/
theorem real_of_pre [Cert.Pre_finite_scores_KernelIdeal.Facts] (x : SX.Idx → EReal) (w : SR.Idx → EReal) (i : SI.Idx → BitVec 32) (W)
    (h : Cert.Pre_finite_scores_KernelIdeal.fn (F := Ideal) x w i W = fun _ => 1#1) :
    (∀ j, ∃ r : ℝ, x j = r) ∧ ∀ j, ∃ r : ℝ, w j = r := by
  have h0 := congrFun h (fun i => i.elim0)
  have hand : ∀ a b : BitVec 1, IntOp.andi a b = 1#1 → a = 1#1 ∧ b = 1#1 := by decide
  obtain ⟨hx, hw⟩ := hand _ _ h0
  exact ⟨fun j => real_of_abs_lt _ (Host.reduce_andi_all _ _ _ _ _ hx j), fun j => real_of_abs_lt _ (Host.reduce_andi_all _ _ _ _ _ hw j)⟩

/-- With real arguments the scores of a row are reals. -/
theorem srow_real (x : SX.Idx → EReal) (w : SR.Idx → EReal) (hx : ∀ j, ∃ r : ℝ, x j = r) (hw : ∀ j, ∃ r : ℝ, w j = r) (t : Fin 2048) :
    ∃ s : Fin 32 → ℝ, srow x w t = fun e => (s e : EReal) := by
  choose x' hx' using hx
  choose w' hw' using hw
  refine ⟨fun e => ∑ d, x' (ix2 t d) * w' (ix2 d e), funext fun e => ?_⟩
  unfold srow
  rw [coe_sum_real]
  refine Finset.sum_congr rfl fun d _ => ?_
  rw [hx', hw', EReal.coe_mul]

/-! ## The sum over the devices -/

/-- A sum over the 32 experts is the devices' sums over their eight. -/
theorem sum_experts (g : Fin 32 → EReal) :
    ∑ e, g e = ∑ s : Fin 4, ∑ e : Fin 8, g ⟨8 * s.val + e.val, by omega⟩ := by
  rw [← (finProdFinEquiv (m := 4) (n := 8)).sum_comp (fun e => g e), Fintype.sum_prod_type]
  refine Finset.sum_congr rfl fun s _ => Finset.sum_congr rfl fun e _ => congrArg g (Fin.ext ?_)
  show e.val + 8 * s.val = 8 * s.val + e.val
  omega

section
open Cert.KernelIdeal

/-- The devices' partial sums of a row add up to the reference's sum over the experts. -/
theorem sum_part (m : (ℓ : Loc nD τ sig) → Buf (Elt Ideal) ℓ) (x : SX.Idx → EReal) (w : SR.Idx → EReal) (i : SI.Idx → BitVec 32) (W : SW.Idx → EReal)
    (hx : ∀ c, aX m c = x) (hw : ∀ c, aR m c = w) (hi : ∀ c, aI m c = i)
    (hW : ∀ c, aW m c = Layout.block ⟨3, ![8, 1024, 1024]⟩ ⟨3, ![32, 1024, 1024]⟩ 0 4 c W)
    (fx : ∀ j, ∃ r : ℝ, x j = r) (fw : ∀ j, ∃ r : ℝ, w j = r) (t : Fin 2048) (f : Fin 1024) :
    ∑ s : Dev nD, part m s t f = ∑ e, rweight (srow x w t) (irow i t) e * yrow x W t f e := by
  obtain ⟨r, hr⟩ := srow_real x w fx fw t
  rw [sum_experts]
  refine Finset.sum_congr rfl fun s _ => Finset.sum_congr rfl fun e _ => congrArg₂ (· * ·) ?_ ?_
  · rw [hr, ← kweight_eq]
    unfold kw kweight
    rw [hx, hw, hi, hr]
    rfl
  · unfold ky yrow
    rw [hx, hW]
    refine Finset.sum_congr rfl fun d _ => congrArg₂ (· * ·) rfl (congrArg W (funext fun a => Fin.ext ?_))
    match a with
    | 0 => show s.val * 8 + e.val = 8 * s.val + e.val; omega
    | 1 => rfl
    | 2 => rfl

/-- Every row is a row of a piece of a quarter. -/
theorem exists_row (t : Fin 2048) : ∃ (q p : Fin 4) (r : Fin 128), qrow q (prow p r) = t :=
  ⟨⟨t.val / 512, by omega⟩, ⟨t.val % 512 / 128, by omega⟩, ⟨t.val % 128, by omega⟩,
    Fin.ext (by show 512 * (t.val / 512) + (128 * (t.val % 512 / 128) + t.val % 128) = t.val; omega)⟩

/-- The result whose pieces are `outp` holds, at every row and column, the four partial sums. -/
theorem result_at (m : (ℓ : Loc nD τ sig) → Buf (Elt Ideal) ℓ) (c : Dev nD) (v : S2048x1024.Idx → EReal)
    (h : ∀ (q p : Fin 4) (j : S128x1024.Idx), v ((RQP q p).emb j) = (outp m c q p : S128x1024.Idx → EReal) j) (t : Fin 2048) (f : Fin 1024) :
    v (ix2 t f) = ∑ s : Dev nD, part m s t f := by
  obtain ⟨q, p, r, rfl⟩ := exists_row t
  refine Eq.trans (congrArg v (funext fun a => Fin.ext ?_)) ((h q p (ix2 r f)).trans (outp_at m c q p r f))
  match a with
  | 0 => show 512 * q.val + (128 * p.val + r.val) = 512 * q.val + 128 * p.val + 1 * r.val; omega
  | 1 => show f.val = 0 + 1 * f.val; omega

end

/-- `Cert.algebraic_KernelIdeal_ReferenceIdeal_pre_finite_scores_KernelIdeal`: over the extended reals, from finite `x`
    and router weights, with `x`, the router weights and the indices the same on every device and the experts' weights
    cut in four, every device's result ends as the reference's whole result. -/
theorem alg [Cert.Pre_finite_scores_KernelIdeal.Facts] : Cert.algebraic_KernelIdeal_ReferenceIdeal_pre_finite_scores_KernelIdeal := by
  intro m g m' g' hpre hag
  refine ⟨Cert.ReferenceIdeal.Value.res_main_v18 m' 0, ?_, ?_⟩
  · refine (θ_run Cert.KernelIdeal.defs _ _).mono (fun r h c => ?_) (run_main (F := Ideal) m g)
    refine ⟨?_, (h.1 c).1, (h.1 c).2.1, (h.1 c).2.2.1, (h.1 c).2.2.2.1⟩
    have hf := real_of_pre _ _ _ _ (hpre 0)
    rw [(hag 0).1, (hag 0).2.1] at hf
    refine funext fun j => ?_
    obtain ⟨t, f, rfl⟩ : ∃ (t : Fin 2048) (f : Fin 1024), j = ix2 t f := ⟨j 0, j 1, funext fun a => by match a with | 0 => rfl | 1 => rfl⟩
    refine (result_at m c _ (h.1 c).2.2.2.2 t f).trans (Eq.trans ?_ (ref_at m' t f).symm)
    exact sum_part m _ _ _ _ (fun c => (hag c).1) (fun c => (hag c).2.1) (fun c => (hag c).2.2.1) (fun c => (hag c).2.2.2) hf.1 hf.2 t f
  · exact (θ_run Cert.ReferenceIdeal.defs _ _).mono (fun r h => h 0) (Cert.ReferenceIdeal.Value.run (F := Ideal) m' g')

end Cert.MoE

end
-- ==== Proof.lean ====
/-
# The certificate

The claims of `proof.Defs`, put together from the modules under `Proof/`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The claims together: the frames (with and without the precondition), the idealization, and the value. -/
theorem claim : Cert.Claim := ⟨Cert.Kernel.Gen.facts, Cert.KernelIdeal.Gen.facts, Cert.ReferenceIdeal.Gen.facts,
  Cert.MoE.pre_facts, Cert.MoE.pre_facts_ref,
  Cert.MoE.frame_p, Cert.MoE.frame_pi, fun m g _ => Cert.MoE.frame_pi m g trivial,
  Cert.MoE.frame_ri, fun m g _ => Cert.MoE.frame_ri m g trivial, trivial,
  @Cert.MoE.alg Cert.MoE.pre_facts⟩

end Cert.Proof

end
